-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x8x4096x128 : Shape := ⟨4, ![4, 8, 4096, 128]⟩
abbrev S4x8x4096x64 : Shape := ⟨4, ![4, 8, 4096, 64]⟩
abbrev S4x8x64 : Shape := ⟨3, ![4, 8, 64]⟩
abbrev S4x96x4096x128 : Shape := ⟨4, ![4, 96, 4096, 128]⟩
abbrev S128 : Shape := ⟨1, ![128]⟩
abbrev S4x8x64x1 : Shape := ⟨4, ![4, 8, 64, 1]⟩
abbrev S4x8x64x128 : Shape := ⟨4, ![4, 8, 64, 128]⟩
abbrev S1x128 : Shape := ⟨2, ![1, 128]⟩
abbrev S4x4096x1024 : Shape := ⟨3, ![4, 4096, 1024]⟩
abbrev S1x8x1024x128 : Shape := ⟨4, ![1, 8, 1024, 128]⟩
abbrev S1x8x1024x64 : Shape := ⟨4, ![1, 8, 1024, 64]⟩
abbrev S1x8x16x128 : Shape := ⟨4, ![1, 8, 16, 128]⟩
abbrev S1x1024x1024 : Shape := ⟨3, ![1, 1024, 1024]⟩
abbrev S8x128x128 : Shape := ⟨3, ![8, 128, 128]⟩
abbrev S1x128x128 : Shape := ⟨3, ![1, 128, 128]⟩
abbrev S128x128 : Shape := ⟨2, ![128, 128]⟩
abbrev S1x1x64x128 : Shape := ⟨4, ![1, 1, 64, 128]⟩
abbrev S64x128 : Shape := ⟨2, ![64, 128]⟩
abbrev S1x1x64x64 : Shape := ⟨4, ![1, 1, 64, 64]⟩
abbrev S64x64 : Shape := ⟨2, ![64, 64]⟩
abbrev S1x1x1x128 : Shape := ⟨4, ![1, 1, 1, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 12
  | .vmem => 18
  | .smem => 0
  | _ => 0

abbrev bufTy : (tb : Table) → Fin (tcTables nBuf tb) → BufTy
  | .hbm, ⟨0, _⟩ => ⟨S4x8x4096x128, .bf16⟩
  | .hbm, ⟨1, _⟩ => ⟨S4x8x4096x128, .f32⟩
  | .hbm, ⟨2, _⟩ => ⟨S4x8x4096x64, .bf16⟩
  | .hbm, ⟨3, _⟩ => ⟨S4x8x4096x128, .bf16⟩
  | .hbm, ⟨4, _⟩ => ⟨S4x8x4096x128, .bf16⟩
  | .hbm, ⟨5, _⟩ => ⟨S4x8x64, .f32⟩
  | .hbm, ⟨6, _⟩ => ⟨S4x96x4096x128, .f32⟩
  | .hbm, ⟨7, _⟩ => ⟨S128, .f32⟩
  | .hbm, ⟨8, _⟩ => ⟨S4x8x64x1, .f32⟩
  | .hbm, ⟨9, _⟩ => ⟨S4x8x64x128, .f32⟩
  | .hbm, ⟨10, _⟩ => ⟨S1x128, .f32⟩
  | .hbm, ⟨11, _⟩ => ⟨S4x4096x1024, .bf16⟩
  | .local _ .vmem, ⟨0, _⟩ => ⟨S1x8x1024x128, .bf16⟩
  | .local _ .vmem, ⟨1, _⟩ => ⟨S1x8x1024x128, .bf16⟩
  | .local _ .vmem, ⟨2, _⟩ => ⟨S1x8x1024x128, .f32⟩
  | .local _ .vmem, ⟨3, _⟩ => ⟨S1x8x1024x128, .f32⟩
  | .local _ .vmem, ⟨4, _⟩ => ⟨S1x8x1024x64, .bf16⟩
  | .local _ .vmem, ⟨5, _⟩ => ⟨S1x8x1024x64, .bf16⟩
  | .local _ .vmem, ⟨6, _⟩ => ⟨S1x8x1024x128, .bf16⟩
  | .local _ .vmem, ⟨7, _⟩ => ⟨S1x8x1024x128, .bf16⟩
  | .local _ .vmem, ⟨8, _⟩ => ⟨S1x8x1024x128, .bf16⟩
  | .local _ .vmem, ⟨9, _⟩ => ⟨S1x8x1024x128, .bf16⟩
  | .local _ .vmem, ⟨10, _⟩ => ⟨S1x8x16x128, .f32⟩
  | .local _ .vmem, ⟨11, _⟩ => ⟨S1x8x16x128, .f32⟩
  | .local _ .vmem, ⟨12, _⟩ => ⟨S1x8x1024x128, .f32⟩
  | .local _ .vmem, ⟨13, _⟩ => ⟨S1x8x1024x128, .f32⟩
  | .local _ .vmem, ⟨14, _⟩ => ⟨S1x128, .f32⟩
  | .local _ .vmem, ⟨15, _⟩ => ⟨S1x1024x1024, .bf16⟩
  | .local _ .vmem, ⟨16, _⟩ => ⟨S1x1024x1024, .bf16⟩
  | .local _ .vmem, ⟨17, _⟩ => ⟨S8x128x128, .f32⟩
  | _, _ => ⟨S4x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 1, 4], ![false, false, false]⟩

@[reducible] def k0_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  v6
def k0_off1 (k0_t1 : Fin k0_t1_loop.trips) : Fin 4 → Nat :=
  let c0_7 : Index := 0#32
  let c0_8 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v11 : Index := Scalar.indexCast v7
  let c0_9 : Index := 0#32
  ![0, 0, v11.toNat, 0]
def k0_off2 (k0_t1 : Fin k0_t1_loop.trips) : Fin 4 → Nat :=
  let c0_17 : Index := 0#32
  let c0_18 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v24 : Index := Scalar.indexCast v7
  let c0_19 : Index := 0#32
  ![0, 0, v24.toNat, 0]
def k0_off3 (k0_t1 : Fin k0_t1_loop.trips) : Fin 4 → Nat :=
  let c0_21 : Index := 0#32
  let c0_22 : Index := 0#32
  let c0_i32_2 : BitVec 32 := 0#32
  let c1_i32 : BitVec 32 := 1#32
  let arg13 : BitVec 32 := Scf.iv c0_i32_2 c1_i32 k0_t1
  let v29 : Index := Scalar.indexCast arg13
  let c0_23 : Index := 0#32
  ![0, 0, v29.toNat, 0]
def k0_off4 (k0_t1 : Fin k0_t1_loop.trips) : Fin 3 → Nat :=
  let c0_40 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v67 : Index := Scalar.indexCast v7
  let c0_41 : Index := 0#32
  ![0, v67.toNat, 0]
def k0_off5 (k0_t1 : Fin k0_t1_loop.trips) : Fin 4 → Nat :=
  let c0_44 : Index := 0#32
  let c1_45 : Index := 1#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v74 : Index := Scalar.indexCast v7
  let c0_46 : Index := 0#32
  ![0, 1, v74.toNat, 0]
def k0_off6 (k0_t1 : Fin k0_t1_loop.trips) : Fin 4 → Nat :=
  let c0_55 : Index := 0#32
  let c1_56 : Index := 1#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v87 : Index := Scalar.indexCast v7
  let c0_57 : Index := 0#32
  ![0, 1, v87.toNat, 0]
def k0_off7 (k0_t1 : Fin k0_t1_loop.trips) : Fin 4 → Nat :=
  let c0_59 : Index := 0#32
  let c1_60 : Index := 1#32
  let c0_i32_2 : BitVec 32 := 0#32
  let c1_i32 : BitVec 32 := 1#32
  let arg13 : BitVec 32 := Scf.iv c0_i32_2 c1_i32 k0_t1
  let v92 : Index := Scalar.indexCast arg13
  let c0_61 : Index := 0#32
  ![0, 1, v92.toNat, 0]
def k0_off8 (k0_t1 : Fin k0_t1_loop.trips) : Fin 3 → Nat :=
  let c0_78 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v130 : Index := Scalar.indexCast v7
  let c128 : Index := 128#32
  ![0, v130.toNat, 128]
def k0_off9 (k0_t1 : Fin k0_t1_loop.trips) : Fin 4 → Nat :=
  let c0_81 : Index := 0#32
  let c2_82 : Index := 2#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v137 : Index := Scalar.indexCast v7
  let c0_83 : Index := 0#32
  ![0, 2, v137.toNat, 0]
def k0_off10 (k0_t1 : Fin k0_t1_loop.trips) : Fin 4 → Nat :=
  let c0_92 : Index := 0#32
  let c2_93 : Index := 2#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v150 : Index := Scalar.indexCast v7
  let c0_94 : Index := 0#32
  ![0, 2, v150.toNat, 0]
def k0_off11 (k0_t1 : Fin k0_t1_loop.trips) : Fin 4 → Nat :=
  let c0_96 : Index := 0#32
  let c2_97 : Index := 2#32
  let c0_i32_2 : BitVec 32 := 0#32
  let c1_i32 : BitVec 32 := 1#32
  let arg13 : BitVec 32 := Scf.iv c0_i32_2 c1_i32 k0_t1
  let v155 : Index := Scalar.indexCast arg13
  let c0_98 : Index := 0#32
  ![0, 2, v155.toNat, 0]
def k0_off12 (k0_t1 : Fin k0_t1_loop.trips) : Fin 3 → Nat :=
  let c0_115 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v193 : Index := Scalar.indexCast v7
  let c256 : Index := 256#32
  ![0, v193.toNat, 256]
def k0_off13 (k0_t1 : Fin k0_t1_loop.trips) : Fin 4 → Nat :=
  let c0_118 : Index := 0#32
  let c3_119 : Index := 3#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v200 : Index := Scalar.indexCast v7
  let c0_120 : Index := 0#32
  ![0, 3, v200.toNat, 0]
def k0_off14 (k0_t1 : Fin k0_t1_loop.trips) : Fin 4 → Nat :=
  let c0_129 : Index := 0#32
  let c3_130 : Index := 3#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v213 : Index := Scalar.indexCast v7
  let c0_131 : Index := 0#32
  ![0, 3, v213.toNat, 0]
def k0_off15 (k0_t1 : Fin k0_t1_loop.trips) : Fin 4 → Nat :=
  let c0_133 : Index := 0#32
  let c3_134 : Index := 3#32
  let c0_i32_2 : BitVec 32 := 0#32
  let c1_i32 : BitVec 32 := 1#32
  let arg13 : BitVec 32 := Scf.iv c0_i32_2 c1_i32 k0_t1
  let v218 : Index := Scalar.indexCast arg13
  let c0_135 : Index := 0#32
  ![0, 3, v218.toNat, 0]
def k0_off16 (k0_t1 : Fin k0_t1_loop.trips) : Fin 3 → Nat :=
  let c0_152 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v256 : Index := Scalar.indexCast v7
  let c384 : Index := 384#32
  ![0, v256.toNat, 384]
def k0_off17 (k0_t1 : Fin k0_t1_loop.trips) : Fin 4 → Nat :=
  let c0_155 : Index := 0#32
  let c4_156 : Index := 4#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v263 : Index := Scalar.indexCast v7
  let c0_157 : Index := 0#32
  ![0, 4, v263.toNat, 0]
def k0_off18 (k0_t1 : Fin k0_t1_loop.trips) : Fin 4 → Nat :=
  let c0_166 : Index := 0#32
  let c4_167 : Index := 4#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v276 : Index := Scalar.indexCast v7
  let c0_168 : Index := 0#32
  ![0, 4, v276.toNat, 0]
def k0_off19 (k0_t1 : Fin k0_t1_loop.trips) : Fin 4 → Nat :=
  let c0_170 : Index := 0#32
  let c4_171 : Index := 4#32
  let c0_i32_2 : BitVec 32 := 0#32
  let c1_i32 : BitVec 32 := 1#32
  let arg13 : BitVec 32 := Scf.iv c0_i32_2 c1_i32 k0_t1
  let v281 : Index := Scalar.indexCast arg13
  let c0_172 : Index := 0#32
  ![0, 4, v281.toNat, 0]
def k0_off20 (k0_t1 : Fin k0_t1_loop.trips) : Fin 3 → Nat :=
  let c0_189 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v319 : Index := Scalar.indexCast v7
  let c512 : Index := 512#32
  ![0, v319.toNat, 512]
def k0_off21 (k0_t1 : Fin k0_t1_loop.trips) : Fin 4 → Nat :=
  let c0_192 : Index := 0#32
  let c5_193 : Index := 5#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v326 : Index := Scalar.indexCast v7
  let c0_194 : Index := 0#32
  ![0, 5, v326.toNat, 0]
def k0_off22 (k0_t1 : Fin k0_t1_loop.trips) : Fin 4 → Nat :=
  let c0_203 : Index := 0#32
  let c5_204 : Index := 5#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v339 : Index := Scalar.indexCast v7
  let c0_205 : Index := 0#32
  ![0, 5, v339.toNat, 0]
def k0_off23 (k0_t1 : Fin k0_t1_loop.trips) : Fin 4 → Nat :=
  let c0_207 : Index := 0#32
  let c5_208 : Index := 5#32
  let c0_i32_2 : BitVec 32 := 0#32
  let c1_i32 : BitVec 32 := 1#32
  let arg13 : BitVec 32 := Scf.iv c0_i32_2 c1_i32 k0_t1
  let v344 : Index := Scalar.indexCast arg13
  let c0_209 : Index := 0#32
  ![0, 5, v344.toNat, 0]
def k0_off24 (k0_t1 : Fin k0_t1_loop.trips) : Fin 3 → Nat :=
  let c0_226 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v382 : Index := Scalar.indexCast v7
  let c640 : Index := 640#32
  ![0, v382.toNat, 640]
def k0_off25 (k0_t1 : Fin k0_t1_loop.trips) : Fin 4 → Nat :=
  let c0_229 : Index := 0#32
  let c6_230 : Index := 6#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v389 : Index := Scalar.indexCast v7
  let c0_231 : Index := 0#32
  ![0, 6, v389.toNat, 0]
def k0_off26 (k0_t1 : Fin k0_t1_loop.trips) : Fin 4 → Nat :=
  let c0_240 : Index := 0#32
  let c6_241 : Index := 6#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v402 : Index := Scalar.indexCast v7
  let c0_242 : Index := 0#32
  ![0, 6, v402.toNat, 0]
def k0_off27 (k0_t1 : Fin k0_t1_loop.trips) : Fin 4 → Nat :=
  let c0_244 : Index := 0#32
  let c6_245 : Index := 6#32
  let c0_i32_2 : BitVec 32 := 0#32
  let c1_i32 : BitVec 32 := 1#32
  let arg13 : BitVec 32 := Scf.iv c0_i32_2 c1_i32 k0_t1
  let v407 : Index := Scalar.indexCast arg13
  let c0_246 : Index := 0#32
  ![0, 6, v407.toNat, 0]
def k0_off28 (k0_t1 : Fin k0_t1_loop.trips) : Fin 3 → Nat :=
  let c0_263 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v445 : Index := Scalar.indexCast v7
  let c768 : Index := 768#32
  ![0, v445.toNat, 768]
def k0_off29 (k0_t1 : Fin k0_t1_loop.trips) : Fin 4 → Nat :=
  let c0_266 : Index := 0#32
  let c7_267 : Index := 7#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v452 : Index := Scalar.indexCast v7
  let c0_268 : Index := 0#32
  ![0, 7, v452.toNat, 0]
def k0_off30 (k0_t1 : Fin k0_t1_loop.trips) : Fin 4 → Nat :=
  let c0_277 : Index := 0#32
  let c7_278 : Index := 7#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v465 : Index := Scalar.indexCast v7
  let c0_279 : Index := 0#32
  ![0, 7, v465.toNat, 0]
def k0_off31 (k0_t1 : Fin k0_t1_loop.trips) : Fin 4 → Nat :=
  let c0_281 : Index := 0#32
  let c7_282 : Index := 7#32
  let c0_i32_2 : BitVec 32 := 0#32
  let c1_i32 : BitVec 32 := 1#32
  let arg13 : BitVec 32 := Scf.iv c0_i32_2 c1_i32 k0_t1
  let v470 : Index := Scalar.indexCast arg13
  let c0_283 : Index := 0#32
  ![0, 7, v470.toNat, 0]
def k0_off32 (k0_t1 : Fin k0_t1_loop.trips) : Fin 3 → Nat :=
  let c0_300 : Index := 0#32
  let c0_i32_2 : BitVec 32 := 0#32
  let c1_i32 : BitVec 32 := 1#32
  let arg13 : BitVec 32 := Scf.iv c0_i32_2 c1_i32 k0_t1
  let c64_i32 : BitVec 32 := 64#32
  let v6 : BitVec 32 := Scalar.muli arg13 c64_i32
  let v7 : BitVec 32 := v6
  let v508 : Index := Scalar.indexCast v7
  let c896 : Index := 896#32
  ![0, v508.toNat, 896]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![arg0.toNat, v0.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4x8x4096x128 : Shape := ⟨4, ![4, 8, 4096, 128]⟩
abbrev S4x8x4096x64 : Shape := ⟨4, ![4, 8, 4096, 64]⟩
abbrev S4x8x64 : Shape := ⟨3, ![4, 8, 64]⟩
abbrev S4x96x4096x128 : Shape := ⟨4, ![4, 96, 4096, 128]⟩
abbrev S128 : Shape := ⟨1, ![128]⟩
abbrev S_ : Shape := ⟨0, ![]⟩
abbrev S4x8x128x128 : Shape := ⟨4, ![4, 8, 128, 128]⟩
abbrev S64x4x8 : Shape := ⟨3, ![64, 4, 8]⟩
abbrev S4x8x64x64x128 : Shape := ⟨5, ![4, 8, 64, 64, 128]⟩
abbrev S64x4x8x64x128 : Shape := ⟨5, ![64, 4, 8, 64, 128]⟩
abbrev S4x8x64x64x64 : Shape := ⟨5, ![4, 8, 64, 64, 64]⟩
abbrev S64x4x8x64x64 : Shape := ⟨5, ![64, 4, 8, 64, 64]⟩
abbrev S1x4x8x64x128 : Shape := ⟨5, ![1, 4, 8, 64, 128]⟩
abbrev S4x8x64x128 : Shape := ⟨4, ![4, 8, 64, 128]⟩
abbrev S1x4x8x64x64 : Shape := ⟨5, ![1, 4, 8, 64, 64]⟩
abbrev S4x8x64x64 : Shape := ⟨4, ![4, 8, 64, 64]⟩
abbrev S1x4x8 : Shape := ⟨3, ![1, 4, 8]⟩
abbrev S4x8 : Shape := ⟨2, ![4, 8]⟩
abbrev S4x8x1x1 : Shape := ⟨4, ![4, 8, 1, 1]⟩
abbrev S64x4x64x8x128 : Shape := ⟨5, ![64, 4, 64, 8, 128]⟩
abbrev S4x64x64x8x128 : Shape := ⟨5, ![4, 64, 64, 8, 128]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x1024 : Shape := ⟨3, ![4, 4096, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4x8x4096x128, .bf16⟩
  | .hbm, ⟨1, _⟩ => ⟨S4x8x4096x128, .f32⟩
  | .hbm, ⟨2, _⟩ => ⟨S4x8x4096x64, .bf16⟩
  | .hbm, ⟨3, _⟩ => ⟨S4x8x4096x128, .bf16⟩
  | .hbm, ⟨4, _⟩ => ⟨S4x8x4096x128, .bf16⟩
  | .hbm, ⟨5, _⟩ => ⟨S4x8x64, .f32⟩
  | .hbm, ⟨6, _⟩ => ⟨S4x96x4096x128, .f32⟩
  | .hbm, ⟨7, _⟩ => ⟨S128, .f32⟩
  | .hbm, ⟨8, _⟩ => ⟨S_, .f32⟩
  | .hbm, ⟨9, _⟩ => ⟨S4x8x128x128, .f32⟩
  | .hbm, ⟨10, _⟩ => ⟨S64x4x8, .f32⟩
  | .hbm, ⟨11, _⟩ => ⟨S4x8x4096x128, .f32⟩
  | .hbm, ⟨12, _⟩ => ⟨S4x8x64x64x128, .f32⟩
  | .hbm, ⟨13, _⟩ => ⟨S64x4x8x64x128, .f32⟩
  | .hbm, ⟨14, _⟩ => ⟨S4x8x64x64x128, .f32⟩
  | .hbm, ⟨15, _⟩ => ⟨S64x4x8x64x128, .f32⟩
  | .hbm, ⟨16, _⟩ => ⟨S4x8x4096x64, .f32⟩
  | .hbm, ⟨17, _⟩ => ⟨S4x8x64x64x64, .f32⟩
  | .hbm, ⟨18, _⟩ => ⟨S64x4x8x64x64, .f32⟩
  | .hbm, ⟨19, _⟩ => ⟨S4x8x4096x128, .f32⟩
  | .hbm, ⟨20, _⟩ => ⟨S4x8x64x64x128, .f32⟩
  | .hbm, ⟨21, _⟩ => ⟨S64x4x8x64x128, .f32⟩
  | .hbm, ⟨22, _⟩ => ⟨S4x8x4096x128, .f32⟩
  | .hbm, ⟨23, _⟩ => ⟨S4x8x64x64x128, .f32⟩
  | .hbm, ⟨24, _⟩ => ⟨S64x4x8x64x128, .f32⟩
  | .hbm, ⟨25, _⟩ => ⟨S_, .f32⟩
  | .hbm, ⟨26, _⟩ => ⟨S64x4x8x64x128, .f32⟩
  | .hbm, ⟨27, _⟩ => ⟨S_, .i32⟩
  | .hbm, ⟨28, _⟩ => ⟨S64x4x8x64x128, .f32⟩
  | .hbm, ⟨29, _⟩ => ⟨S64x4x8x64x128, .f32⟩
  | .hbm, ⟨30, _⟩ => ⟨S64x4x8x64x64, .f32⟩
  | .hbm, ⟨31, _⟩ => ⟨S64x4x8x64x128, .f32⟩
  | .hbm, ⟨32, _⟩ => ⟨S64x4x8x64x128, .f32⟩
  | .hbm, ⟨33, _⟩ => ⟨S64x4x8, .f32⟩
  | .hbm, ⟨34, _⟩ => ⟨S_, .i32⟩
  | .hbm, ⟨35, _⟩ => ⟨S4x8x128x128, .f32⟩
  | .hbm, ⟨36, _⟩ => ⟨S64x4x8x64x128, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x8x64x128, .f32⟩
  | .hbm, ⟨44, _⟩ => ⟨S4x8x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x8x64x128, .f32⟩
  | .hbm, ⟨50, _⟩ => ⟨S4x8x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x4x8x64x64, .f32⟩
  | .hbm, ⟨56, _⟩ => ⟨S4x8x64x64, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x4x8x64x128, .f32⟩
  | .hbm, ⟨62, _⟩ => ⟨S4x8x64x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x4x8x64x128, .f32⟩
  | .hbm, ⟨68, _⟩ => ⟨S4x8x64x128, .f32⟩
  | .hbm, ⟨69, _⟩ => ⟨S_, .i32⟩
  | .hbm, ⟨70, _⟩ => ⟨S_, .i32⟩
  | .hbm, ⟨71, _⟩ => ⟨S1x4x8, .f32⟩
  | .hbm, ⟨72, _⟩ => ⟨S4x8, .f32⟩
  | .hbm, ⟨73, _⟩ => ⟨S4x8x64x128, .f32⟩
  | .hbm, ⟨74, _⟩ => ⟨S4x8x64x128, .f32⟩
  | .hbm, ⟨75, _⟩ => ⟨S4x8x64x128, .f32⟩
  | .hbm, ⟨76, _⟩ => ⟨S4x8x64x128, .f32⟩
  | .hbm, ⟨77, _⟩ => ⟨S4x8x64x128, .f32⟩
  | .hbm, ⟨78, _⟩ => ⟨S4x8x1x1, .f32⟩
  | .hbm, ⟨79, _⟩ => ⟨S4x8x128x128, .f32⟩
  | .hbm, ⟨80, _⟩ => ⟨S4x8x128x128, .f32⟩
  | .hbm, ⟨81, _⟩ => ⟨S4x8x128x128, .f32⟩
  | .hbm, ⟨82, _⟩ => ⟨S4x8x128x128, .f32⟩
  | .hbm, ⟨83, _⟩ => ⟨S1x4x8x64x128, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S64x4x8x64x128, .f32⟩
  | .hbm, ⟨89, _⟩ => ⟨S_, .i32⟩
  | .hbm, ⟨90, _⟩ => ⟨S_, .i32⟩
  | .hbm, ⟨91, _⟩ => ⟨S64x4x64x8x128, .f32⟩
  | .hbm, ⟨92, _⟩ => ⟨S4x64x64x8x128, .f32⟩
  | .hbm, ⟨93, _⟩ => ⟨S4x4096x8x128, .f32⟩
  | .hbm, ⟨94, _⟩ => ⟨S4x8x4096x128, .f32⟩
  | .hbm, ⟨95, _⟩ => ⟨S4x4096x8x128, .f32⟩
  | .hbm, ⟨96, _⟩ => ⟨S4x4096x8x128, .f32⟩
  | .hbm, ⟨97, _⟩ => ⟨S_, .f32⟩
  | .hbm, ⟨98, _⟩ => ⟨S4x4096x8, .f32⟩
  | .hbm, ⟨99, _⟩ => ⟨S4x4096x8x1, .f32⟩
  | .hbm, ⟨100, _⟩ => ⟨S_, .f32⟩
  | .hbm, ⟨101, _⟩ => ⟨S4x4096x8x1, .f32⟩
  | .hbm, ⟨102, _⟩ => ⟨S4x4096x8x1, .f32⟩
  | .hbm, ⟨103, _⟩ => ⟨S_, .f32⟩
  | .hbm, ⟨104, _⟩ => ⟨S4x4096x8x1, .f32⟩
  | .hbm, ⟨105, _⟩ => ⟨S4x4096x8x1, .f32⟩
  | .hbm, ⟨106, _⟩ => ⟨S4x4096x8x1, .f32⟩
  | .hbm, ⟨107, _⟩ => ⟨S4x4096x8x128, .f32⟩
  | .hbm, ⟨108, _⟩ => ⟨S4x4096x8x128, .f32⟩
  | .hbm, ⟨109, _⟩ => ⟨S1x1x1x128, .f32⟩
  | .hbm, ⟨110, _⟩ => ⟨S4x4096x8x128, .f32⟩
  | .hbm, ⟨111, _⟩ => ⟨S4x4096x8x128, .f32⟩
  | .hbm, ⟨112, _⟩ => ⟨S4x4096x8x128, .f32⟩
  | .hbm, ⟨113, _⟩ => ⟨S4x4096x8x128, .f32⟩
  | .hbm, ⟨114, _⟩ => ⟨S_, .f32⟩
  | .hbm, ⟨115, _⟩ => ⟨S4x4096x8x128, .f32⟩
  | .hbm, ⟨116, _⟩ => ⟨S4x4096x8x128, .f32⟩
  | .hbm, ⟨117, _⟩ => ⟨S_, .f32⟩
  | .hbm, ⟨118, _⟩ => ⟨S4x4096x8x128, .f32⟩
  | .hbm, ⟨119, _⟩ => ⟨S4x4096x8x128, .f32⟩
  | .hbm, ⟨120, _⟩ => ⟨S4x4096x8x128, .f32⟩
  | .hbm, ⟨121, _⟩ => ⟨S4x4096x8x128, .f32⟩
  | .hbm, ⟨122, _⟩ => ⟨S4x4096x1024, .f32⟩
  | .hbm, ⟨123, _⟩ => ⟨S4x4096x1024, .bf16⟩
  | _, _ => ⟨S4x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_c : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev main_v17_7 : Ref sig .tc := ⟨.hbm, 35, rfl⟩
abbrev main_v17_8 : Ref sig .tc := ⟨.hbm, 36, rfl⟩
abbrev main_while0c_c_12 : Ref sig .tc := ⟨.hbm, 37, rfl⟩
abbrev main_while0c_v40 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_c_2 : Ref sig .tc := ⟨.hbm, 42, rfl⟩
abbrev main_while0b_call0_v0 : Ref sig .tc := ⟨.hbm, 43, rfl⟩
abbrev main_while0b_v40 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v41 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v42 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_call3_v0 : Ref sig .tc := ⟨.hbm, 61, rfl⟩
abbrev main_while0b_v43 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_c_2 : Ref sig .tc := ⟨.hbm, 66, rfl⟩
abbrev main_while0b_call4_v0 : Ref sig .tc := ⟨.hbm, 67, rfl⟩
abbrev main_while0b_v44 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_v0 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_c_2 : Ref sig .tc := ⟨.hbm, 87, rfl⟩
abbrev main_while0b_v56 : Ref sig .tc := ⟨.hbm, 88, rfl⟩
abbrev main_while0b_c_12 : Ref sig .tc := ⟨.hbm, 89, rfl⟩
abbrev main_while0b_v57 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_cst_1 : Ref sig .tc := ⟨.hbm, 97, rfl⟩
abbrev main_v24 : Ref sig .tc := ⟨.hbm, 98, rfl⟩
abbrev main_v25 : Ref sig .tc := ⟨.hbm, 99, rfl⟩
abbrev main_cst_2 : Ref sig .tc := ⟨.hbm, 100, rfl⟩
abbrev main_v26 : Ref sig .tc := ⟨.hbm, 101, rfl⟩
abbrev main_v27 : Ref sig .tc := ⟨.hbm, 102, rfl⟩
abbrev main_cst_3 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_call7_v0 : Ref sig .tc := ⟨.hbm, 112, rfl⟩
abbrev main_call7_v1 : Ref sig .tc := ⟨.hbm, 113, rfl⟩
abbrev main_call7_cst : Ref sig .tc := ⟨.hbm, 114, rfl⟩
abbrev main_call7_v2 : Ref sig .tc := ⟨.hbm, 115, rfl⟩
abbrev main_call7_v3 : Ref sig .tc := ⟨.hbm, 116, rfl⟩
abbrev main_call7_cst_0 : Ref sig .tc := ⟨.hbm, 117, rfl⟩
abbrev main_call7_v4 : Ref sig .tc := ⟨.hbm, 118, rfl⟩
abbrev main_call7_v5 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x2048 : Shape := ⟨3, ![4, 4096, 2048]⟩
abbrev S2048 : Shape := ⟨1, ![2048]⟩
abbrev S4x2048 : Shape := ⟨2, ![4, 2048]⟩
abbrev S2048x11840 : Shape := ⟨2, ![2048, 11840]⟩
abbrev S2048x4096 : Shape := ⟨2, ![2048, 4096]⟩
abbrev S2048x3584 : Shape := ⟨2, ![2048, 3584]⟩
abbrev S2048x16 : Shape := ⟨2, ![2048, 16]⟩
abbrev S_ : Shape := ⟨0, ![]⟩
abbrev S2048x112 : Shape := ⟨2, ![2048, 112]⟩
abbrev S2048x24 : Shape := ⟨2, ![2048, 24]⟩
abbrev S2048x104 : Shape := ⟨2, ![2048, 104]⟩
abbrev S2048x128 : Shape := ⟨2, ![2048, 128]⟩
abbrev S2048x12288 : Shape := ⟨2, ![2048, 12288]⟩
abbrev S1x2048 : Shape := ⟨2, ![1, 2048]⟩
abbrev S4x1x2048 : Shape := ⟨3, ![4, 1, 2048]⟩
abbrev S4x96x4096x128 : Shape := ⟨4, ![4, 96, 4096, 128]⟩
abbrev S1x1024x2048 : Shape := ⟨3, ![1, 1024, 2048]⟩
abbrev S1x1x2048 : Shape := ⟨3, ![1, 1, 2048]⟩
abbrev S2048x1024 : Shape := ⟨2, ![2048, 1024]⟩
abbrev S1x8x1024x128 : Shape := ⟨4, ![1, 8, 1024, 128]⟩
abbrev S1024x2048 : Shape := ⟨2, ![1024, 2048]⟩
abbrev S1024 : Shape := ⟨1, ![1024]⟩
abbrev S1024x1 : Shape := ⟨2, ![1024, 1]⟩
abbrev S1024x1024 : Shape := ⟨2, ![1024, 1024]⟩
abbrev S1024x128 : Shape := ⟨2, ![1024, 128]⟩
abbrev S1x1x1024x128 : Shape := ⟨4, ![1, 1, 1024, 128]⟩

abbrev nBuf : Space → Nat
  | .hbm => 25
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x11840, .f32⟩
  | .hbm, ⟨5, _⟩ => ⟨S2048x4096, .f32⟩
  | .hbm, ⟨6, _⟩ => ⟨S2048x3584, .f32⟩
  | .hbm, ⟨7, _⟩ => ⟨S2048x4096, .f32⟩
  | .hbm, ⟨8, _⟩ => ⟨S2048x16, .f32⟩
  | .hbm, ⟨9, _⟩ => ⟨S_, .f32⟩
  | .hbm, ⟨10, _⟩ => ⟨S2048x112, .f32⟩
  | .hbm, ⟨11, _⟩ => ⟨S2048x24, .f32⟩
  | .hbm, ⟨12, _⟩ => ⟨S_, .f32⟩
  | .hbm, ⟨13, _⟩ => ⟨S2048x104, .f32⟩
  | .hbm, ⟨14, _⟩ => ⟨S2048x24, .f32⟩
  | .hbm, ⟨15, _⟩ => ⟨S_, .f32⟩
  | .hbm, ⟨16, _⟩ => ⟨S2048x104, .f32⟩
  | .hbm, ⟨17, _⟩ => ⟨S_, .f32⟩
  | .hbm, ⟨18, _⟩ => ⟨S2048x128, .f32⟩
  | .hbm, ⟨19, _⟩ => ⟨S2048x12288, .f32⟩
  | .hbm, ⟨20, _⟩ => ⟨S2048x12288, .bf16⟩
  | .hbm, ⟨21, _⟩ => ⟨S1x2048, .f32⟩
  | .hbm, ⟨22, _⟩ => ⟨S4x1x2048, .f32⟩
  | .hbm, ⟨23, _⟩ => ⟨S4x1x2048, .f32⟩
  | .hbm, ⟨24, _⟩ => ⟨S4x96x4096x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x8x1024x128, .f32⟩
  | .local _ .vmem, ⟨10, _⟩ => ⟨S1x8x1024x128, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x8x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x4096x2048 : Shape := ⟨3, ![4, 4096, 2048]⟩
abbrev S2048 : Shape := ⟨1, ![2048]⟩
abbrev S4x2048 : Shape := ⟨2, ![4, 2048]⟩
abbrev S2048x11840 : Shape := ⟨2, ![2048, 11840]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x11840 : Shape := ⟨3, ![4, 4096, 11840]⟩
abbrev S4x4096x1024 : Shape := ⟨3, ![4, 4096, 1024]⟩
abbrev S4x4096x8 : Shape := ⟨3, ![4, 4096, 8]⟩
abbrev S4x4096x256 : Shape := ⟨3, ![4, 4096, 256]⟩
abbrev S4x4096x48 : Shape := ⟨3, ![4, 4096, 48]⟩
abbrev S4x4096x112 : Shape := ⟨3, ![4, 4096, 112]⟩
abbrev S4x4096x24 : Shape := ⟨3, ![4, 4096, 24]⟩
abbrev S4x4096x104 : Shape := ⟨3, ![4, 4096, 104]⟩
abbrev S4x4096x128 : Shape := ⟨3, ![4, 4096, 128]⟩
abbrev S4x4096x11904 : Shape := ⟨3, ![4, 4096, 11904]⟩
abbrev S4x4096x384 : Shape := ⟨3, ![4, 4096, 384]⟩
abbrev S4x4096x12288 : Shape := ⟨3, ![4, 4096, 12288]⟩
abbrev S4x4096x96x128 : Shape := ⟨4, ![4, 4096, 96, 128]⟩
abbrev S4x96x4096x128 : Shape := ⟨4, ![4, 96, 4096, 128]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x11840, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x11840, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x8, .f32⟩
  | .hbm, ⟨36, _⟩ => ⟨S4x4096x8, .f32⟩
  | .hbm, ⟨37, _⟩ => ⟨S4x4096x2048, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S4x4096x48, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x4096x112, .f32⟩
  | .hbm, ⟨49, _⟩ => ⟨S4x4096x24, .f32⟩
  | .hbm, ⟨50, _⟩ => ⟨S_, .f32⟩
  | .hbm, ⟨51, _⟩ => ⟨S4x4096x104, .f32⟩
  | .hbm, ⟨52, _⟩ => ⟨S4x4096x24, .f32⟩
  | .hbm, ⟨53, _⟩ => ⟨S_, .f32⟩
  | .hbm, ⟨54, _⟩ => ⟨S4x4096x104, .f32⟩
  | .hbm, ⟨55, _⟩ => ⟨S_, .f32⟩
  | .hbm, ⟨56, _⟩ => ⟨S4x4096x128, .f32⟩
  | .hbm, ⟨57, _⟩ => ⟨S4x4096x11904, .f32⟩
  | .hbm, ⟨58, _⟩ => ⟨S4x4096x384, .f32⟩
  | .hbm, ⟨59, _⟩ => ⟨S4x4096x12288, .f32⟩
  | .hbm, ⟨60, _⟩ => ⟨S4x4096x96x128, .f32⟩
  | .hbm, ⟨61, _⟩ => ⟨S4x96x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x2048 : Shape := ⟨3, ![4, 4096, 2048]⟩
abbrev S1024x2048 : Shape := ⟨2, ![1024, 2048]⟩
abbrev S2048x2048 : Shape := ⟨2, ![2048, 2048]⟩
abbrev S4x96x4096x128 : Shape := ⟨4, ![4, 96, 4096, 128]⟩
abbrev S1x1024x1024 : Shape := ⟨3, ![1, 1024, 1024]⟩
abbrev S1x1024x2048 : Shape := ⟨3, ![1, 1024, 2048]⟩
abbrev S1024x512 : Shape := ⟨2, ![1024, 512]⟩
abbrev S2048x512 : Shape := ⟨2, ![2048, 512]⟩
abbrev S1x4x1024x128 : Shape := ⟨4, ![1, 4, 1024, 128]⟩
abbrev S1x1024x512 : Shape := ⟨3, ![1, 1024, 512]⟩
abbrev S1024x1024 : Shape := ⟨2, ![1024, 1024]⟩
abbrev S1x1x1024x128 : Shape := ⟨4, ![1, 1, 1024, 128]⟩
abbrev S1024x128 : Shape := ⟨2, ![1024, 128]⟩
abbrev S1x1024x128 : Shape := ⟨3, ![1, 1024, 128]⟩

abbrev nBuf : Space → Nat
  | .hbm => 8
  | .vmem => 14
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x2048, .bf16⟩
  | .hbm, ⟨2, _⟩ => ⟨S1024x2048, .f32⟩
  | .hbm, ⟨3, _⟩ => ⟨S2048x2048, .f32⟩
  | .hbm, ⟨4, _⟩ => ⟨S4x96x4096x128, .f32⟩
  | .hbm, ⟨5, _⟩ => ⟨S1024x2048, .bf16⟩
  | .hbm, ⟨6, _⟩ => ⟨S2048x2048, .bf16⟩
  | .hbm, ⟨7, _⟩ => ⟨S4x4096x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1x4x1024x128, .f32⟩
  | .local _ .vmem, ⟨9, _⟩ => ⟨S1x4x1024x128, .f32⟩
  | .local _ .vmem, ⟨10, _⟩ => ⟨S1x4x1024x128, .f32⟩
  | .local _ .vmem, ⟨11, _⟩ => ⟨S1x4x1024x128, .f32⟩
  | .local _ .vmem, ⟨12, _⟩ => ⟨S1x1024x512, .bf16⟩
  | .local _ .vmem, ⟨13, _⟩ => ⟨S1x1024x512, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg2
  let c0_i32 : BitVec 32 := 0#32
  let c0_i32_0 : BitVec 32 := 0#32
  ![arg0.toNat, v0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c19_i32 : BitVec 32 := 19#32
  let v0 : BitVec 32 := Scalar.addi c19_i32 arg2
  let c0_i32 : BitVec 32 := 0#32
  let c0_i32_0 : BitVec 32 := 0#32
  ![arg0.toNat, v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S4x4096x1024 : Shape := ⟨3, ![4, 4096, 1024]⟩
abbrev S4x4096x2048 : Shape := ⟨3, ![4, 4096, 2048]⟩
abbrev S1024x2048 : Shape := ⟨2, ![1024, 2048]⟩
abbrev S2048x2048 : Shape := ⟨2, ![2048, 2048]⟩
abbrev S4x96x4096x128 : Shape := ⟨4, ![4, 96, 4096, 128]⟩
abbrev S4x16x4096x128 : Shape := ⟨4, ![4, 16, 4096, 128]⟩
abbrev S4x4096x16x128 : Shape := ⟨4, ![4, 4096, 16, 128]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x2048, .bf16⟩
  | .hbm, ⟨2, _⟩ => ⟨S1024x2048, .f32⟩
  | .hbm, ⟨3, _⟩ => ⟨S2048x2048, .f32⟩
  | .hbm, ⟨4, _⟩ => ⟨S4x96x4096x128, .f32⟩
  | .hbm, ⟨5, _⟩ => ⟨S4x16x4096x128, .f32⟩
  | .hbm, ⟨6, _⟩ => ⟨S4x4096x16x128, .f32⟩
  | .hbm, ⟨7, _⟩ => ⟨S4x4096x2048, .f32⟩
  | .hbm, ⟨8, _⟩ => ⟨S4x16x4096x128, .f32⟩
  | .hbm, ⟨9, _⟩ => ⟨S4x4096x16x128, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S4x4096x1024, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S4x2048 : Shape := ⟨2, ![4, 2048]⟩
abbrev S4x1x2048 : Shape := ⟨3, ![4, 1, 2048]⟩
abbrev S1x1024x2048 : Shape := ⟨3, ![1, 1024, 2048]⟩
abbrev S2048x512 : Shape := ⟨2, ![2048, 512]⟩
abbrev S1x1024x512 : Shape := ⟨3, ![1, 1024, 512]⟩
abbrev S1x1x512 : Shape := ⟨3, ![1, 1, 512]⟩
abbrev S1024x512 : Shape := ⟨2, ![1024, 512]⟩
abbrev S1x512 : Shape := ⟨2, ![1, 512]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S4x4096x2048, .f32⟩
  | .hbm, ⟨3, _⟩ => ⟨S4x2048, .f32⟩
  | .hbm, ⟨4, _⟩ => ⟨S2048x2048, .bf16⟩
  | .hbm, ⟨5, _⟩ => ⟨S4x1x2048, .f32⟩
  | .hbm, ⟨6, _⟩ => ⟨S4x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S4x4096x2048 : Shape := ⟨3, ![4, 4096, 2048]⟩
abbrev S2048x2048 : Shape := ⟨2, ![2048, 2048]⟩
abbrev S4x2048 : Shape := ⟨2, ![4, 2048]⟩
abbrev S4x1x2048 : Shape := ⟨3, ![4, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S4x4096x2048, .f32⟩
  | .hbm, ⟨3, _⟩ => ⟨S4x2048, .f32⟩
  | .hbm, ⟨4, _⟩ => ⟨S4x1x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4x4096x2048 : Shape := ⟨3, ![4, 4096, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x2048, .f32⟩
  | .hbm, ⟨3, _⟩ => ⟨S2048, .f32⟩
  | .hbm, ⟨4, _⟩ => ⟨S4x1x2048, .f32⟩
  | .hbm, ⟨5, _⟩ => ⟨S1x2048, .f32⟩
  | .hbm, ⟨6, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x512x2048, .f32⟩
  | .local _ .vmem, ⟨8, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x4096x2048 : Shape := ⟨3, ![4, 4096, 2048]⟩
abbrev S4x2048 : Shape := ⟨2, ![4, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x2048, .f32⟩
  | .hbm, ⟨3, _⟩ => ⟨S2048, .f32⟩
  | .hbm, ⟨4, _⟩ => ⟨S4x1x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S4x4096x2048 : Shape := ⟨3, ![4, 4096, 2048]⟩
abbrev S2048 : Shape := ⟨1, ![2048]⟩
abbrev S4x2048 : Shape := ⟨2, ![4, 2048]⟩
abbrev S2048x2048 : Shape := ⟨2, ![2048, 2048]⟩
abbrev S1x2048 : Shape := ⟨2, ![1, 2048]⟩
abbrev S4x1x2048 : Shape := ⟨3, ![4, 1, 2048]⟩
abbrev S4x16x4096x128 : Shape := ⟨4, ![4, 16, 4096, 128]⟩
abbrev S1x1024x2048 : Shape := ⟨3, ![1, 1024, 2048]⟩
abbrev S1x1x2048 : Shape := ⟨3, ![1, 1, 2048]⟩
abbrev S2048x512 : Shape := ⟨2, ![2048, 512]⟩
abbrev S1x4x1024x128 : Shape := ⟨4, ![1, 4, 1024, 128]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x1x1024x128 : Shape := ⟨4, ![1, 1, 1024, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S4x16x4096x128, .f32⟩
  | .hbm, ⟨10, _⟩ => ⟨S4x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x4x1024x128, .f32⟩
  | .local _ .vmem, ⟨10, _⟩ => ⟨S1x4x1024x128, .f32⟩
  | .local _ .vmem, ⟨11, _⟩ => ⟨S1x1024x2048, .f32⟩
  | .local _ .vmem, ⟨12, _⟩ => ⟨S1x1024x2048, .f32⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference6Ideal.lean ====
abbrev S4x4096x2048 : Shape := ⟨3, ![4, 4096, 2048]⟩
abbrev S2048 : Shape := ⟨1, ![2048]⟩
abbrev S4x2048 : Shape := ⟨2, ![4, 2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x16x128 : Shape := ⟨4, ![4, 4096, 16, 128]⟩
abbrev S4x16x4096x128 : Shape := ⟨4, ![4, 16, 4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x16x128, .f32⟩
  | .hbm, ⟨32, _⟩ => ⟨S4x16x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel7.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x12288, .f32⟩
  | .hbm, ⟨7, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S1x12288 : Shape := ⟨2, ![1, 12288]⟩
abbrev S8x12288 : Shape := ⟨2, ![8, 12288]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x12288, .f32⟩
  | .hbm, ⟨13, _⟩ => ⟨S1x12288, .f32⟩
  | .hbm, ⟨14, _⟩ => ⟨S4x12288, .f32⟩
  | .hbm, ⟨15, _⟩ => ⟨S4x12288, .f32⟩
  | .hbm, ⟨16, _⟩ => ⟨S4x12288, .f32⟩
  | .hbm, ⟨17, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Body.lean ====
/-
  The body of the scan at one grid point, at any float instance: it runs and leaves its inputs as they were.
-/
module

public import proofs.«01_k».proof.Proof.Gen.Kernel.Frame.Runs
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that starts a batch entry: it runs and leaves its inputs as they were. -/
theorem runA  (c : Dev nD) (i : grid0.Coords) (arg3 : Memref sig .tc .vmem S1x8x1024x128 .bf16) (harg3 : arg3.IsWhole) (arg4 : Memref sig .tc .vmem S1x8x1024x128 .f32) (harg4 : arg4.IsWhole) (arg5 : Memref sig .tc .vmem S1x8x1024x64 .bf16) (harg5 : arg5.IsWhole) (arg6 : Memref sig .tc .vmem S1x8x1024x128 .bf16) (harg6 : arg6.IsWhole) (arg7 : Memref sig .tc .vmem S1x8x1024x128 .bf16) (harg7 : arg7.IsWhole) (arg8 : Memref sig .tc .vmem S1x8x16x128 .f32) (harg8 : arg8.IsWhole) (arg9 : Memref sig .tc .vmem S1x8x1024x128 .f32) (harg9 : arg9.IsWhole) (arg10 : Memref sig .tc .vmem S1x128 .f32) (harg10 : arg10.IsWhole) (arg11 : Memref sig .tc .vmem S1x1024x1024 .bf16) (harg11 : arg11.IsWhole) (arg12 : Memref sig .tc .vmem S8x128x128 .f32) (harg12 : arg12.IsWhole) (hc0 : cond0_0 i)
    (x0 : Vec F S1x8x1024x128 .bf16) (x1 : Vec F S1x8x1024x128 .f32) (x2 : Vec F S1x8x1024x64 .bf16) (x3 : Vec F S1x8x1024x128 .bf16) (x4 : Vec F S1x8x1024x128 .bf16) (x5 : Vec F S1x8x16x128 .f32) (x6 : Vec F S1x8x1024x128 .f32) (x7 : Vec F S1x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)) -∗ K ⟨⟩))
          ⊢ wp frame (wpE (defs₀ (F := F)) Variants.none c none) E (cc0_gdn_scan i arg3 harg3 arg4 harg4 arg5 harg5 arg6 harg6 arg7 harg7 arg8 harg8 arg9 harg9 arg10 harg10 arg11 harg11 arg12 harg12) K := by
    simp only [cc0_gdn_scan_eq_skeleton]; unfold cc0_gdn_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexists _; isplitr; swap; · iexact H8
      ipureintro; rfl
    iexists _; iexists _; isplitr; swap; · iexact HS0
    ipureintro; rfl

set_option maxHeartbeats 1000000 in
/-- The body at a point that carries the state on: it runs and leaves its inputs as they were. -/
theorem runB  (c : Dev nD) (i : grid0.Coords) (arg3 : Memref sig .tc .vmem S1x8x1024x128 .bf16) (harg3 : arg3.IsWhole) (arg4 : Memref sig .tc .vmem S1x8x1024x128 .f32) (harg4 : arg4.IsWhole) (arg5 : Memref sig .tc .vmem S1x8x1024x64 .bf16) (harg5 : arg5.IsWhole) (arg6 : Memref sig .tc .vmem S1x8x1024x128 .bf16) (harg6 : arg6.IsWhole) (arg7 : Memref sig .tc .vmem S1x8x1024x128 .bf16) (harg7 : arg7.IsWhole) (arg8 : Memref sig .tc .vmem S1x8x16x128 .f32) (harg8 : arg8.IsWhole) (arg9 : Memref sig .tc .vmem S1x8x1024x128 .f32) (harg9 : arg9.IsWhole) (arg10 : Memref sig .tc .vmem S1x128 .f32) (harg10 : arg10.IsWhole) (arg11 : Memref sig .tc .vmem S1x1024x1024 .bf16) (harg11 : arg11.IsWhole) (arg12 : Memref sig .tc .vmem S8x128x128 .f32) (harg12 : arg12.IsWhole) (hc0 : ¬cond0_0 i)
    (x0 : Vec F S1x8x1024x128 .bf16) (x1 : Vec F S1x8x1024x128 .f32) (x2 : Vec F S1x8x1024x64 .bf16) (x3 : Vec F S1x8x1024x128 .bf16) (x4 : Vec F S1x8x1024x128 .bf16) (x5 : Vec F S1x8x16x128 .f32) (x6 : Vec F S1x8x1024x128 .f32) (x7 : Vec F S1x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)) -∗ K ⟨⟩))
          ⊢ wp frame (wpE (defs₀ (F := F)) Variants.none c none) E (cc0_gdn_scan i arg3 harg3 arg4 harg4 arg5 harg5 arg6 harg6 arg7 harg7 arg8 harg8 arg9 harg9 arg10 harg10 arg11 harg11 arg12 harg12) K := by
    simp only [cc0_gdn_scan_eq_skeleton]; unfold cc0_gdn_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexists _; isplitr; swap; · iexact H8
      ipureintro; rfl
    iexists _; iexists _; isplitr; swap; · iexact HS0
    ipureintro; rfl

end Cert.Kernel.Run

end
-- ==== Proof.Frame.lean ====
/-
  The frame of the scan at any float instance: it terminates, faults nowhere and leaves its arguments as they were.
-/
module

public import proofs.«01_k».proof.Proof.Body
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's contents are not named here. -/
def forgets0 : Fin 9 → Bool := fun w => w.val == 8

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  by_cases h0 : t.val % 4 = 0
  · iapply (runA c (grid0.coords t) _ _ _ _ _ _ _ _ _ _ _ _ _ _ _ _ _ _ _ (Memref.isWhole_whole _) ((hcond0_0 t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iintro ⟨H0, H1, H2, H3, H4, H5, H6, H7, H8, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iapply (runB c (grid0.coords t) _ _ _ _ _ _ _ _ _ _ _ _ _ _ _ _ _ _ _ (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iintro ⟨H0, H1, H2, H3, H4, H5, H6, H7, H8, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this one
set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The scan runs, leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1.arr_in c 0 rfl).trans ((A_eq m c 0).trans (V_main_arg0 m c)), (h.1.arr_in c 1 rfl).trans ((A_eq m c 1).trans (V_main_arg1 m c)), (h.1.arr_in c 2 rfl).trans ((A_eq m c 2).trans (V_main_arg2 m c)), (h.1.arr_in c 3 rfl).trans ((A_eq m c 3).trans (V_main_arg3 m c)), (h.1.arr_in c 4 rfl).trans ((A_eq m c 4).trans (V_main_arg4 m c)), ((h.1 c).2 main_arg5 (Pipeline.mem_restRefs_of main_arg5 (by decide) (by decide))).trans (V_main_arg5 m c), (h.1.arr_in c 6 rfl).trans ((A_eq m c 6).trans (V_main_arg6 m c)), ((h.1 c).2 main_arg7 (Pipeline.mem_restRefs_of main_arg7 (by decide) (by decide))).trans (V_main_arg7 m c)⟩, h.2⟩) (run_main m ρ)

end Cert.Kernel.Run

end
-- ==== Proof.Head.lean ====
/- One chunk of the gated delta rule for one head, as plain sums over the extended reals, and what the kernel's
   per-head payloads are at an index. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.Proof.Scan

/-- The chunk's corrected values: the update rows less the key rows applied to the state. -/
def vNew (W U : Fin 64 → Fin 128 → EReal) (S : Fin 128 → Fin 128 → EReal) (i : Fin 64) (j : Fin 128) : EReal :=
  U i j - ∑ d, W i d * S d j

/-- The chunk's output: the query rows applied to the state, plus the within-chunk products of the corrected values. -/
def oNew (Q : Fin 64 → Fin 128 → EReal) (A : Fin 64 → Fin 64 → EReal) (V : Fin 64 → Fin 128 → EReal)
    (S : Fin 128 → Fin 128 → EReal) (i : Fin 64) (j : Fin 128) : EReal :=
  (∑ d, Q i d * S d j) + ∑ l, A i l * V l j

/-- The state after the chunk: decayed, plus the outer products of keys and corrected values. -/
def sNew (g : Fin 128 → EReal) (K V : Fin 64 → Fin 128 → EReal) (S : Fin 128 → Fin 128 → EReal) (i j : Fin 128) : EReal :=
  g j * S i j + ∑ l, K l i * V l j

/-- A row of outputs, normalised by its mean square and multiplied by the weight and the gate. -/
def normed (o w z : Fin 128 → EReal) (j : Fin 128) : EReal :=
  o j * Ideal.rsqrt (Ideal.div (∑ d, o d * o d) (Ideal.ofBits .f32 0x43000000#32) + Ideal.ofBits .f32 0x358637BD#32) * w j
    * (z j * Ideal.div 1 (1 + Ideal.exp (0 - z j)))

open Cert.KernelIdeal Cert.KernelIdeal.Gen

theorem state_apply (v8 : Vec Ideal S1x128x128 .f32) (v12 : Vec Ideal S1x1x64x128 .f32) (v15 : Vec Ideal S1x1x64x128 .bf16)
    (v30 : Vec Ideal S1x1x1x128 .f32) (v35 : Vec Ideal S1x1x64x128 .bf16) (i j : Fin 128) :
    k0_pay9 (k0_pay8 v8 v12 v15 v30 v35) (ix3 0 i j)
      = sNew (fun b => v30 (ix4 0 0 0 b)) (fun l d => v35 (ix4 0 0 l d))
          (vNew (fun l d => v15 (ix4 0 0 l d)) (fun l d => v12 (ix4 0 0 l d)) (fun a b => v8 (ix3 0 a b)))
          (fun a b => v8 (ix3 0 a b)) i j := by
  unfold k0_pay9 k0_pay8 k0_pay6 k0_pay5 k0_pay4 sNew vNew
  pointwise
  done

theorem attn_apply (v8 : Vec Ideal S1x128x128 .f32) (v12 : Vec Ideal S1x1x64x128 .f32) (v15 : Vec Ideal S1x1x64x128 .bf16)
    (v21 : Vec Ideal S1x1x64x128 .bf16) (v25 : Vec Ideal S1x1x64x64 .bf16) (i : Fin 64) (j : Fin 128) :
    k0_pay7 v8 v12 v15 v21 v25 (ix2 i j)
      = oNew (fun l d => v21 (ix4 0 0 l d)) (fun l d => v25 (ix4 0 0 l d))
          (vNew (fun l d => v15 (ix4 0 0 l d)) (fun l d => v12 (ix4 0 0 l d)) (fun a b => v8 (ix3 0 a b)))
          (fun a b => v8 (ix3 0 a b)) i j := by
  unfold k0_pay7 k0_pay6 k0_pay5 k0_pay4 oNew vNew
  pointwise
  done

theorem out_apply (v3 : Vec Ideal S1x128 .f32) (v28 : FVec Ideal S64x128 .f32) (v55 : Vec Ideal S1x1x64x128 .f32)
    (i : Fin 64) (j : Fin 128) :
    k0_pay10 (k0_pay2 v3) v28 v55 (ix3 0 i j)
      = normed (fun d => v28 (ix2 i d)) (fun d => v3 (ix2 0 d)) (fun d => v55 (ix4 0 0 i d)) j := by
  unfold k0_pay10 k0_pay2 normed
  pointwise
  done

end Cert.Proof.Scan

end
-- ==== Proof.Stores.lean ====
/- Eight stores, one per head, into the state or into the output block, read at an index. -/
module

public import proofs.«01_k».proof.Proof.Head
public import proofs.«01_k».proof.Proof.Gen.KernelIdeal.Skeleton
public import Idealize.ShloMosaic.Lib.WritesUnit

@[expose] public section

set_option maxRecDepth 16384

noncomputable section

open Idealize.ShloMosaic Idealize.ShloMosaic.TcCoe Idealize.SL.Sem
open Cert.KernelIdeal Cert.KernelIdeal.Gen

namespace Cert.Proof.Scan

/-- Eight stores, one per head, leave at every head that head's payload. -/
theorem read_heads (a : Memref sig .tc .vmem S8x128x128 .f32) (f : BufTy.Contents (Elt Ideal) a.view.ty)
    (w0 w1 w2 w3 w4 w5 w6 w7 : S1x128x128.Idx → EReal) (T : Fin 8 → Fin 128 → Fin 128 → EReal)
    (h0 : ∀ p q, w0 (ix3 0 p q) = T 0 p q) (h1 : ∀ p q, w1 (ix3 0 p q) = T 1 p q) (h2 : ∀ p q, w2 (ix3 0 p q) = T 2 p q) (h3 : ∀ p q, w3 (ix3 0 p q) = T 3 p q) (h4 : ∀ p q, w4 (ix3 0 p q) = T 4 p q) (h5 : ∀ p q, w5 (ix3 0 p q) = T 5 p q) (h6 : ∀ p q, w6 (ix3 0 p q) = T 6 p q) (h7 : ∀ p q, w7 (ix3 0 p q) = T 7 p q)
    (h : Fin 8) (p q : Fin 128) :
    a.view.read (Elt Ideal) (a.view.writes (Elt Ideal) f [
      ⟨Rect.unit (s := S8x128x128) ![7, 0, 0] ![1, 128, 128] inb_S8x128x128_S1x128x128_7_0_0, w7⟩,
      ⟨Rect.unit (s := S8x128x128) ![6, 0, 0] ![1, 128, 128] inb_S8x128x128_S1x128x128_6_0_0, w6⟩,
      ⟨Rect.unit (s := S8x128x128) ![5, 0, 0] ![1, 128, 128] inb_S8x128x128_S1x128x128_5_0_0, w5⟩,
      ⟨Rect.unit (s := S8x128x128) ![4, 0, 0] ![1, 128, 128] inb_S8x128x128_S1x128x128_4_0_0, w4⟩,
      ⟨Rect.unit (s := S8x128x128) ![3, 0, 0] ![1, 128, 128] inb_S8x128x128_S1x128x128_3_0_0, w3⟩,
      ⟨Rect.unit (s := S8x128x128) ![2, 0, 0] ![1, 128, 128] inb_S8x128x128_S1x128x128_2_0_0, w2⟩,
      ⟨Rect.unit (s := S8x128x128) ![1, 0, 0] ![1, 128, 128] inb_S8x128x128_S1x128x128_1_0_0, w1⟩,
      ⟨Rect.unit (s := S8x128x128) ![0, 0, 0] ![1, 128, 128] inb_S8x128x128_S1x128x128_0_0_0, w0⟩]) (ix3 h p q) = T h p q := by
  match h with
  | ⟨0, _⟩ =>
    rw [View.read_writes_cons_unit_of_not_mem _ _ _ _ _ _ rfl 0 (Or.inl (show 0 < 7 by omega))]
    rw [View.read_writes_cons_unit_of_not_mem _ _ _ _ _ _ rfl 0 (Or.inl (show 0 < 6 by omega))]
    rw [View.read_writes_cons_unit_of_not_mem _ _ _ _ _ _ rfl 0 (Or.inl (show 0 < 5 by omega))]
    rw [View.read_writes_cons_unit_of_not_mem _ _ _ _ _ _ rfl 0 (Or.inl (show 0 < 4 by omega))]
    rw [View.read_writes_cons_unit_of_not_mem _ _ _ _ _ _ rfl 0 (Or.inl (show 0 < 3 by omega))]
    rw [View.read_writes_cons_unit_of_not_mem _ _ _ _ _ _ rfl 0 (Or.inl (show 0 < 2 by omega))]
    rw [View.read_writes_cons_unit_of_not_mem _ _ _ _ _ _ rfl 0 (Or.inl (show 0 < 1 by omega))]
    refine (View.read_writes_cons_unit_of_mem _ _ _ _ _ _ (ix3 0 p q) rfl (fun a => ?_)).trans (h0 p q)
    match a with
    | ⟨0, _⟩ => rfl
    | ⟨1, _⟩ => exact (Nat.zero_add _).symm
    | ⟨2, _⟩ => exact (Nat.zero_add _).symm
  | ⟨1, _⟩ =>
    rw [View.read_writes_cons_unit_of_not_mem _ _ _ _ _ _ rfl 0 (Or.inl (show 1 < 7 by omega))]
    rw [View.read_writes_cons_unit_of_not_mem _ _ _ _ _ _ rfl 0 (Or.inl (show 1 < 6 by omega))]
    rw [View.read_writes_cons_unit_of_not_mem _ _ _ _ _ _ rfl 0 (Or.inl (show 1 < 5 by omega))]
    rw [View.read_writes_cons_unit_of_not_mem _ _ _ _ _ _ rfl 0 (Or.inl (show 1 < 4 by omega))]
    rw [View.read_writes_cons_unit_of_not_mem _ _ _ _ _ _ rfl 0 (Or.inl (show 1 < 3 by omega))]
    rw [View.read_writes_cons_unit_of_not_mem _ _ _ _ _ _ rfl 0 (Or.inl (show 1 < 2 by omega))]
    refine (View.read_writes_cons_unit_of_mem _ _ _ _ _ _ (ix3 0 p q) rfl (fun a => ?_)).trans (h1 p q)
    match a with
    | ⟨0, _⟩ => rfl
    | ⟨1, _⟩ => exact (Nat.zero_add _).symm
    | ⟨2, _⟩ => exact (Nat.zero_add _).symm
  | ⟨2, _⟩ =>
    rw [View.read_writes_cons_unit_of_not_mem _ _ _ _ _ _ rfl 0 (Or.inl (show 2 < 7 by omega))]
    rw [View.read_writes_cons_unit_of_not_mem _ _ _ _ _ _ rfl 0 (Or.inl (show 2 < 6 by omega))]
    rw [View.read_writes_cons_unit_of_not_mem _ _ _ _ _ _ rfl 0 (Or.inl (show 2 < 5 by omega))]
    rw [View.read_writes_cons_unit_of_not_mem _ _ _ _ _ _ rfl 0 (Or.inl (show 2 < 4 by omega))]
    rw [View.read_writes_cons_unit_of_not_mem _ _ _ _ _ _ rfl 0 (Or.inl (show 2 < 3 by omega))]
    refine (View.read_writes_cons_unit_of_mem _ _ _ _ _ _ (ix3 0 p q) rfl (fun a => ?_)).trans (h2 p q)
    match a with
    | ⟨0, _⟩ => rfl
    | ⟨1, _⟩ => exact (Nat.zero_add _).symm
    | ⟨2, _⟩ => exact (Nat.zero_add _).symm
  | ⟨3, _⟩ =>
    rw [View.read_writes_cons_unit_of_not_mem _ _ _ _ _ _ rfl 0 (Or.inl (show 3 < 7 by omega))]
    rw [View.read_writes_cons_unit_of_not_mem _ _ _ _ _ _ rfl 0 (Or.inl (show 3 < 6 by omega))]
    rw [View.read_writes_cons_unit_of_not_mem _ _ _ _ _ _ rfl 0 (Or.inl (show 3 < 5 by omega))]
    rw [View.read_writes_cons_unit_of_not_mem _ _ _ _ _ _ rfl 0 (Or.inl (show 3 < 4 by omega))]
    refine (View.read_writes_cons_unit_of_mem _ _ _ _ _ _ (ix3 0 p q) rfl (fun a => ?_)).trans (h3 p q)
    match a with
    | ⟨0, _⟩ => rfl
    | ⟨1, _⟩ => exact (Nat.zero_add _).symm
    | ⟨2, _⟩ => exact (Nat.zero_add _).symm
  | ⟨4, _⟩ =>
    rw [View.read_writes_cons_unit_of_not_mem _ _ _ _ _ _ rfl 0 (Or.inl (show 4 < 7 by omega))]
    rw [View.read_writes_cons_unit_of_not_mem _ _ _ _ _ _ rfl 0 (Or.inl (show 4 < 6 by omega))]
    rw [View.read_writes_cons_unit_of_not_mem _ _ _ _ _ _ rfl 0 (Or.inl (show 4 < 5 by omega))]
    refine (View.read_writes_cons_unit_of_mem _ _ _ _ _ _ (ix3 0 p q) rfl (fun a => ?_)).trans (h4 p q)
    match a with
    | ⟨0, _⟩ => rfl
    | ⟨1, _⟩ => exact (Nat.zero_add _).symm
    | ⟨2, _⟩ => exact (Nat.zero_add _).symm
  | ⟨5, _⟩ =>
    rw [View.read_writes_cons_unit_of_not_mem _ _ _ _ _ _ rfl 0 (Or.inl (show 5 < 7 by omega))]
    rw [View.read_writes_cons_unit_of_not_mem _ _ _ _ _ _ rfl 0 (Or.inl (show 5 < 6 by omega))]
    refine (View.read_writes_cons_unit_of_mem _ _ _ _ _ _ (ix3 0 p q) rfl (fun a => ?_)).trans (h5 p q)
    match a with
    | ⟨0, _⟩ => rfl
    | ⟨1, _⟩ => exact (Nat.zero_add _).symm
    | ⟨2, _⟩ => exact (Nat.zero_add _).symm
  | ⟨6, _⟩ =>
    rw [View.read_writes_cons_unit_of_not_mem _ _ _ _ _ _ rfl 0 (Or.inl (show 6 < 7 by omega))]
    refine (View.read_writes_cons_unit_of_mem _ _ _ _ _ _ (ix3 0 p q) rfl (fun a => ?_)).trans (h6 p q)
    match a with
    | ⟨0, _⟩ => rfl
    | ⟨1, _⟩ => exact (Nat.zero_add _).symm
    | ⟨2, _⟩ => exact (Nat.zero_add _).symm
  | ⟨7, _⟩ =>
    refine (View.read_writes_cons_unit_of_mem _ _ _ _ _ _ (ix3 0 p q) rfl (fun a => ?_)).trans (h7 p q)
    match a with
    | ⟨0, _⟩ => rfl
    | ⟨1, _⟩ => exact (Nat.zero_add _).symm
    | ⟨2, _⟩ => exact (Nat.zero_add _).symm

/-- Eight stores, one per head, into the rows of chunk `k` leave at every head's columns that head's payload. -/
theorem read_cols (a : Memref sig .tc .vmem S1x1024x1024 .bf16) (f : BufTy.Contents (Elt Ideal) a.view.ty) (k : ℕ) (hk : k < 16)
    (o0 o1 o2 o3 o4 o5 o6 o7 : Fin 3 → ℕ) (e0 : o0 = ![0, 64 * k, 0]) (e1 : o1 = ![0, 64 * k, 128]) (e2 : o2 = ![0, 64 * k, 256]) (e3 : o3 = ![0, 64 * k, 384]) (e4 : o4 = ![0, 64 * k, 512]) (e5 : o5 = ![0, 64 * k, 640]) (e6 : o6 = ![0, 64 * k, 768]) (e7 : o7 = ![0, 64 * k, 896])
    (i0 : ∀ x, o0 x + (![1, 64, 128] : Fin 3 → ℕ) x ≤ S1x1024x1024.size x) (i1 : ∀ x, o1 x + (![1, 64, 128] : Fin 3 → ℕ) x ≤ S1x1024x1024.size x) (i2 : ∀ x, o2 x + (![1, 64, 128] : Fin 3 → ℕ) x ≤ S1x1024x1024.size x) (i3 : ∀ x, o3 x + (![1, 64, 128] : Fin 3 → ℕ) x ≤ S1x1024x1024.size x) (i4 : ∀ x, o4 x + (![1, 64, 128] : Fin 3 → ℕ) x ≤ S1x1024x1024.size x) (i5 : ∀ x, o5 x + (![1, 64, 128] : Fin 3 → ℕ) x ≤ S1x1024x1024.size x) (i6 : ∀ x, o6 x + (![1, 64, 128] : Fin 3 → ℕ) x ≤ S1x1024x1024.size x) (i7 : ∀ x, o7 x + (![1, 64, 128] : Fin 3 → ℕ) x ≤ S1x1024x1024.size x)
    (w0 w1 w2 w3 w4 w5 w6 w7 : S1x64x128.Idx → EReal) (T : Fin 8 → Fin 64 → Fin 128 → EReal)
    (h0 : ∀ l j, w0 (ix3 0 l j) = T 0 l j) (h1 : ∀ l j, w1 (ix3 0 l j) = T 1 l j) (h2 : ∀ l j, w2 (ix3 0 l j) = T 2 l j) (h3 : ∀ l j, w3 (ix3 0 l j) = T 3 l j) (h4 : ∀ l j, w4 (ix3 0 l j) = T 4 l j) (h5 : ∀ l j, w5 (ix3 0 l j) = T 5 l j) (h6 : ∀ l j, w6 (ix3 0 l j) = T 6 l j) (h7 : ∀ l j, w7 (ix3 0 l j) = T 7 l j)
    (h : Fin 8) (l : Fin 64) (j : Fin 128) :
    a.view.read (Elt Ideal) (a.view.writes (Elt Ideal) f [
      ⟨Rect.unit (s := S1x1024x1024) o7 ![1, 64, 128] i7, w7⟩,
      ⟨Rect.unit (s := S1x1024x1024) o6 ![1, 64, 128] i6, w6⟩,
      ⟨Rect.unit (s := S1x1024x1024) o5 ![1, 64, 128] i5, w5⟩,
      ⟨Rect.unit (s := S1x1024x1024) o4 ![1, 64, 128] i4, w4⟩,
      ⟨Rect.unit (s := S1x1024x1024) o3 ![1, 64, 128] i3, w3⟩,
      ⟨Rect.unit (s := S1x1024x1024) o2 ![1, 64, 128] i2, w2⟩,
      ⟨Rect.unit (s := S1x1024x1024) o1 ![1, 64, 128] i1, w1⟩,
      ⟨Rect.unit (s := S1x1024x1024) o0 ![1, 64, 128] i0, w0⟩])
      (ix3 0 ⟨64 * k + l.val, by omega⟩ ⟨128 * h.val + j.val, by omega⟩) = T h l j := by
  match h with
  | ⟨0, _⟩ =>
    rw [View.read_writes_cons_unit_of_not_mem _ _ _ _ _ _ e7 2 (Or.inl (show 128 * 0 + j.val < 896 by omega))]
    rw [View.read_writes_cons_unit_of_not_mem _ _ _ _ _ _ e6 2 (Or.inl (show 128 * 0 + j.val < 768 by omega))]
    rw [View.read_writes_cons_unit_of_not_mem _ _ _ _ _ _ e5 2 (Or.inl (show 128 * 0 + j.val < 640 by omega))]
    rw [View.read_writes_cons_unit_of_not_mem _ _ _ _ _ _ e4 2 (Or.inl (show 128 * 0 + j.val < 512 by omega))]
    rw [View.read_writes_cons_unit_of_not_mem _ _ _ _ _ _ e3 2 (Or.inl (show 128 * 0 + j.val < 384 by omega))]
    rw [View.read_writes_cons_unit_of_not_mem _ _ _ _ _ _ e2 2 (Or.inl (show 128 * 0 + j.val < 256 by omega))]
    rw [View.read_writes_cons_unit_of_not_mem _ _ _ _ _ _ e1 2 (Or.inl (show 128 * 0 + j.val < 128 by omega))]
    refine (View.read_writes_cons_unit_of_mem _ _ _ _ _ _ (ix3 0 l j) e0 (fun a => ?_)).trans (h0 l j)
    match a with
    | ⟨0, _⟩ => rfl
    | ⟨1, _⟩ => rfl
    | ⟨2, _⟩ => rfl
  | ⟨1, _⟩ =>
    rw [View.read_writes_cons_unit_of_not_mem _ _ _ _ _ _ e7 2 (Or.inl (show 128 * 1 + j.val < 896 by omega))]
    rw [View.read_writes_cons_unit_of_not_mem _ _ _ _ _ _ e6 2 (Or.inl (show 128 * 1 + j.val < 768 by omega))]
    rw [View.read_writes_cons_unit_of_not_mem _ _ _ _ _ _ e5 2 (Or.inl (show 128 * 1 + j.val < 640 by omega))]
    rw [View.read_writes_cons_unit_of_not_mem _ _ _ _ _ _ e4 2 (Or.inl (show 128 * 1 + j.val < 512 by omega))]
    rw [View.read_writes_cons_unit_of_not_mem _ _ _ _ _ _ e3 2 (Or.inl (show 128 * 1 + j.val < 384 by omega))]
    rw [View.read_writes_cons_unit_of_not_mem _ _ _ _ _ _ e2 2 (Or.inl (show 128 * 1 + j.val < 256 by omega))]
    refine (View.read_writes_cons_unit_of_mem _ _ _ _ _ _ (ix3 0 l j) e1 (fun a => ?_)).trans (h1 l j)
    match a with
    | ⟨0, _⟩ => rfl
    | ⟨1, _⟩ => rfl
    | ⟨2, _⟩ => rfl
  | ⟨2, _⟩ =>
    rw [View.read_writes_cons_unit_of_not_mem _ _ _ _ _ _ e7 2 (Or.inl (show 128 * 2 + j.val < 896 by omega))]
    rw [View.read_writes_cons_unit_of_not_mem _ _ _ _ _ _ e6 2 (Or.inl (show 128 * 2 + j.val < 768 by omega))]
    rw [View.read_writes_cons_unit_of_not_mem _ _ _ _ _ _ e5 2 (Or.inl (show 128 * 2 + j.val < 640 by omega))]
    rw [View.read_writes_cons_unit_of_not_mem _ _ _ _ _ _ e4 2 (Or.inl (show 128 * 2 + j.val < 512 by omega))]
    rw [View.read_writes_cons_unit_of_not_mem _ _ _ _ _ _ e3 2 (Or.inl (show 128 * 2 + j.val < 384 by omega))]
    refine (View.read_writes_cons_unit_of_mem _ _ _ _ _ _ (ix3 0 l j) e2 (fun a => ?_)).trans (h2 l j)
    match a with
    | ⟨0, _⟩ => rfl
    | ⟨1, _⟩ => rfl
    | ⟨2, _⟩ => rfl
  | ⟨3, _⟩ =>
    rw [View.read_writes_cons_unit_of_not_mem _ _ _ _ _ _ e7 2 (Or.inl (show 128 * 3 + j.val < 896 by omega))]
    rw [View.read_writes_cons_unit_of_not_mem _ _ _ _ _ _ e6 2 (Or.inl (show 128 * 3 + j.val < 768 by omega))]
    rw [View.read_writes_cons_unit_of_not_mem _ _ _ _ _ _ e5 2 (Or.inl (show 128 * 3 + j.val < 640 by omega))]
    rw [View.read_writes_cons_unit_of_not_mem _ _ _ _ _ _ e4 2 (Or.inl (show 128 * 3 + j.val < 512 by omega))]
    refine (View.read_writes_cons_unit_of_mem _ _ _ _ _ _ (ix3 0 l j) e3 (fun a => ?_)).trans (h3 l j)
    match a with
    | ⟨0, _⟩ => rfl
    | ⟨1, _⟩ => rfl
    | ⟨2, _⟩ => rfl
  | ⟨4, _⟩ =>
    rw [View.read_writes_cons_unit_of_not_mem _ _ _ _ _ _ e7 2 (Or.inl (show 128 * 4 + j.val < 896 by omega))]
    rw [View.read_writes_cons_unit_of_not_mem _ _ _ _ _ _ e6 2 (Or.inl (show 128 * 4 + j.val < 768 by omega))]
    rw [View.read_writes_cons_unit_of_not_mem _ _ _ _ _ _ e5 2 (Or.inl (show 128 * 4 + j.val < 640 by omega))]
    refine (View.read_writes_cons_unit_of_mem _ _ _ _ _ _ (ix3 0 l j) e4 (fun a => ?_)).trans (h4 l j)
    match a with
    | ⟨0, _⟩ => rfl
    | ⟨1, _⟩ => rfl
    | ⟨2, _⟩ => rfl
  | ⟨5, _⟩ =>
    rw [View.read_writes_cons_unit_of_not_mem _ _ _ _ _ _ e7 2 (Or.inl (show 128 * 5 + j.val < 896 by omega))]
    rw [View.read_writes_cons_unit_of_not_mem _ _ _ _ _ _ e6 2 (Or.inl (show 128 * 5 + j.val < 768 by omega))]
    refine (View.read_writes_cons_unit_of_mem _ _ _ _ _ _ (ix3 0 l j) e5 (fun a => ?_)).trans (h5 l j)
    match a with
    | ⟨0, _⟩ => rfl
    | ⟨1, _⟩ => rfl
    | ⟨2, _⟩ => rfl
  | ⟨6, _⟩ =>
    rw [View.read_writes_cons_unit_of_not_mem _ _ _ _ _ _ e7 2 (Or.inl (show 128 * 6 + j.val < 896 by omega))]
    refine (View.read_writes_cons_unit_of_mem _ _ _ _ _ _ (ix3 0 l j) e6 (fun a => ?_)).trans (h6 l j)
    match a with
    | ⟨0, _⟩ => rfl
    | ⟨1, _⟩ => rfl
    | ⟨2, _⟩ => rfl
  | ⟨7, _⟩ =>
    refine (View.read_writes_cons_unit_of_mem _ _ _ _ _ _ (ix3 0 l j) e7 (fun a => ?_)).trans (h7 l j)
    match a with
    | ⟨0, _⟩ => rfl
    | ⟨1, _⟩ => rfl
    | ⟨2, _⟩ => rfl

/-- Those stores leave the rows of the other chunks as they were. -/
theorem read_cols_other (a : Memref sig .tc .vmem S1x1024x1024 .bf16) (f : BufTy.Contents (Elt Ideal) a.view.ty) (k : ℕ)
    (o0 o1 o2 o3 o4 o5 o6 o7 : Fin 3 → ℕ) (e0 : o0 = ![0, 64 * k, 0]) (e1 : o1 = ![0, 64 * k, 128]) (e2 : o2 = ![0, 64 * k, 256]) (e3 : o3 = ![0, 64 * k, 384]) (e4 : o4 = ![0, 64 * k, 512]) (e5 : o5 = ![0, 64 * k, 640]) (e6 : o6 = ![0, 64 * k, 768]) (e7 : o7 = ![0, 64 * k, 896])
    (i0 : ∀ x, o0 x + (![1, 64, 128] : Fin 3 → ℕ) x ≤ S1x1024x1024.size x) (i1 : ∀ x, o1 x + (![1, 64, 128] : Fin 3 → ℕ) x ≤ S1x1024x1024.size x) (i2 : ∀ x, o2 x + (![1, 64, 128] : Fin 3 → ℕ) x ≤ S1x1024x1024.size x) (i3 : ∀ x, o3 x + (![1, 64, 128] : Fin 3 → ℕ) x ≤ S1x1024x1024.size x) (i4 : ∀ x, o4 x + (![1, 64, 128] : Fin 3 → ℕ) x ≤ S1x1024x1024.size x) (i5 : ∀ x, o5 x + (![1, 64, 128] : Fin 3 → ℕ) x ≤ S1x1024x1024.size x) (i6 : ∀ x, o6 x + (![1, 64, 128] : Fin 3 → ℕ) x ≤ S1x1024x1024.size x) (i7 : ∀ x, o7 x + (![1, 64, 128] : Fin 3 → ℕ) x ≤ S1x1024x1024.size x)
    (w0 w1 w2 w3 w4 w5 w6 w7 : S1x64x128.Idx → EReal) (y : S1x1024x1024.Idx) (hy : (y 1).val < 64 * k ∨ 64 * k + 64 ≤ (y 1).val) :
    a.view.read (Elt Ideal) (a.view.writes (Elt Ideal) f [
      ⟨Rect.unit (s := S1x1024x1024) o7 ![1, 64, 128] i7, w7⟩,
      ⟨Rect.unit (s := S1x1024x1024) o6 ![1, 64, 128] i6, w6⟩,
      ⟨Rect.unit (s := S1x1024x1024) o5 ![1, 64, 128] i5, w5⟩,
      ⟨Rect.unit (s := S1x1024x1024) o4 ![1, 64, 128] i4, w4⟩,
      ⟨Rect.unit (s := S1x1024x1024) o3 ![1, 64, 128] i3, w3⟩,
      ⟨Rect.unit (s := S1x1024x1024) o2 ![1, 64, 128] i2, w2⟩,
      ⟨Rect.unit (s := S1x1024x1024) o1 ![1, 64, 128] i1, w1⟩,
      ⟨Rect.unit (s := S1x1024x1024) o0 ![1, 64, 128] i0, w0⟩]) y = a.view.read (Elt Ideal) f y := by
  rw [View.read_writes_cons_unit_of_not_mem _ _ _ _ _ _ e7 1 hy]
  rw [View.read_writes_cons_unit_of_not_mem _ _ _ _ _ _ e6 1 hy]
  rw [View.read_writes_cons_unit_of_not_mem _ _ _ _ _ _ e5 1 hy]
  rw [View.read_writes_cons_unit_of_not_mem _ _ _ _ _ _ e4 1 hy]
  rw [View.read_writes_cons_unit_of_not_mem _ _ _ _ _ _ e3 1 hy]
  rw [View.read_writes_cons_unit_of_not_mem _ _ _ _ _ _ e2 1 hy]
  rw [View.read_writes_cons_unit_of_not_mem _ _ _ _ _ _ e1 1 hy]
  rw [View.read_writes_cons_unit_of_not_mem _ _ _ _ _ _ e0 1 hy]
  rfl

end Cert.Proof.Scan

end
-- ==== Proof.Trip.lean ====
/- One trip of the kernel's loop: what it stores into the state and into the output block, read at an index. -/
module

public import proofs.«01_k».proof.Proof.Stores
public import proofs.«01_k».proof.Proof.Gen.KernelIdeal.Loops
public import Idealize.ShloMosaic.Lib.WritesUnit

@[expose] public section

set_option maxRecDepth 16384

noncomputable section

open Idealize.ShloMosaic Idealize.ShloMosaic.TcCoe Idealize.SL.Sem
open Cert.KernelIdeal Cert.KernelIdeal.Gen

namespace Cert.Proof.Scan

/-- A load of one head's rows of one chunk reads the block at that head and those rows. -/
theorem readAt_rows {e : EltTy} {n : ℕ} (a : Memref sig .tc .vmem ⟨4, ![1, 8, 1024, n]⟩ e) (X : BufTy.Contents (Elt Ideal) a.view.ty)
    (h : Fin 8) (k : ℕ) (hk : k < 16) (off : Fin 4 → ℕ) (heq : off = ![0, h.val, 64 * k, 0])
    (inb : ∀ x, off x + (![1, 1, 64, n] : Fin 4 → ℕ) x ≤ (⟨4, ![1, 8, 1024, n]⟩ : Shape).size x) (l : Fin 64) (d : Fin n) :
    View.readAt (Elt Ideal) a.view (Rect.unit (s := ⟨4, ![1, 8, 1024, n]⟩) off ![1, 1, 64, n] inb).toLoadRect X (ix4 0 0 l d)
      = a.view.read (Elt Ideal) X (ix4 0 h ⟨64 * k + l.val, by omega⟩ d) := by
  subst heq
  show a.view.read (Elt Ideal) X _ = _
  congr 1
  funext x
  apply Fin.ext
  match x with
  | ⟨0, _⟩ => rfl
  | ⟨1, _⟩ => show h.val + 1 * 0 = h.val; omega
  | ⟨2, _⟩ => show 64 * k + 1 * l.val = 64 * k + l.val; omega
  | ⟨3, _⟩ => show 0 + 1 * d.val = d.val; omega

/-- A load of one head's decay row of one chunk. -/
theorem readAt_decay (a : Memref sig .tc .vmem S1x8x16x128 .f32) (X : BufTy.Contents (Elt Ideal) a.view.ty)
    (h : Fin 8) (k : ℕ) (hk : k < 16) (off : Fin 4 → ℕ) (heq : off = ![0, h.val, k, 0])
    (inb : ∀ x, off x + (![1, 1, 1, 128] : Fin 4 → ℕ) x ≤ S1x8x16x128.size x) (d : Fin 128) :
    View.readAt (Elt Ideal) a.view (Rect.unit (s := S1x8x16x128) off ![1, 1, 1, 128] inb).toLoadRect X (ix4 0 0 0 d)
      = a.view.read (Elt Ideal) X (ix4 0 h ⟨k, hk⟩ d) := by
  subst heq
  show a.view.read (Elt Ideal) X _ = _
  congr 1
  funext x
  apply Fin.ext
  match x with
  | ⟨0, _⟩ => rfl
  | ⟨1, _⟩ => show h.val + 1 * 0 = h.val; omega
  | ⟨2, _⟩ => show k + 1 * 0 = k; omega
  | ⟨3, _⟩ => show 0 + 1 * d.val = d.val; omega

/-- A load of one head's state. -/
theorem readAt_state (a : Memref sig .tc .vmem S8x128x128 .f32) (X : BufTy.Contents (Elt Ideal) a.view.ty)
    (h : Fin 8) (off : Fin 3 → ℕ) (heq : off = ![h.val, 0, 0])
    (inb : ∀ x, off x + (![1, 128, 128] : Fin 3 → ℕ) x ≤ S8x128x128.size x) (p q : Fin 128) :
    View.readAt (Elt Ideal) a.view (Rect.unit (s := S8x128x128) off ![1, 128, 128] inb).toLoadRect X (ix3 0 p q)
      = a.view.read (Elt Ideal) X (ix3 h p q) := by
  subst heq
  show a.view.read (Elt Ideal) X _ = _
  congr 1
  funext x
  apply Fin.ext
  match x with
  | ⟨0, _⟩ => show h.val + 1 * 0 = h.val; omega
  | ⟨1, _⟩ => show 0 + 1 * p.val = p.val; omega
  | ⟨2, _⟩ => show 0 + 1 * q.val = q.val; omega

/-- A row of chunk `k` of the block's head `h`. -/
def rowsOf {n : ℕ} (X : (⟨4, ![1, 8, 1024, n]⟩ : Shape).Idx → EReal) (h : Fin 8) (k : ℕ) (hk : k < 16) (l : Fin 64) (d : Fin n) : EReal :=
  X (ix4 0 h ⟨64 * k + l.val, by omega⟩ d)

/-- The corrected values of chunk `k` of head `h`, over the blocks the trip reads. -/
def vBlk (w u : S1x8x1024x128.Idx → EReal) (S : S8x128x128.Idx → EReal) (h : Fin 8) (k : ℕ) (hk : k < 16) : Fin 64 → Fin 128 → EReal :=
  vNew (rowsOf w h k hk) (rowsOf u h k hk) (fun a b => S (ix3 h a b))

/-- The state trip `k` leaves at head `h`. -/
def sBlk (w u kd : S1x8x1024x128.Idx → EReal) (ge : S1x8x16x128.Idx → EReal) (S : S8x128x128.Idx → EReal) (h : Fin 8) (k : ℕ) (hk : k < 16) :
    Fin 128 → Fin 128 → EReal :=
  sNew (fun b => ge (ix4 0 h ⟨k, hk⟩ b)) (rowsOf kd h k hk) (vBlk w u S h k hk) (fun a b => S (ix3 h a b))

/-- The output rows trip `k` leaves at head `h`. -/
def oBlk (w u : S1x8x1024x128.Idx → EReal) (qk : S1x8x1024x64.Idx → EReal) (qg z : S1x8x1024x128.Idx → EReal) (nw : S1x128.Idx → EReal)
    (S : S8x128x128.Idx → EReal) (h : Fin 8) (k : ℕ) (hk : k < 16) (l : Fin 64) (j : Fin 128) : EReal :=
  normed (oNew (rowsOf qg h k hk) (rowsOf qk h k hk) (vBlk w u S h k hk) (fun a b => S (ix3 h a b)) l) (fun d => nw (ix2 0 d))
    (rowsOf z h k hk l) j

variable (𝒱 : Variants) (c : Dev nD) (bd : Option 𝒱.V) (i : grid0.Coords) (arg3 : Memref sig .tc .vmem S1x8x1024x128 .bf16) (harg3 : arg3.IsWhole) (arg4 :
  Memref sig .tc .vmem S1x8x1024x128 .f32) (harg4 : arg4.IsWhole) (arg5 : Memref sig .tc .vmem S1x8x1024x64 .bf16) (harg5 : arg5.IsWhole) (arg6 : Memref
  sig .tc .vmem S1x8x1024x128 .bf16) (harg6 : arg6.IsWhole) (arg7 : Memref sig .tc .vmem S1x8x1024x128 .bf16) (harg7 : arg7.IsWhole) (arg8 : Memref sig
  .tc .vmem S1x8x16x128 .f32) (harg8 : arg8.IsWhole) (arg9 : Memref sig .tc .vmem S1x8x1024x128 .f32) (harg9 : arg9.IsWhole) (arg10 : Memref sig .tc
  .vmem S1x128 .f32) (harg10 : arg10.IsWhole) (arg11 : Memref sig .tc .vmem S1x1024x1024 .bf16) (harg11 : arg11.IsWhole) (arg12 : Memref sig .tc .vmem
  S8x128x128 .f32) (harg12 : arg12.IsWhole) (v3 : Vec Ideal S1x128 .f32) (X_arg3 : BufTy.Contents (Elt Ideal) arg3.view.ty) (X_arg4 : BufTy.Contents
  (Elt Ideal) arg4.view.ty) (X_arg5 : BufTy.Contents (Elt Ideal) arg5.view.ty) (X_arg6 : BufTy.Contents (Elt Ideal) arg6.view.ty) (X_arg7 :
  BufTy.Contents (Elt Ideal) arg7.view.ty) (X_arg8 : BufTy.Contents (Elt Ideal) arg8.view.ty) (X_arg9 : BufTy.Contents (Elt Ideal) arg9.view.ty) (k :
  Fin k0_t1_loop.trips)

/-- The trip's stores into the state, head 7 first: every head's payload is one term of that head's loads. -/
theorem trip_state_list (f11 : BufTy.Contents (Elt Ideal) arg11.view.ty) (f12 : BufTy.Contents (Elt Ideal) arg12.view.ty) :
    (trip_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 k).2.1 f11 f12 = [
      ⟨Rect.unit (s := S8x128x128) ![7, 0, 0] ![1, 128, 128] inb_S8x128x128_S1x128x128_7_0_0, k0_pay9 (k0_pay8 (View.readAt (Elt Ideal) arg12.view (Rect.unit (s := S8x128x128) ![7, 0, 0] ![1, 128, 128] inb_S8x128x128_S1x128x128_7_0_0).toLoadRect f12) (View.readAt (Elt Ideal) arg4.view (Rect.unit (s := S1x8x1024x128) (k0_off29 k) ![1, 1, 64, 128] (k0_off29_inb k)).toLoadRect X_arg4) (View.readAt (Elt Ideal) arg3.view (Rect.unit (s := S1x8x1024x128) (k0_off29 k) ![1, 1, 64, 128] (k0_off29_inb k)).toLoadRect X_arg3) (View.readAt (Elt Ideal) arg8.view (Rect.unit (s := S1x8x16x128) (k0_off31 k) ![1, 1, 1, 128] (k0_off31_inb k)).toLoadRect X_arg8) (View.readAt (Elt Ideal) arg7.view (Rect.unit (s := S1x8x1024x128) (k0_off29 k) ![1, 1, 64, 128] (k0_off29_inb k)).toLoadRect X_arg7))⟩,
      ⟨Rect.unit (s := S8x128x128) ![6, 0, 0] ![1, 128, 128] inb_S8x128x128_S1x128x128_6_0_0, k0_pay9 (k0_pay8 (View.readAt (Elt Ideal) arg12.view (Rect.unit (s := S8x128x128) ![6, 0, 0] ![1, 128, 128] inb_S8x128x128_S1x128x128_6_0_0).toLoadRect f12) (View.readAt (Elt Ideal) arg4.view (Rect.unit (s := S1x8x1024x128) (k0_off25 k) ![1, 1, 64, 128] (k0_off25_inb k)).toLoadRect X_arg4) (View.readAt (Elt Ideal) arg3.view (Rect.unit (s := S1x8x1024x128) (k0_off25 k) ![1, 1, 64, 128] (k0_off25_inb k)).toLoadRect X_arg3) (View.readAt (Elt Ideal) arg8.view (Rect.unit (s := S1x8x16x128) (k0_off27 k) ![1, 1, 1, 128] (k0_off27_inb k)).toLoadRect X_arg8) (View.readAt (Elt Ideal) arg7.view (Rect.unit (s := S1x8x1024x128) (k0_off25 k) ![1, 1, 64, 128] (k0_off25_inb k)).toLoadRect X_arg7))⟩,
      ⟨Rect.unit (s := S8x128x128) ![5, 0, 0] ![1, 128, 128] inb_S8x128x128_S1x128x128_5_0_0, k0_pay9 (k0_pay8 (View.readAt (Elt Ideal) arg12.view (Rect.unit (s := S8x128x128) ![5, 0, 0] ![1, 128, 128] inb_S8x128x128_S1x128x128_5_0_0).toLoadRect f12) (View.readAt (Elt Ideal) arg4.view (Rect.unit (s := S1x8x1024x128) (k0_off21 k) ![1, 1, 64, 128] (k0_off21_inb k)).toLoadRect X_arg4) (View.readAt (Elt Ideal) arg3.view (Rect.unit (s := S1x8x1024x128) (k0_off21 k) ![1, 1, 64, 128] (k0_off21_inb k)).toLoadRect X_arg3) (View.readAt (Elt Ideal) arg8.view (Rect.unit (s := S1x8x16x128) (k0_off23 k) ![1, 1, 1, 128] (k0_off23_inb k)).toLoadRect X_arg8) (View.readAt (Elt Ideal) arg7.view (Rect.unit (s := S1x8x1024x128) (k0_off21 k) ![1, 1, 64, 128] (k0_off21_inb k)).toLoadRect X_arg7))⟩,
      ⟨Rect.unit (s := S8x128x128) ![4, 0, 0] ![1, 128, 128] inb_S8x128x128_S1x128x128_4_0_0, k0_pay9 (k0_pay8 (View.readAt (Elt Ideal) arg12.view (Rect.unit (s := S8x128x128) ![4, 0, 0] ![1, 128, 128] inb_S8x128x128_S1x128x128_4_0_0).toLoadRect f12) (View.readAt (Elt Ideal) arg4.view (Rect.unit (s := S1x8x1024x128) (k0_off17 k) ![1, 1, 64, 128] (k0_off17_inb k)).toLoadRect X_arg4) (View.readAt (Elt Ideal) arg3.view (Rect.unit (s := S1x8x1024x128) (k0_off17 k) ![1, 1, 64, 128] (k0_off17_inb k)).toLoadRect X_arg3) (View.readAt (Elt Ideal) arg8.view (Rect.unit (s := S1x8x16x128) (k0_off19 k) ![1, 1, 1, 128] (k0_off19_inb k)).toLoadRect X_arg8) (View.readAt (Elt Ideal) arg7.view (Rect.unit (s := S1x8x1024x128) (k0_off17 k) ![1, 1, 64, 128] (k0_off17_inb k)).toLoadRect X_arg7))⟩,
      ⟨Rect.unit (s := S8x128x128) ![3, 0, 0] ![1, 128, 128] inb_S8x128x128_S1x128x128_3_0_0, k0_pay9 (k0_pay8 (View.readAt (Elt Ideal) arg12.view (Rect.unit (s := S8x128x128) ![3, 0, 0] ![1, 128, 128] inb_S8x128x128_S1x128x128_3_0_0).toLoadRect f12) (View.readAt (Elt Ideal) arg4.view (Rect.unit (s := S1x8x1024x128) (k0_off13 k) ![1, 1, 64, 128] (k0_off13_inb k)).toLoadRect X_arg4) (View.readAt (Elt Ideal) arg3.view (Rect.unit (s := S1x8x1024x128) (k0_off13 k) ![1, 1, 64, 128] (k0_off13_inb k)).toLoadRect X_arg3) (View.readAt (Elt Ideal) arg8.view (Rect.unit (s := S1x8x16x128) (k0_off15 k) ![1, 1, 1, 128] (k0_off15_inb k)).toLoadRect X_arg8) (View.readAt (Elt Ideal) arg7.view (Rect.unit (s := S1x8x1024x128) (k0_off13 k) ![1, 1, 64, 128] (k0_off13_inb k)).toLoadRect X_arg7))⟩,
      ⟨Rect.unit (s := S8x128x128) ![2, 0, 0] ![1, 128, 128] inb_S8x128x128_S1x128x128_2_0_0, k0_pay9 (k0_pay8 (View.readAt (Elt Ideal) arg12.view (Rect.unit (s := S8x128x128) ![2, 0, 0] ![1, 128, 128] inb_S8x128x128_S1x128x128_2_0_0).toLoadRect f12) (View.readAt (Elt Ideal) arg4.view (Rect.unit (s := S1x8x1024x128) (k0_off9 k) ![1, 1, 64, 128] (k0_off9_inb k)).toLoadRect X_arg4) (View.readAt (Elt Ideal) arg3.view (Rect.unit (s := S1x8x1024x128) (k0_off9 k) ![1, 1, 64, 128] (k0_off9_inb k)).toLoadRect X_arg3) (View.readAt (Elt Ideal) arg8.view (Rect.unit (s := S1x8x16x128) (k0_off11 k) ![1, 1, 1, 128] (k0_off11_inb k)).toLoadRect X_arg8) (View.readAt (Elt Ideal) arg7.view (Rect.unit (s := S1x8x1024x128) (k0_off9 k) ![1, 1, 64, 128] (k0_off9_inb k)).toLoadRect X_arg7))⟩,
      ⟨Rect.unit (s := S8x128x128) ![1, 0, 0] ![1, 128, 128] inb_S8x128x128_S1x128x128_1_0_0, k0_pay9 (k0_pay8 (View.readAt (Elt Ideal) arg12.view (Rect.unit (s := S8x128x128) ![1, 0, 0] ![1, 128, 128] inb_S8x128x128_S1x128x128_1_0_0).toLoadRect f12) (View.readAt (Elt Ideal) arg4.view (Rect.unit (s := S1x8x1024x128) (k0_off5 k) ![1, 1, 64, 128] (k0_off5_inb k)).toLoadRect X_arg4) (View.readAt (Elt Ideal) arg3.view (Rect.unit (s := S1x8x1024x128) (k0_off5 k) ![1, 1, 64, 128] (k0_off5_inb k)).toLoadRect X_arg3) (View.readAt (Elt Ideal) arg8.view (Rect.unit (s := S1x8x16x128) (k0_off7 k) ![1, 1, 1, 128] (k0_off7_inb k)).toLoadRect X_arg8) (View.readAt (Elt Ideal) arg7.view (Rect.unit (s := S1x8x1024x128) (k0_off5 k) ![1, 1, 64, 128] (k0_off5_inb k)).toLoadRect X_arg7))⟩,
      ⟨Rect.unit (s := S8x128x128) ![0, 0, 0] ![1, 128, 128] inb_S8x128x128_S1x128x128_0_0_0, k0_pay9 (k0_pay8 (View.readAt (Elt Ideal) arg12.view (Rect.unit (s := S8x128x128) ![0, 0, 0] ![1, 128, 128] inb_S8x128x128_S1x128x128_0_0_0).toLoadRect f12) (View.readAt (Elt Ideal) arg4.view (Rect.unit (s := S1x8x1024x128) (k0_off1 k) ![1, 1, 64, 128] (k0_off1_inb k)).toLoadRect X_arg4) (View.readAt (Elt Ideal) arg3.view (Rect.unit (s := S1x8x1024x128) (k0_off1 k) ![1, 1, 64, 128] (k0_off1_inb k)).toLoadRect X_arg3) (View.readAt (Elt Ideal) arg8.view (Rect.unit (s := S1x8x16x128) (k0_off3 k) ![1, 1, 1, 128] (k0_off3_inb k)).toLoadRect X_arg8) (View.readAt (Elt Ideal) arg7.view (Rect.unit (s := S1x8x1024x128) (k0_off1 k) ![1, 1, 64, 128] (k0_off1_inb k)).toLoadRect X_arg7))⟩] := by
  unfold trip_k0_t1
  rfl

/-- The trip's stores into the output block, head 7 first. -/
theorem trip_out_list (f11 : BufTy.Contents (Elt Ideal) arg11.view.ty) (f12 : BufTy.Contents (Elt Ideal) arg12.view.ty) :
    (trip_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 k).1 f11 f12 = [
      ⟨Rect.unit (s := S1x1024x1024) (k0_off32 k) ![1, 64, 128] (k0_off32_inb k), k0_pay10 (k0_pay2 v3) (k0_pay7 (View.readAt (Elt Ideal) arg12.view (Rect.unit (s := S8x128x128) ![7, 0, 0] ![1, 128, 128] inb_S8x128x128_S1x128x128_7_0_0).toLoadRect f12) (View.readAt (Elt Ideal) arg4.view (Rect.unit (s := S1x8x1024x128) (k0_off29 k) ![1, 1, 64, 128] (k0_off29_inb k)).toLoadRect X_arg4) (View.readAt (Elt Ideal) arg3.view (Rect.unit (s := S1x8x1024x128) (k0_off29 k) ![1, 1, 64, 128] (k0_off29_inb k)).toLoadRect X_arg3) (View.readAt (Elt Ideal) arg6.view (Rect.unit (s := S1x8x1024x128) (k0_off29 k) ![1, 1, 64, 128] (k0_off29_inb k)).toLoadRect X_arg6) (View.readAt (Elt Ideal) arg5.view (Rect.unit (s := S1x8x1024x64) (k0_off30 k) ![1, 1, 64, 64] (k0_off30_inb k)).toLoadRect X_arg5)) (View.readAt (Elt Ideal) arg9.view (Rect.unit (s := S1x8x1024x128) (k0_off29 k) ![1, 1, 64, 128] (k0_off29_inb k)).toLoadRect X_arg9)⟩,
      ⟨Rect.unit (s := S1x1024x1024) (k0_off28 k) ![1, 64, 128] (k0_off28_inb k), k0_pay10 (k0_pay2 v3) (k0_pay7 (View.readAt (Elt Ideal) arg12.view (Rect.unit (s := S8x128x128) ![6, 0, 0] ![1, 128, 128] inb_S8x128x128_S1x128x128_6_0_0).toLoadRect f12) (View.readAt (Elt Ideal) arg4.view (Rect.unit (s := S1x8x1024x128) (k0_off25 k) ![1, 1, 64, 128] (k0_off25_inb k)).toLoadRect X_arg4) (View.readAt (Elt Ideal) arg3.view (Rect.unit (s := S1x8x1024x128) (k0_off25 k) ![1, 1, 64, 128] (k0_off25_inb k)).toLoadRect X_arg3) (View.readAt (Elt Ideal) arg6.view (Rect.unit (s := S1x8x1024x128) (k0_off25 k) ![1, 1, 64, 128] (k0_off25_inb k)).toLoadRect X_arg6) (View.readAt (Elt Ideal) arg5.view (Rect.unit (s := S1x8x1024x64) (k0_off26 k) ![1, 1, 64, 64] (k0_off26_inb k)).toLoadRect X_arg5)) (View.readAt (Elt Ideal) arg9.view (Rect.unit (s := S1x8x1024x128) (k0_off25 k) ![1, 1, 64, 128] (k0_off25_inb k)).toLoadRect X_arg9)⟩,
      ⟨Rect.unit (s := S1x1024x1024) (k0_off24 k) ![1, 64, 128] (k0_off24_inb k), k0_pay10 (k0_pay2 v3) (k0_pay7 (View.readAt (Elt Ideal) arg12.view (Rect.unit (s := S8x128x128) ![5, 0, 0] ![1, 128, 128] inb_S8x128x128_S1x128x128_5_0_0).toLoadRect f12) (View.readAt (Elt Ideal) arg4.view (Rect.unit (s := S1x8x1024x128) (k0_off21 k) ![1, 1, 64, 128] (k0_off21_inb k)).toLoadRect X_arg4) (View.readAt (Elt Ideal) arg3.view (Rect.unit (s := S1x8x1024x128) (k0_off21 k) ![1, 1, 64, 128] (k0_off21_inb k)).toLoadRect X_arg3) (View.readAt (Elt Ideal) arg6.view (Rect.unit (s := S1x8x1024x128) (k0_off21 k) ![1, 1, 64, 128] (k0_off21_inb k)).toLoadRect X_arg6) (View.readAt (Elt Ideal) arg5.view (Rect.unit (s := S1x8x1024x64) (k0_off22 k) ![1, 1, 64, 64] (k0_off22_inb k)).toLoadRect X_arg5)) (View.readAt (Elt Ideal) arg9.view (Rect.unit (s := S1x8x1024x128) (k0_off21 k) ![1, 1, 64, 128] (k0_off21_inb k)).toLoadRect X_arg9)⟩,
      ⟨Rect.unit (s := S1x1024x1024) (k0_off20 k) ![1, 64, 128] (k0_off20_inb k), k0_pay10 (k0_pay2 v3) (k0_pay7 (View.readAt (Elt Ideal) arg12.view (Rect.unit (s := S8x128x128) ![4, 0, 0] ![1, 128, 128] inb_S8x128x128_S1x128x128_4_0_0).toLoadRect f12) (View.readAt (Elt Ideal) arg4.view (Rect.unit (s := S1x8x1024x128) (k0_off17 k) ![1, 1, 64, 128] (k0_off17_inb k)).toLoadRect X_arg4) (View.readAt (Elt Ideal) arg3.view (Rect.unit (s := S1x8x1024x128) (k0_off17 k) ![1, 1, 64, 128] (k0_off17_inb k)).toLoadRect X_arg3) (View.readAt (Elt Ideal) arg6.view (Rect.unit (s := S1x8x1024x128) (k0_off17 k) ![1, 1, 64, 128] (k0_off17_inb k)).toLoadRect X_arg6) (View.readAt (Elt Ideal) arg5.view (Rect.unit (s := S1x8x1024x64) (k0_off18 k) ![1, 1, 64, 64] (k0_off18_inb k)).toLoadRect X_arg5)) (View.readAt (Elt Ideal) arg9.view (Rect.unit (s := S1x8x1024x128) (k0_off17 k) ![1, 1, 64, 128] (k0_off17_inb k)).toLoadRect X_arg9)⟩,
      ⟨Rect.unit (s := S1x1024x1024) (k0_off16 k) ![1, 64, 128] (k0_off16_inb k), k0_pay10 (k0_pay2 v3) (k0_pay7 (View.readAt (Elt Ideal) arg12.view (Rect.unit (s := S8x128x128) ![3, 0, 0] ![1, 128, 128] inb_S8x128x128_S1x128x128_3_0_0).toLoadRect f12) (View.readAt (Elt Ideal) arg4.view (Rect.unit (s := S1x8x1024x128) (k0_off13 k) ![1, 1, 64, 128] (k0_off13_inb k)).toLoadRect X_arg4) (View.readAt (Elt Ideal) arg3.view (Rect.unit (s := S1x8x1024x128) (k0_off13 k) ![1, 1, 64, 128] (k0_off13_inb k)).toLoadRect X_arg3) (View.readAt (Elt Ideal) arg6.view (Rect.unit (s := S1x8x1024x128) (k0_off13 k) ![1, 1, 64, 128] (k0_off13_inb k)).toLoadRect X_arg6) (View.readAt (Elt Ideal) arg5.view (Rect.unit (s := S1x8x1024x64) (k0_off14 k) ![1, 1, 64, 64] (k0_off14_inb k)).toLoadRect X_arg5)) (View.readAt (Elt Ideal) arg9.view (Rect.unit (s := S1x8x1024x128) (k0_off13 k) ![1, 1, 64, 128] (k0_off13_inb k)).toLoadRect X_arg9)⟩,
      ⟨Rect.unit (s := S1x1024x1024) (k0_off12 k) ![1, 64, 128] (k0_off12_inb k), k0_pay10 (k0_pay2 v3) (k0_pay7 (View.readAt (Elt Ideal) arg12.view (Rect.unit (s := S8x128x128) ![2, 0, 0] ![1, 128, 128] inb_S8x128x128_S1x128x128_2_0_0).toLoadRect f12) (View.readAt (Elt Ideal) arg4.view (Rect.unit (s := S1x8x1024x128) (k0_off9 k) ![1, 1, 64, 128] (k0_off9_inb k)).toLoadRect X_arg4) (View.readAt (Elt Ideal) arg3.view (Rect.unit (s := S1x8x1024x128) (k0_off9 k) ![1, 1, 64, 128] (k0_off9_inb k)).toLoadRect X_arg3) (View.readAt (Elt Ideal) arg6.view (Rect.unit (s := S1x8x1024x128) (k0_off9 k) ![1, 1, 64, 128] (k0_off9_inb k)).toLoadRect X_arg6) (View.readAt (Elt Ideal) arg5.view (Rect.unit (s := S1x8x1024x64) (k0_off10 k) ![1, 1, 64, 64] (k0_off10_inb k)).toLoadRect X_arg5)) (View.readAt (Elt Ideal) arg9.view (Rect.unit (s := S1x8x1024x128) (k0_off9 k) ![1, 1, 64, 128] (k0_off9_inb k)).toLoadRect X_arg9)⟩,
      ⟨Rect.unit (s := S1x1024x1024) (k0_off8 k) ![1, 64, 128] (k0_off8_inb k), k0_pay10 (k0_pay2 v3) (k0_pay7 (View.readAt (Elt Ideal) arg12.view (Rect.unit (s := S8x128x128) ![1, 0, 0] ![1, 128, 128] inb_S8x128x128_S1x128x128_1_0_0).toLoadRect f12) (View.readAt (Elt Ideal) arg4.view (Rect.unit (s := S1x8x1024x128) (k0_off5 k) ![1, 1, 64, 128] (k0_off5_inb k)).toLoadRect X_arg4) (View.readAt (Elt Ideal) arg3.view (Rect.unit (s := S1x8x1024x128) (k0_off5 k) ![1, 1, 64, 128] (k0_off5_inb k)).toLoadRect X_arg3) (View.readAt (Elt Ideal) arg6.view (Rect.unit (s := S1x8x1024x128) (k0_off5 k) ![1, 1, 64, 128] (k0_off5_inb k)).toLoadRect X_arg6) (View.readAt (Elt Ideal) arg5.view (Rect.unit (s := S1x8x1024x64) (k0_off6 k) ![1, 1, 64, 64] (k0_off6_inb k)).toLoadRect X_arg5)) (View.readAt (Elt Ideal) arg9.view (Rect.unit (s := S1x8x1024x128) (k0_off5 k) ![1, 1, 64, 128] (k0_off5_inb k)).toLoadRect X_arg9)⟩,
      ⟨Rect.unit (s := S1x1024x1024) (k0_off4 k) ![1, 64, 128] (k0_off4_inb k), k0_pay10 (k0_pay2 v3) (k0_pay7 (View.readAt (Elt Ideal) arg12.view (Rect.unit (s := S8x128x128) ![0, 0, 0] ![1, 128, 128] inb_S8x128x128_S1x128x128_0_0_0).toLoadRect f12) (View.readAt (Elt Ideal) arg4.view (Rect.unit (s := S1x8x1024x128) (k0_off1 k) ![1, 1, 64, 128] (k0_off1_inb k)).toLoadRect X_arg4) (View.readAt (Elt Ideal) arg3.view (Rect.unit (s := S1x8x1024x128) (k0_off1 k) ![1, 1, 64, 128] (k0_off1_inb k)).toLoadRect X_arg3) (View.readAt (Elt Ideal) arg6.view (Rect.unit (s := S1x8x1024x128) (k0_off1 k) ![1, 1, 64, 128] (k0_off1_inb k)).toLoadRect X_arg6) (View.readAt (Elt Ideal) arg5.view (Rect.unit (s := S1x8x1024x64) (k0_off2 k) ![1, 1, 64, 64] (k0_off2_inb k)).toLoadRect X_arg5)) (View.readAt (Elt Ideal) arg9.view (Rect.unit (s := S1x8x1024x128) (k0_off1 k) ![1, 1, 64, 128] (k0_off1_inb k)).toLoadRect X_arg9)⟩] := by
  unfold trip_k0_t1
  rfl

/-- A state payload over loads at one head's and chunk's offsets is the head's new state. -/
theorem state_at (a3 a7 : Memref sig .tc .vmem S1x8x1024x128 .bf16) (a4 : Memref sig .tc .vmem S1x8x1024x128 .f32)
    (a8 : Memref sig .tc .vmem S1x8x16x128 .f32) (a12 : Memref sig .tc .vmem S8x128x128 .f32)
    (X3 : BufTy.Contents (Elt Ideal) a3.view.ty) (X4 : BufTy.Contents (Elt Ideal) a4.view.ty) (X7 : BufTy.Contents (Elt Ideal) a7.view.ty)
    (X8 : BufTy.Contents (Elt Ideal) a8.view.ty) (f : BufTy.Contents (Elt Ideal) a12.view.ty) (h : Fin 8) (k : ℕ) (hk : k < 16)
    (offr offg : Fin 4 → ℕ) (offs : Fin 3 → ℕ) (hr : offr = ![0, h.val, 64 * k, 0]) (hg : offg = ![0, h.val, k, 0]) (hs : offs = ![h.val, 0, 0])
    (ir : ∀ x, offr x + (![1, 1, 64, 128] : Fin 4 → ℕ) x ≤ S1x8x1024x128.size x)
    (ig : ∀ x, offg x + (![1, 1, 1, 128] : Fin 4 → ℕ) x ≤ S1x8x16x128.size x)
    (is : ∀ x, offs x + (![1, 128, 128] : Fin 3 → ℕ) x ≤ S8x128x128.size x) (i j : Fin 128) :
    k0_pay9 (k0_pay8 (View.readAt (Elt Ideal) a12.view (Rect.unit (s := S8x128x128) offs ![1, 128, 128] is).toLoadRect f)
        (View.readAt (Elt Ideal) a4.view (Rect.unit (s := S1x8x1024x128) offr ![1, 1, 64, 128] ir).toLoadRect X4)
        (View.readAt (Elt Ideal) a3.view (Rect.unit (s := S1x8x1024x128) offr ![1, 1, 64, 128] ir).toLoadRect X3)
        (View.readAt (Elt Ideal) a8.view (Rect.unit (s := S1x8x16x128) offg ![1, 1, 1, 128] ig).toLoadRect X8)
        (View.readAt (Elt Ideal) a7.view (Rect.unit (s := S1x8x1024x128) offr ![1, 1, 64, 128] ir).toLoadRect X7)) (ix3 0 i j)
      = sBlk (a3.view.read (Elt Ideal) X3) (a4.view.read (Elt Ideal) X4) (a7.view.read (Elt Ideal) X7) (a8.view.read (Elt Ideal) X8)
          (a12.view.read (Elt Ideal) f) h k hk i j := by
  rw [state_apply]
  unfold sBlk vBlk
  congr 1
  · funext b; exact readAt_decay a8 X8 h k hk offg hg ig b
  · funext l d; exact readAt_rows a7 X7 h k hk offr hr ir l d
  · congr 1
    · funext l d; exact readAt_rows a3 X3 h k hk offr hr ir l d
    · funext l d; exact readAt_rows a4 X4 h k hk offr hr ir l d
    · funext p q; exact readAt_state a12 f h offs hs is p q
  · funext p q; exact readAt_state a12 f h offs hs is p q

/-- An output payload over loads at one head's and chunk's offsets is the head's output rows. -/
theorem out_at (a3 a6 : Memref sig .tc .vmem S1x8x1024x128 .bf16) (a4 a9 : Memref sig .tc .vmem S1x8x1024x128 .f32)
    (a5 : Memref sig .tc .vmem S1x8x1024x64 .bf16) (a12 : Memref sig .tc .vmem S8x128x128 .f32) (v3 : Vec Ideal S1x128 .f32)
    (X3 : BufTy.Contents (Elt Ideal) a3.view.ty) (X4 : BufTy.Contents (Elt Ideal) a4.view.ty) (X5 : BufTy.Contents (Elt Ideal) a5.view.ty)
    (X6 : BufTy.Contents (Elt Ideal) a6.view.ty) (X9 : BufTy.Contents (Elt Ideal) a9.view.ty) (f : BufTy.Contents (Elt Ideal) a12.view.ty)
    (h : Fin 8) (k : ℕ) (hk : k < 16)
    (offr offq : Fin 4 → ℕ) (offs : Fin 3 → ℕ) (hr : offr = ![0, h.val, 64 * k, 0]) (hq : offq = ![0, h.val, 64 * k, 0]) (hs : offs = ![h.val, 0, 0])
    (ir : ∀ x, offr x + (![1, 1, 64, 128] : Fin 4 → ℕ) x ≤ S1x8x1024x128.size x)
    (iq : ∀ x, offq x + (![1, 1, 64, 64] : Fin 4 → ℕ) x ≤ S1x8x1024x64.size x)
    (is : ∀ x, offs x + (![1, 128, 128] : Fin 3 → ℕ) x ≤ S8x128x128.size x) (l : Fin 64) (j : Fin 128) :
    k0_pay10 (k0_pay2 v3) (k0_pay7 (View.readAt (Elt Ideal) a12.view (Rect.unit (s := S8x128x128) offs ![1, 128, 128] is).toLoadRect f)
        (View.readAt (Elt Ideal) a4.view (Rect.unit (s := S1x8x1024x128) offr ![1, 1, 64, 128] ir).toLoadRect X4)
        (View.readAt (Elt Ideal) a3.view (Rect.unit (s := S1x8x1024x128) offr ![1, 1, 64, 128] ir).toLoadRect X3)
        (View.readAt (Elt Ideal) a6.view (Rect.unit (s := S1x8x1024x128) offr ![1, 1, 64, 128] ir).toLoadRect X6)
        (View.readAt (Elt Ideal) a5.view (Rect.unit (s := S1x8x1024x64) offq ![1, 1, 64, 64] iq).toLoadRect X5))
        (View.readAt (Elt Ideal) a9.view (Rect.unit (s := S1x8x1024x128) offr ![1, 1, 64, 128] ir).toLoadRect X9) (ix3 0 l j)
      = oBlk (a3.view.read (Elt Ideal) X3) (a4.view.read (Elt Ideal) X4) (a5.view.read (Elt Ideal) X5) (a6.view.read (Elt Ideal) X6)
          (a9.view.read (Elt Ideal) X9) v3 (a12.view.read (Elt Ideal) f) h k hk l j := by
  rw [out_apply]
  unfold oBlk
  congr 1
  · funext d
    rw [attn_apply]
    unfold vBlk
    congr 1
    · funext l d; exact readAt_rows a6 X6 h k hk offr hr ir l d
    · funext l d; exact readAt_rows a5 X5 h k hk offq hq iq l d
    · congr 1
      · funext l d; exact readAt_rows a3 X3 h k hk offr hr ir l d
      · funext l d; exact readAt_rows a4 X4 h k hk offr hr ir l d
      · funext p q; exact readAt_state a12 f h offs hs is p q
    · funext p q; exact readAt_state a12 f h offs hs is p q
  · funext d; exact readAt_rows a9 X9 h k hk offr hr ir l d

/-- After trip `k` the state holds, at every head, the head's new state. -/
theorem trip_state_read (hk : k.val < 16) (f11 : BufTy.Contents (Elt Ideal) arg11.view.ty) (f12 : BufTy.Contents (Elt Ideal) arg12.view.ty)
    (h : Fin 8) (p q : Fin 128) :
    arg12.view.read (Elt Ideal) (arg12.view.writes (Elt Ideal) f12 ((trip_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 k).2.1 f11 f12)) (ix3 h p q)
      = sBlk (arg3.view.read (Elt Ideal) X_arg3) (arg4.view.read (Elt Ideal) X_arg4) (arg7.view.read (Elt Ideal) X_arg7) (arg8.view.read (Elt Ideal) X_arg8) (arg12.view.read (Elt Ideal) f12) h k.val hk p q := by
  rw [trip_state_list]
  exact read_heads arg12 f12 _ _ _ _ _ _ _ _ (fun h => sBlk (arg3.view.read (Elt Ideal) X_arg3) (arg4.view.read (Elt Ideal) X_arg4) (arg7.view.read (Elt Ideal) X_arg7) (arg8.view.read (Elt Ideal) X_arg8) (arg12.view.read (Elt Ideal) f12) h k.val hk)
    (state_at arg3 arg7 arg4 arg8 arg12 X_arg3 X_arg4 X_arg7 X_arg8 f12 0 k.val hk _ _ _ (k0_off1_eq k) (k0_off3_eq k) rfl _ _ _)
    (state_at arg3 arg7 arg4 arg8 arg12 X_arg3 X_arg4 X_arg7 X_arg8 f12 1 k.val hk _ _ _ (k0_off5_eq k) (k0_off7_eq k) rfl _ _ _)
    (state_at arg3 arg7 arg4 arg8 arg12 X_arg3 X_arg4 X_arg7 X_arg8 f12 2 k.val hk _ _ _ (k0_off9_eq k) (k0_off11_eq k) rfl _ _ _)
    (state_at arg3 arg7 arg4 arg8 arg12 X_arg3 X_arg4 X_arg7 X_arg8 f12 3 k.val hk _ _ _ (k0_off13_eq k) (k0_off15_eq k) rfl _ _ _)
    (state_at arg3 arg7 arg4 arg8 arg12 X_arg3 X_arg4 X_arg7 X_arg8 f12 4 k.val hk _ _ _ (k0_off17_eq k) (k0_off19_eq k) rfl _ _ _)
    (state_at arg3 arg7 arg4 arg8 arg12 X_arg3 X_arg4 X_arg7 X_arg8 f12 5 k.val hk _ _ _ (k0_off21_eq k) (k0_off23_eq k) rfl _ _ _)
    (state_at arg3 arg7 arg4 arg8 arg12 X_arg3 X_arg4 X_arg7 X_arg8 f12 6 k.val hk _ _ _ (k0_off25_eq k) (k0_off27_eq k) rfl _ _ _)
    (state_at arg3 arg7 arg4 arg8 arg12 X_arg3 X_arg4 X_arg7 X_arg8 f12 7 k.val hk _ _ _ (k0_off29_eq k) (k0_off31_eq k) rfl _ _ _)
    h p q

/-- After trip `k` the rows of chunk `k` hold, at every head's columns, the head's output rows. -/
theorem trip_out_read (hk : k.val < 16) (f11 : BufTy.Contents (Elt Ideal) arg11.view.ty) (f12 : BufTy.Contents (Elt Ideal) arg12.view.ty)
    (h : Fin 8) (l : Fin 64) (j : Fin 128) :
    arg11.view.read (Elt Ideal) (arg11.view.writes (Elt Ideal) f11 ((trip_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 k).1 f11 f12))
        (ix3 0 ⟨64 * k.val + l.val, by omega⟩ ⟨128 * h.val + j.val, by omega⟩)
      = oBlk (arg3.view.read (Elt Ideal) X_arg3) (arg4.view.read (Elt Ideal) X_arg4) (arg5.view.read (Elt Ideal) X_arg5) (arg6.view.read (Elt Ideal) X_arg6) (arg9.view.read (Elt Ideal) X_arg9) v3 (arg12.view.read (Elt Ideal) f12) h k.val hk l j := by
  rw [trip_out_list]
  exact read_cols arg11 f11 k.val hk
    _ _ _ _ _ _ _ _ (k0_off4_eq k) (k0_off8_eq k) (k0_off12_eq k) (k0_off16_eq k) (k0_off20_eq k) (k0_off24_eq k) (k0_off28_eq k) (k0_off32_eq k) _ _ _ _ _ _ _ _ _ _ _ _ _ _ _ _ (fun h => oBlk (arg3.view.read (Elt Ideal) X_arg3) (arg4.view.read (Elt Ideal) X_arg4) (arg5.view.read (Elt Ideal) X_arg5) (arg6.view.read (Elt Ideal) X_arg6) (arg9.view.read (Elt Ideal) X_arg9) v3 (arg12.view.read (Elt Ideal) f12) h k.val hk)
    (out_at arg3 arg6 arg4 arg9 arg5 arg12 v3 X_arg3 X_arg4 X_arg5 X_arg6 X_arg9 f12 0 k.val hk _ _ _ (k0_off1_eq k) (k0_off2_eq k) rfl _ _ _)
    (out_at arg3 arg6 arg4 arg9 arg5 arg12 v3 X_arg3 X_arg4 X_arg5 X_arg6 X_arg9 f12 1 k.val hk _ _ _ (k0_off5_eq k) (k0_off6_eq k) rfl _ _ _)
    (out_at arg3 arg6 arg4 arg9 arg5 arg12 v3 X_arg3 X_arg4 X_arg5 X_arg6 X_arg9 f12 2 k.val hk _ _ _ (k0_off9_eq k) (k0_off10_eq k) rfl _ _ _)
    (out_at arg3 arg6 arg4 arg9 arg5 arg12 v3 X_arg3 X_arg4 X_arg5 X_arg6 X_arg9 f12 3 k.val hk _ _ _ (k0_off13_eq k) (k0_off14_eq k) rfl _ _ _)
    (out_at arg3 arg6 arg4 arg9 arg5 arg12 v3 X_arg3 X_arg4 X_arg5 X_arg6 X_arg9 f12 4 k.val hk _ _ _ (k0_off17_eq k) (k0_off18_eq k) rfl _ _ _)
    (out_at arg3 arg6 arg4 arg9 arg5 arg12 v3 X_arg3 X_arg4 X_arg5 X_arg6 X_arg9 f12 5 k.val hk _ _ _ (k0_off21_eq k) (k0_off22_eq k) rfl _ _ _)
    (out_at arg3 arg6 arg4 arg9 arg5 arg12 v3 X_arg3 X_arg4 X_arg5 X_arg6 X_arg9 f12 6 k.val hk _ _ _ (k0_off25_eq k) (k0_off26_eq k) rfl _ _ _)
    (out_at arg3 arg6 arg4 arg9 arg5 arg12 v3 X_arg3 X_arg4 X_arg5 X_arg6 X_arg9 f12 7 k.val hk _ _ _ (k0_off29_eq k) (k0_off30_eq k) rfl _ _ _)
    h l j

/-- Rows of other chunks are as before trip `k`. -/
theorem trip_out_other (f11 : BufTy.Contents (Elt Ideal) arg11.view.ty) (f12 : BufTy.Contents (Elt Ideal) arg12.view.ty)
    (y : S1x1024x1024.Idx) (hy : (y 1).val < 64 * k.val ∨ 64 * k.val + 64 ≤ (y 1).val) :
    arg11.view.read (Elt Ideal) (arg11.view.writes (Elt Ideal) f11 ((trip_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 k).1 f11 f12)) y
      = arg11.view.read (Elt Ideal) f11 y := by
  rw [trip_out_list]
  exact read_cols_other arg11 f11 k.val
    _ _ _ _ _ _ _ _ (k0_off4_eq k) (k0_off8_eq k) (k0_off12_eq k) (k0_off16_eq k) (k0_off20_eq k) (k0_off24_eq k) (k0_off28_eq k) (k0_off32_eq k) _ _ _ _ _ _ _ _ _ _ _ _ _ _ _ _ y hy

end Cert.Proof.Scan

end
-- ==== Proof.Loop.lean ====
/- The kernel's loop over the chunks of a block: the state and the output rows after its trips. -/
module

public import proofs.«01_k».proof.Proof.Trip
public import proofs.«01_k».proof.Proof.Gen.KernelIdeal.Loops
public import Idealize.ShloMosaic.Lib.WritesUnit

@[expose] public section

set_option maxRecDepth 16384

noncomputable section

open Idealize.ShloMosaic Idealize.ShloMosaic.TcCoe Idealize.SL.Sem
open Cert.KernelIdeal Cert.KernelIdeal.Gen

namespace Cert.Proof.Scan

/-- The state after the first `n` chunks of a block, from the state `S` it is entered with. -/
def stIter (w u kd : S1x8x1024x128.Idx → EReal) (ge : S1x8x16x128.Idx → EReal) (S : S8x128x128.Idx → EReal) : ℕ → (S8x128x128.Idx → EReal)
  | 0 => S
  | n + 1 => if hk : n < 16 then fun y => sBlk w u kd ge (stIter w u kd ge S n) (y 0) n hk (y 1) (y 2) else stIter w u kd ge S n

theorem stIter_succ (w u kd : S1x8x1024x128.Idx → EReal) (ge : S1x8x16x128.Idx → EReal) (S : S8x128x128.Idx → EReal) (n : ℕ) (hk : n < 16) :
    stIter w u kd ge S (n + 1) = fun y => sBlk w u kd ge (stIter w u kd ge S n) (y 0) n hk (y 1) (y 2) := dif_pos hk

theorem trips_eq : k0_t1_loop.trips = 16 := by decide +kernel

variable (𝒱 : Variants) (c : Dev nD) (bd : Option 𝒱.V) (i : grid0.Coords) (arg3 : Memref sig .tc .vmem S1x8x1024x128 .bf16) (harg3 : arg3.IsWhole) (arg4 :
  Memref sig .tc .vmem S1x8x1024x128 .f32) (harg4 : arg4.IsWhole) (arg5 : Memref sig .tc .vmem S1x8x1024x64 .bf16) (harg5 : arg5.IsWhole) (arg6 : Memref
  sig .tc .vmem S1x8x1024x128 .bf16) (harg6 : arg6.IsWhole) (arg7 : Memref sig .tc .vmem S1x8x1024x128 .bf16) (harg7 : arg7.IsWhole) (arg8 : Memref sig
  .tc .vmem S1x8x16x128 .f32) (harg8 : arg8.IsWhole) (arg9 : Memref sig .tc .vmem S1x8x1024x128 .f32) (harg9 : arg9.IsWhole) (arg10 : Memref sig .tc
  .vmem S1x128 .f32) (harg10 : arg10.IsWhole) (arg11 : Memref sig .tc .vmem S1x1024x1024 .bf16) (harg11 : arg11.IsWhole) (arg12 : Memref sig .tc .vmem
  S8x128x128 .f32) (harg12 : arg12.IsWhole) (v3 : Vec Ideal S1x128 .f32) (X_arg3 : BufTy.Contents (Elt Ideal) arg3.view.ty) (X_arg4 : BufTy.Contents
  (Elt Ideal) arg4.view.ty) (X_arg5 : BufTy.Contents (Elt Ideal) arg5.view.ty) (X_arg6 : BufTy.Contents (Elt Ideal) arg6.view.ty) (X_arg7 :
  BufTy.Contents (Elt Ideal) arg7.view.ty) (X_arg8 : BufTy.Contents (Elt Ideal) arg8.view.ty) (X_arg9 : BufTy.Contents (Elt Ideal) arg9.view.ty)
  (G11 : BufTy.Contents (Elt Ideal) arg11.view.ty) (G12 : BufTy.Contents (Elt Ideal) arg12.view.ty)

theorem loop_state (n : ℕ) (hn : n ≤ 16) :
    arg12.view.read (Elt Ideal) (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 n).2)
      = stIter (arg3.view.read (Elt Ideal) X_arg3) (arg4.view.read (Elt Ideal) X_arg4) (arg7.view.read (Elt Ideal) X_arg7) (arg8.view.read (Elt Ideal) X_arg8) (arg12.view.read (Elt Ideal) G12) n := by
  induction n with
  | zero => rfl
  | succ n ih =>
    have hk : n < 16 := by omega
    have e := pb_k0_t1_succ (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 ⟨n, by rw [trips_eq]; exact hk⟩
    dsimp only at e
    rw [e, View.writes_append]
    funext y
    rw [eq_ix3 y]
    refine (trip_state_read 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 ⟨n, by rw [trips_eq]; exact hk⟩ hk _ _ (y 0) (y 1) (y 2)).trans ?_
    rw [ih (by omega)]
    rw [stIter_succ _ _ _ _ _ n hk]
    rfl

theorem loop_out (n : ℕ) (hn : n ≤ 16) (k : ℕ) (hkn : k < n) (hk : k < 16) (h : Fin 8) (l : Fin 64) (j : Fin 128) :
    arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 n).1)
        (ix3 0 ⟨64 * k + l.val, by omega⟩ ⟨128 * h.val + j.val, by omega⟩)
      = oBlk (arg3.view.read (Elt Ideal) X_arg3) (arg4.view.read (Elt Ideal) X_arg4) (arg5.view.read (Elt Ideal) X_arg5) (arg6.view.read (Elt Ideal) X_arg6) (arg9.view.read (Elt Ideal) X_arg9) v3
          (stIter (arg3.view.read (Elt Ideal) X_arg3) (arg4.view.read (Elt Ideal) X_arg4) (arg7.view.read (Elt Ideal) X_arg7) (arg8.view.read (Elt Ideal) X_arg8) (arg12.view.read (Elt Ideal) G12) k) h k hk l j := by
  induction n with
  | zero => omega
  | succ n ih =>
    have hn' : n < 16 := by omega
    have e := pb_k0_t1_succ (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 ⟨n, by rw [trips_eq]; exact hn'⟩
    dsimp only at e
    rw [e, View.writes_append]
    by_cases hc : k = n
    · subst hc
      refine (trip_out_read 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 ⟨k, by rw [trips_eq]; exact hk⟩ hk _ _ h l j).trans ?_
      rw [loop_state 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 k (by omega)]
    · refine (trip_out_other 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 ⟨n, by rw [trips_eq]; exact hn'⟩ _ _ _ (Or.inl ?_)).trans (ih (by omega) (by omega))
      show 64 * k + l.val < 64 * n
      omega

/-- What a block leaves in the output, from the state `S` it is entered with. -/
def outOf (w u : S1x8x1024x128.Idx → EReal) (qk : S1x8x1024x64.Idx → EReal) (qg kd : S1x8x1024x128.Idx → EReal) (ge : S1x8x16x128.Idx → EReal)
    (z : S1x8x1024x128.Idx → EReal) (nw : S1x128.Idx → EReal) (S : S8x128x128.Idx → EReal) (y : S1x1024x1024.Idx) : EReal :=
  oBlk w u qk qg z nw (stIter w u kd ge S ((y 1).val / 64)) ⟨(y 2).val / 128, Nat.div_lt_of_lt_mul (y 2).isLt⟩ ((y 1).val / 64)
    (Nat.div_lt_of_lt_mul (y 1).isLt) ⟨(y 1).val % 64, Nat.mod_lt _ (by decide)⟩ ⟨(y 2).val % 128, Nat.mod_lt _ (by decide)⟩

theorem loop_state_all :
    arg12.view.read (Elt Ideal) (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 (Scf.trips k0_t1_loop.lb k0_t1_loop.ub k0_t1_loop.st)).2)
      = stIter (arg3.view.read (Elt Ideal) X_arg3) (arg4.view.read (Elt Ideal) X_arg4) (arg7.view.read (Elt Ideal) X_arg7) (arg8.view.read (Elt Ideal) X_arg8) (arg12.view.read (Elt Ideal) G12) 16 :=
  (congrArg (fun n => arg12.view.read (Elt Ideal) (arg12.view.writes (Elt Ideal) G12 (pb_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 n).2)) trips_eq).trans
    (loop_state 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 16 le_rfl)

theorem loop_out_all :
    arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 (Scf.trips k0_t1_loop.lb k0_t1_loop.ub k0_t1_loop.st)).1)
      = outOf (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) (arg9.view.read (Elt Ideal) X_arg9) v3
          (arg12.view.read (Elt Ideal) G12) := by
  refine (congrArg (fun n => arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 n).1)) trips_eq).trans ?_
  funext y
  have h1 : (y 1).val < 1024 := (y 1).isLt
  have h2 : (y 2).val < 1024 := (y 2).isLt
  refine Eq.trans (congrArg _ ?_) (loop_out 𝒱 c bd i arg3 harg3 arg4 harg4 arg5 harg5 arg6 harg6 arg7 harg7 arg8 harg8 arg9 harg9 arg10 harg10 arg11 harg11 arg12 harg12 v3 X_arg3 X_arg4 X_arg5 X_arg6 X_arg7 X_arg8 X_arg9 G11 G12 16 le_rfl ((y 1).val / 64) (by omega) (by omega)
    ⟨(y 2).val / 128, by omega⟩ ⟨(y 1).val % 64, by omega⟩ ⟨(y 2).val % 128, by omega⟩)
  refine (eq_ix3 y).trans ?_
  congr 1
  · exact Subsingleton.elim (α := Fin 1) _ _
  · exact Fin.ext (Nat.div_add_mod _ _).symm
  · exact Fin.ext (Nat.div_add_mod _ _).symm

end Cert.Proof.Scan

end
-- ==== Proof.BodyIdeal.lean ====
/-
  The body of the scan at one grid point, over the extended reals: what it leaves in its output block and in its state.
-/
module

public import proofs.«01_k».proof.Proof.Gen.KernelIdeal.Frame.Runs
public import proofs.«01_k».proof.Proof.Loop
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Proof.Scan

/-- The state a batch entry starts from. -/
def zeroSt : S8x128x128.Idx → EReal := fun _ => 0

theorem readAt_norm (a : Memref sig .tc .vmem S1x128 .f32) (X : BufTy.Contents (Elt Ideal) a.view.ty) :
    View.readAt (Elt Ideal) a.view (Rect.unit ![0, 0] S1x128.size inb_S1x128_S1x128_0_0).toLoadRect X = a.view.read (Elt Ideal) X := by
  funext y
  show a.view.read (Elt Ideal) X _ = _
  congr 1
  funext x
  apply Fin.ext
  match x with
  | ⟨0, _⟩ => show 0 + 1 * (y 0).val = (y 0).val; omega
  | ⟨1, _⟩ => show 0 + 1 * (y 1).val = (y 1).val; omega

theorem read_zeros (a : Memref sig .tc .vmem S8x128x128 .f32) (X : BufTy.Contents (Elt Ideal) a.view.ty) :
    a.view.read (Elt Ideal) (a.view.writes (Elt Ideal) X
      [⟨Rect.unit (s := S8x128x128) ![0, 0, 0] S8x128x128.size inb_S8x128x128_S8x128x128_0_0_0, k0_pay1 (F := Ideal)⟩]) = zeroSt := by
  funext y
  refine (View.read_writes_cons_unit_of_mem _ _ _ _ _ _ y rfl (fun a => ?_)).trans ?_
  · match a with
    | ⟨0, _⟩ => exact (Nat.zero_add _).symm
    | ⟨1, _⟩ => exact (Nat.zero_add _).symm
    | ⟨2, _⟩ => exact (Nat.zero_add _).symm
  · rw [eq_ix3 y]
    unfold k0_pay1 zeroSt
    pointwise

set_option maxHeartbeats 1000000 in
/-- The body at a point that starts a batch entry: what it leaves in the output block and in the state. -/
theorem runA  (c : Dev nD) (i : grid0.Coords) (arg3 : Memref sig .tc .vmem S1x8x1024x128 .bf16) (harg3 : arg3.IsWhole) (arg4 : Memref sig .tc .vmem S1x8x1024x128 .f32) (harg4 : arg4.IsWhole) (arg5 : Memref sig .tc .vmem S1x8x1024x64 .bf16) (harg5 : arg5.IsWhole) (arg6 : Memref sig .tc .vmem S1x8x1024x128 .bf16) (harg6 : arg6.IsWhole) (arg7 : Memref sig .tc .vmem S1x8x1024x128 .bf16) (harg7 : arg7.IsWhole) (arg8 : Memref sig .tc .vmem S1x8x16x128 .f32) (harg8 : arg8.IsWhole) (arg9 : Memref sig .tc .vmem S1x8x1024x128 .f32) (harg9 : arg9.IsWhole) (arg10 : Memref sig .tc .vmem S1x128 .f32) (harg10 : arg10.IsWhole) (arg11 : Memref sig .tc .vmem S1x1024x1024 .bf16) (harg11 : arg11.IsWhole) (arg12 : Memref sig .tc .vmem S8x128x128 .f32) (harg12 : arg12.IsWhole) (hc0 : cond0_0 i)
    (x0 : Vec Ideal S1x8x1024x128 .bf16) (x1 : Vec Ideal S1x8x1024x128 .f32) (x2 : Vec Ideal S1x8x1024x64 .bf16) (x3 : Vec Ideal S1x8x1024x128 .bf16) (x4 : Vec Ideal S1x8x1024x128 .bf16) (x5 : Vec Ideal S1x8x16x128 .f32) (x6 : Vec Ideal S1x8x1024x128 .f32) (x7 : Vec Ideal S1x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outOf x0 x1 x2 x3 x4 x5 x6 x7 zeroSt) ∗ owns (c : Thread nD τ) arg12 fullShare (stIter x0 x1 x4 x5 zeroSt 16)) -∗ K ⟨⟩))
          ⊢ wp frame (wpE (defs₀ (F := Ideal)) Variants.none c none) E (cc0_gdn_scan i arg3 harg3 arg4 harg4 arg5 harg5 arg6 harg6 arg7 harg7 arg8 harg8 arg9 harg9 arg10 harg10 arg11 harg11 arg12 harg12) K := by
    simp only [cc0_gdn_scan_eq_skeleton]; unfold cc0_gdn_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      refine (loop_out_all _ c none i arg3 harg3 arg4 harg4 arg5 harg5 arg6 harg6 arg7 harg7 arg8 harg8 arg9 harg9 arg10 harg10 arg11 harg11 arg12 harg12 _ _ _ _ _ _ _ _ _ _).trans ?_
      rw [harg3.read_unread, harg4.read_unread, harg5.read_unread, harg6.read_unread, harg7.read_unread, harg8.read_unread, harg9.read_unread, readAt_norm, harg10.read_unread]
      exact congrArg _ (read_zeros arg12 _)
    iexists _; isplitr; swap; · iexact HS0
    ipureintro
    rw [View.writes_append]
    refine (loop_state_all _ c none i arg3 harg3 arg4 harg4 arg5 harg5 arg6 harg6 arg7 harg7 arg8 harg8 arg9 harg9 arg10 harg10 arg11 harg11 arg12 harg12 _ _ _ _ _ _ _ _ _ _).trans ?_
    rw [harg3.read_unread, harg4.read_unread, harg7.read_unread, harg8.read_unread]
    exact congrArg (fun S => stIter x0 x1 x4 x5 S 16) (read_zeros arg12 _)

set_option maxHeartbeats 1000000 in
/-- The body at a point that carries the state on: what it leaves in the output block and in the state. -/
theorem runB  (c : Dev nD) (i : grid0.Coords) (arg3 : Memref sig .tc .vmem S1x8x1024x128 .bf16) (harg3 : arg3.IsWhole) (arg4 : Memref sig .tc .vmem S1x8x1024x128 .f32) (harg4 : arg4.IsWhole) (arg5 : Memref sig .tc .vmem S1x8x1024x64 .bf16) (harg5 : arg5.IsWhole) (arg6 : Memref sig .tc .vmem S1x8x1024x128 .bf16) (harg6 : arg6.IsWhole) (arg7 : Memref sig .tc .vmem S1x8x1024x128 .bf16) (harg7 : arg7.IsWhole) (arg8 : Memref sig .tc .vmem S1x8x16x128 .f32) (harg8 : arg8.IsWhole) (arg9 : Memref sig .tc .vmem S1x8x1024x128 .f32) (harg9 : arg9.IsWhole) (arg10 : Memref sig .tc .vmem S1x128 .f32) (harg10 : arg10.IsWhole) (arg11 : Memref sig .tc .vmem S1x1024x1024 .bf16) (harg11 : arg11.IsWhole) (arg12 : Memref sig .tc .vmem S8x128x128 .f32) (harg12 : arg12.IsWhole) (hc0 : ¬cond0_0 i)
    (x0 : Vec Ideal S1x8x1024x128 .bf16) (x1 : Vec Ideal S1x8x1024x128 .f32) (x2 : Vec Ideal S1x8x1024x64 .bf16) (x3 : Vec Ideal S1x8x1024x128 .bf16) (x4 : Vec Ideal S1x8x1024x128 .bf16) (x5 : Vec Ideal S1x8x16x128 .f32) (x6 : Vec Ideal S1x8x1024x128 .f32) (x7 : Vec Ideal S1x128 .f32) (xs : Vec Ideal S8x128x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outOf x0 x1 x2 x3 x4 x5 x6 x7 xs) ∗ owns (c : Thread nD τ) arg12 fullShare (stIter x0 x1 x4 x5 xs 16)) -∗ K ⟨⟩))
          ⊢ wp frame (wpE (defs₀ (F := Ideal)) Variants.none c none) E (cc0_gdn_scan i arg3 harg3 arg4 harg4 arg5 harg5 arg6 harg6 arg7 harg7 arg8 harg8 arg9 harg9 arg10 harg10 arg11 harg11 arg12 harg12) K := by
    simp only [cc0_gdn_scan_eq_skeleton]; unfold cc0_gdn_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      refine (loop_out_all _ c none i arg3 harg3 arg4 harg4 arg5 harg5 arg6 harg6 arg7 harg7 arg8 harg8 arg9 harg9 arg10 harg10 arg11 harg11 arg12 harg12 _ _ _ _ _ _ _ _ _ _).trans ?_
      rw [harg3.read_unread, harg4.read_unread, harg5.read_unread, harg6.read_unread, harg7.read_unread, harg8.read_unread, harg9.read_unread, readAt_norm, harg10.read_unread, harg12.read_unread]
    iexists _; isplitr; swap; · iexact HS0
    ipureintro
    skip
    refine (loop_state_all _ c none i arg3 harg3 arg4 harg4 arg5 harg5 arg6 harg6 arg7 harg7 arg8 harg8 arg9 harg9 arg10 harg10 arg11 harg11 arg12 harg12 _ _ _ _ _ _ _ _ _ _).trans ?_
    rw [harg3.read_unread, harg4.read_unread, harg7.read_unread, harg8.read_unread, harg12.read_unread]

end Cert.KernelIdeal.Run

end
-- ==== Proof.RunIdeal.lean ====
/-
  The scan's run over the extended reals: the array it leaves, block by block.
-/
module

public import proofs.«01_k».proof.Proof.BodyIdeal
public import Idealize.ShloMosaic.Lib.Pipeline.Value
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Proof.Scan

variable (m : (ℓ : Loc nD τ sig) → Buf (Elt Ideal) ℓ) (ρ : Dev nD → PrngReg)

/-- The state point `n` is entered with: zero at the first block of a batch entry, what the point before left elsewhere. -/
def entrySt (c : Dev nD) : (n : ℕ) → n < cfg0.N → (S8x128x128.Idx → EReal)
  | 0, _ => zeroSt
  | n + 1, hn => if (n + 1) % 4 = 0 then zeroSt else
      stIter (iblk m c 0 ⟨n, by omega⟩) (iblk m c 1 ⟨n, by omega⟩) (iblk m c 4 ⟨n, by omega⟩) (iblk m c 5 ⟨n, by omega⟩)
        (entrySt c n (by omega)) 16

theorem entrySt_reset (c : Dev nD) (n : ℕ) (hn : n < cfg0.N) (h0 : n % 4 = 0) : entrySt m c n hn = zeroSt := by
  cases n with
  | zero => rfl
  | succ n => exact if_pos h0

/-- The state point `t` leaves. -/
def leftSt (c : Dev nD) (t : Fin cfg0.N) : S8x128x128.Idx → EReal :=
  stIter (iblk m c 0 t) (iblk m c 1 t) (iblk m c 4 t) (iblk m c 5 t) (entrySt m c t.val t.isLt) 16

theorem entrySt_carry (c : Dev nD) (n : ℕ) (hn : n < cfg0.N) (h0 : ¬ n % 4 = 0) :
    entrySt m c n hn = leftSt m c ⟨n - 1, by omega⟩ := by
  cases n with
  | zero => exact absurd rfl h0
  | succ n => exact if_neg h0

/-- The output block point `t` leaves. -/
def outBlock (c : Dev nD) (t : Fin cfg0.N) : S1x1024x1024.Idx → EReal :=
  outOf (iblk m c 0 t) (iblk m c 1 t) (iblk m c 2 t) (iblk m c 3 t) (iblk m c 4 t) (iblk m c 5 t) (iblk m c 6 t) (iblk m c 7 t) (entrySt m c t.val t.isLt)

/-- The invariant before position `n`: the state at anything before the first point, at what the point before left after it. -/
def PhiS (c : Dev nD) : (n : ℕ) → n ≤ cfg0.N → sProp 𝕄
  | 0, _ => Pipeline.ΦA spec0 c
  | n + 1, hn => iprop(iprop(owns (c : Thread nD τ) scM0_0 fullShare (leftSt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (leftSt m c ⟨n - 1, by omega⟩)) ∗ (∃ r, prngReg c r)) := by
  cases n with
  | zero => exact absurd rfl hz
  | succ n => rfl

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = outBlock m c t := by dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = iprop(iprop(owns (c : Thread nD τ) scM0_0 fullShare (leftSt m c t)) ∗ (∃ r, prngReg c r)) from rfl]
  by_cases h0 : t.val % 4 = 0
  · unfold leftSt outBlock
    rw [entrySt_reset m c _ _ h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runA c (grid0.coords t) _ _ _ _ _ _ _ _ _ _ _ _ _ _ _ _ _ _ _ (Memref.isWhole_whole _) ((hcond0_0 t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runA c (grid0.coords t) _ _ _ _ _ _ _ _ _ _ _ _ _ _ _ _ _ _ _ (Memref.isWhole_whole _) ((hcond0_0 t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, H8, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    rw [PhiS_castSucc m c t, PhiS_pos m c _ _ hz]
    have e := entrySt_carry m c t.val t.isLt h0
    rw [← e]
    unfold outBlock
    rw [show leftSt m c t = stIter (iblk m c 0 t) (iblk m c 1 t) (iblk m c 4 t) (iblk m c 5 t) (entrySt m c t.val t.isLt) 16 from rfl]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (entrySt m c t.val t.isLt) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, H8, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

-- the launch theorem's implicit arguments are found by unifying its conclusion with this one
set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The scan runs, leaves its arguments as they were and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

abbrev loc8Of (i : S4x4096x1024.Idx) : S1x1024x1024.Idx := ix3 0 ⟨(i 1).val % 1024, Nat.mod_lt _ (by decide)⟩ ⟨(i 2).val % 1024, Nat.mod_lt _ (by decide)⟩

theorem ptLt (i : S4x4096x1024.Idx) : 4 * (i 0).val + (i 1).val / 1024 < cfg0.N := by
  have h0 : (i 0).val < 4 := (i 0).isLt
  have h1 : (i 1).val < 4096 := (i 1).isLt
  rw [show cfg0.N = 16 from N_0]; omega

/-- The grid point that writes index `i` of the result. -/
abbrev ptOf (i : S4x4096x1024.Idx) : Fin cfg0.N := ⟨4 * (i 0).val + (i 1).val / 1024, ptLt i⟩

/-- The array the run leaves. -/
def outArr (c : Dev nD) : Buf (Elt Ideal) ((c : Thread nD τ).loc main_v3) := fun i => outBlock m c (ptOf i) (loc8Of i)

theorem idx_facts8 : ∀ t : Fin cfg0.N, 0 ≤ win0_8.index t (0 : Fin 3) ∧ win0_8.index t (0 : Fin 3) ≤ 3
    ∧ 0 ≤ win0_8.index t (1 : Fin 3) ∧ win0_8.index t (1 : Fin 3) ≤ 3
    ∧ 0 ≤ win0_8.index t (2 : Fin 3) ∧ win0_8.index t (2 : Fin 3) ≤ 0
    ∧ 4 * (win0_8.index t (0 : Fin 3) - 0) + 1 * (win0_8.index t (1 : Fin 3) - 0) + 1 * (win0_8.index t (2 : Fin 3) - 0) = t.val :=
  (by decide +kernel : ∀ t : Fin grid0.N, _)

abbrev onto8Pt (q0 : Fin 4) (q1 : Fin 4) (q2 : Fin 1) : Fin grid0.N :=
  ⟨4 * q0.val + 1 * q1.val + 1 * q2.val, lt_of_lt_of_eq (by omega) N_0.symm⟩
theorem idx_onto8 : ∀ (q0 : Fin 4) (q1 : Fin 4) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 4) (q1 : Fin 4) (q2 : Fin 1), win0_8.flush (onto8Pt q0 q1 q2) = true ∧ win0_8.index (onto8Pt q0 q1 q2) = ![q0.val + 0, q1.val + 0, q2.val + 0]) q0 q1 q2⟩

theorem flushed8_eq (c : Dev nD) (t : Fin cfg0.N) (hf : (cfg0.win 8).flush t = true) :
    (dats m 0 c).flushed 8 t = ((cfg0.win 8).blk t).view.read (Elt Ideal) (outArr m c) := by
  show (cfg0.win 8).cut (grid0.coords t) ((dats m 0 c).after 8 t) = _
  rw [after0_8]
  obtain ⟨e0, e1, e2, e3⟩ := idx_facts8 t
  funext y
  have hy0 : (y 0).val < 1 := (y 0).isLt
  have hy1 : (y 1).val < 1024 := (y 1).isLt
  have hy2 : (y 2).val < 1024 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 1024 + 1 * (y 1).val := rfl
  have hb2 : (((cfg0.win 8).blk t).view.emb y 2).val = win0_8.index t (2 : Fin 3) * 1024 + 1 * (y 2).val := rfl
  have hl : loc8Of (((cfg0.win 8).blk t).view.emb y) = (cfg0.win 8).xinj (grid0.coords t) y := by
    funext a; apply Fin.ext
    match a with
    | ⟨0, _⟩ => show 0 = (y 0).val; omega
    | ⟨1, _⟩ => show (((cfg0.win 8).blk t).view.emb y 1).val % 1024 = (y 1).val; rw [hb1]; omega
    | ⟨2, _⟩ => show (((cfg0.win 8).blk t).view.emb y 2).val % 1024 = (y 2).val; rw [hb2]; omega
  have hp : ptOf (((cfg0.win 8).blk t).view.emb y) = t := by
    apply Fin.ext
    show 4 * (((cfg0.win 8).blk t).view.emb y 0).val + (((cfg0.win 8).blk t).view.emb y 1).val / 1024 = t.val
    rw [hb0, hb1]; omega
  show outBlock m c t ((cfg0.win 8).xinj (grid0.coords t) y) = outArr m c (((cfg0.win 8).blk t).view.emb y)
  unfold outArr
  rw [hp, hl]

theorem mem_blk8 (t : Fin cfg0.N) (i : S4x4096x1024.Idx) :
    i ∈ ((cfg0.win 8).blk t).view.set ↔ ∀ a : Fin 3, win0_8.index t a * S1x1024x1024.size a ≤ (i a).val ∧ (i a).val < win0_8.index t a * S1x1024x1024.size a + S1x1024x1024.size a := by
  show i ∈ ((View.whole main_v3).slice (win0_8.rect t)).set ↔ _
  rw [View.set_slice_whole, Rect.mem_set_unit]
  exact Iff.rfl

theorem covered_iff8 (i : S4x4096x1024.Idx) :
    (∃ t : Fin cfg0.N, (cfg0.win 8).flush t = true ∧ i ∈ ((cfg0.win 8).blk t).view.set) ↔ 0 ≤ (i 0).val ∧ (i 0).val < 4 ∧ 0 ≤ (i 1).val ∧ (i 1).val < 4096 ∧ 0 ≤ (i 2).val ∧ (i 2).val < 1024 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 1024 ≤ (i 1).val ∧ (i 1).val < win0_8.index t (1 : Fin 3) * 1024 + 1024 := hi 1
    have b2 : win0_8.index t (2 : Fin 3) * 1024 ≤ (i 2).val ∧ (i 2).val < win0_8.index t (2 : Fin 3) * 1024 + 1024 := hi 2
    obtain ⟨e0, e1, e2, e3⟩ := idx_facts8 t
    omega
  · intro h
    have hi0 : (i 0).val < 4 := (i 0).isLt
    have hi1 : (i 1).val < 4096 := (i 1).isLt
    have hi2 : (i 2).val < 1024 := (i 2).isLt
    obtain ⟨t, hft, ht⟩ := idx_onto8 ⟨(i 0).val / 1 - 0, by omega⟩ ⟨(i 1).val / 1024 - 0, by omega⟩ ⟨(i 2).val / 1024 - 0, by omega⟩
    have q0 : win0_8.index t (0 : Fin 3) = (i 0).val / 1 - 0 + 0 := congrFun ht 0
    have q1 : win0_8.index t (1 : Fin 3) = (i 1).val / 1024 - 0 + 0 := congrFun ht 1
    have q2 : win0_8.index t (2 : Fin 3) = (i 2).val / 1024 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 1024 ≤ (i 1).val ∧ (i 1).val < win0_8.index t (1 : Fin 3) * 1024 + 1024; omega
    | ⟨2, _⟩ => show win0_8.index t (2 : Fin 3) * 1024 ≤ (i 2).val ∧ (i 2).val < win0_8.index t (2 : Fin 3) * 1024 + 1024; omega

theorem final8 (c : Dev nD) : (dats m 0 c).arrAt 8 cfg0.N = outArr m c :=
  (dats m 0 c).arrAt_eq_of_cover 8 _ (fun t hf => flushed8_eq m c t hf) (fun i => (covered_iff8 i).2 (by
    have h0 : (i 0).val < 4 := (i 0).isLt; have h1 : (i 1).val < 4096 := (i 1).isLt; have h2 : (i 2).val < 1024 := (i 2).isLt; omega))

/-- The run: the result holds `outArr`, the arguments are as they were. -/
theorem run : θ_run defs (onTc (τ := τ) (main (F := Ideal))) ⟨m, fun _ => 0, ρ⟩ fun r => (∀ c : Dev nD,
      r.2.mem ((c : Thread nD τ).loc main_v3) = outArr m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h => ⟨fun c => ((h.1.1 c).1 8).trans (final8 m c), h.2.1⟩)
    (θ_run_and (run_main m ρ) (frame m ρ))

end Cert.KernelIdeal.Run

end
-- ==== Proof.RefScan.lean ====
/- The reference's recurrence, chunk by chunk, as plain sums over the arguments. -/
module

public import proofs.«01_k».proof.Proof.Head
public import proofs.«01_k».proof.Proof.Gen.ReferenceIdeal.Step
public import Idealize.ShloMosaic.Lib.Pointwise
public import Idealize.ShloMosaic.Lib.DynamicIndex

@[expose] public section

set_option maxRecDepth 16384

noncomputable section

open Idealize.ShloMosaic Idealize.ShloMosaic.TcCoe Idealize.SL.Sem

namespace Cert.Proof.Scan

/-- Chunk `q`'s rows of head `h` of batch element `b`. -/
def chunkRows {n : ℕ} (X : (⟨4, ![4, 8, 4096, n]⟩ : Shape).Idx → EReal) (b : Fin 4) (h : Fin 8) (q : Fin 64) (l : Fin 64) (d : Fin n) : EReal :=
  X (ix4 b h ⟨64 * q.val + l.val, by omega⟩ d)

/-- The state before chunk `n`: zero, then the recurrence chunk by chunk. -/
def gdnState (w u kd : (⟨4, ![4, 8, 4096, 128]⟩ : Shape).Idx → EReal) (ge : (⟨3, ![4, 8, 64]⟩ : Shape).Idx → EReal) (b : Fin 4) (h : Fin 8) :
    ℕ → Fin 128 → Fin 128 → EReal
  | 0 => fun _ _ => 0
  | n + 1 =>
    if hn : n < 64 then
      sNew (fun _ => ge (ix3 b h ⟨n, hn⟩)) (chunkRows kd b h ⟨n, hn⟩)
        (vNew (chunkRows w b h ⟨n, hn⟩) (chunkRows u b h ⟨n, hn⟩) (gdnState w u kd ge b h n)) (gdnState w u kd ge b h n)
    else gdnState w u kd ge b h n

theorem gdnState_succ (w u kd : (⟨4, ![4, 8, 4096, 128]⟩ : Shape).Idx → EReal) (ge : (⟨3, ![4, 8, 64]⟩ : Shape).Idx → EReal) (b : Fin 4) (h : Fin 8)
    (n : ℕ) (hn : n < 64) :
    gdnState w u kd ge b h (n + 1) = sNew (fun _ => ge (ix3 b h ⟨n, hn⟩)) (chunkRows kd b h ⟨n, hn⟩)
        (vNew (chunkRows w b h ⟨n, hn⟩) (chunkRows u b h ⟨n, hn⟩) (gdnState w u kd ge b h n)) (gdnState w u kd ge b h n) := dif_pos hn

/-- Chunk `q`'s output rows, before the normalisation. -/
def gdnOut (w u : (⟨4, ![4, 8, 4096, 128]⟩ : Shape).Idx → EReal) (qk : (⟨4, ![4, 8, 4096, 64]⟩ : Shape).Idx → EReal)
    (qg kd : (⟨4, ![4, 8, 4096, 128]⟩ : Shape).Idx → EReal) (ge : (⟨3, ![4, 8, 64]⟩ : Shape).Idx → EReal) (b : Fin 4) (h : Fin 8) (q : Fin 64) :
    Fin 64 → Fin 128 → EReal :=
  oNew (chunkRows qg b h q) (chunkRows qk b h q)
    (vNew (chunkRows w b h q) (chunkRows u b h q) (gdnState w u kd ge b h q.val)) (gdnState w u kd ge b h q.val)

open Cert.ReferenceIdeal Cert.ReferenceIdeal.Gen Cert.ReferenceIdeal.Step

/-- A slice of one chunk at the trip's number is the chunk of that number. -/
theorem slice5 {n : ℕ} (X : (⟨5, ![64, 4, 8, 64, n]⟩ : Shape).Idx → EReal) (st : Fin 5 → Int) (j : ℕ) (hj : j < 64)
    (h0 : st 0 = j) (h1 : st 1 = 0) (h2 : st 2 = 0) (h3 : st 3 = 0) (h4 : st 4 = 0)
    (hf) (b : Fin 4) (h : Fin 8) (l : Fin 64) (d : Fin n) :
    Host.dynamicSlice (s := ⟨5, ![64, 4, 8, 64, n]⟩) ⟨5, ![1, 4, 8, 64, n]⟩ X st hf (ix5 0 b h l d) = X (ix5 ⟨j, hj⟩ b h l d) := by
  unfold Host.dynamicSlice
  refine congrArg X (funext fun a => Fin.ext ?_)
  match a with
  | ⟨0, _⟩ =>
    show (min (max (st 0) 0) ((64 - 1 : ℕ) : Int)).toNat + 0 = j
    rw [h0]; omega
  | ⟨1, _⟩ =>
    show (min (max (st 1) 0) ((4 - 4 : ℕ) : Int)).toNat + b.val = b.val
    rw [h1]; simp
  | ⟨2, _⟩ =>
    show (min (max (st 2) 0) ((8 - 8 : ℕ) : Int)).toNat + h.val = h.val
    rw [h2]; simp
  | ⟨3, _⟩ =>
    show (min (max (st 3) 0) ((64 - 64 : ℕ) : Int)).toNat + l.val = l.val
    rw [h3]; simp
  | ⟨4, _⟩ =>
    show (min (max (st 4) 0) ((n - n : ℕ) : Int)).toNat + d.val = d.val
    rw [h4]; simp

theorem start_int (j : ℕ) (hj : j < 64) : ((BitVec.ofNat 32 j).toInt) = j := toInt_ofNat_of_lt (by omega)

/-- A chunk array with its leading axis of size one dropped. -/
theorem drop5 (X : S1x4x8x64x128.Idx → EReal) (b : Fin 4) (h : Fin 8) (l : Fin 64) (d : Fin 128) :
    shapeCast S4x8x64x128 X shapeCasts_S1x4x8x64x128_S4x8x64x128 (ix4 b h l d) = X (ix5 0 b h l d) := by
  pointwise

theorem drop5' (X : S1x4x8x64x64.Idx → EReal) (b : Fin 4) (h : Fin 8) (l : Fin 64) (d : Fin 64) :
    shapeCast S4x8x64x64 X shapeCasts_S1x4x8x64x64_S4x8x64x64 (ix4 b h l d) = X (ix5 0 b h l d) := by
  pointwise

theorem drop3 (X : S1x4x8.Idx → EReal) (b : Fin 4) (h : Fin 8) :
    shapeCast S4x8 X shapeCasts_S1x4x8_S4x8 (ix2 b h) = X (ix3 0 b h) := by
  pointwise

section Trip

variable (s : State Ideal) (j : ℕ) (hj : j < 64) (b : Fin 4) (h : Fin 8) (l : Fin 64)
include hj

theorem ref_w_at (d : Fin 128) : b5 j s (ix4 b h l d) = s.main_v17_0 (ix5 ⟨j, hj⟩ b h l d) :=
  (drop5 _ b h l d).trans (slice5 (n := 128) _ _ j hj (start_int j hj) rfl rfl rfl rfl _ b h l d)

theorem ref_u_at (d : Fin 128) : b11 j s (ix4 b h l d) = s.main_v17_1 (ix5 ⟨j, hj⟩ b h l d) :=
  (drop5 _ b h l d).trans (slice5 (n := 128) _ _ j hj (start_int j hj) rfl rfl rfl rfl _ b h l d)

theorem ref_qk_at (d : Fin 64) : b17 j s (ix4 b h l d) = s.main_v17_2 (ix5 ⟨j, hj⟩ b h l d) :=
  (drop5' _ b h l d).trans (slice5 (n := 64) _ _ j hj (start_int j hj) rfl rfl rfl rfl _ b h l d)

theorem ref_qg_at (d : Fin 128) : b23 j s (ix4 b h l d) = s.main_v17_3 (ix5 ⟨j, hj⟩ b h l d) :=
  (drop5 _ b h l d).trans (slice5 (n := 128) _ _ j hj (start_int j hj) rfl rfl rfl rfl _ b h l d)

theorem ref_kd_at (d : Fin 128) : b29 j s (ix4 b h l d) = s.main_v17_4 (ix5 ⟨j, hj⟩ b h l d) :=
  (drop5 _ b h l d).trans (slice5 (n := 128) _ _ j hj (start_int j hj) rfl rfl rfl rfl _ b h l d)

theorem ref_ge_at : b33 j s (ix2 b h) = s.main_v17_5 (ix3 ⟨j, hj⟩ b h) := by
  refine (drop3 _ b h).trans ?_
  unfold b32 Host.dynamicSlice
  refine congrArg s.main_v17_5 (funext fun a => Fin.ext ?_)
  match a with
  | ⟨0, _⟩ =>
    show (min (max ((BitVec.ofNat 32 j).toInt) 0) ((64 - 1 : ℕ) : Int)).toNat + 0 = j
    rw [start_int j hj]; omega
  | ⟨1, _⟩ => exact Nat.zero_add _
  | ⟨2, _⟩ => exact Nat.zero_add _

omit hj in
/-- The corrected values of the trip. -/
theorem ref_v_at (W U : Fin 64 → Fin 128 → EReal) (S : Fin 128 → Fin 128 → EReal)
    (hW : ∀ l d, b5 j s (ix4 b h l d) = W l d) (hU : ∀ l d, b11 j s (ix4 b h l d) = U l d)
    (hS : ∀ a d, s.main_v17_7 (ix4 b h a d) = S a d) (d : Fin 128) :
    b35 j s (ix4 b h l d) = vNew W U S l d := by
  unfold b35 b34 vNew
  generalize b5 j s = X at *
  generalize b11 j s = Y at *
  pointwise
  simp only [hW, hU, hS]

omit hj in
/-- The output rows of the trip. -/
theorem ref_o_at (Q : Fin 64 → Fin 128 → EReal) (A : Fin 64 → Fin 64 → EReal) (V : Fin 64 → Fin 128 → EReal) (S : Fin 128 → Fin 128 → EReal)
    (hQ : ∀ l d, b23 j s (ix4 b h l d) = Q l d) (hA : ∀ l d, b17 j s (ix4 b h l d) = A l d)
    (hV : ∀ l d, b35 j s (ix4 b h l d) = V l d) (hS : ∀ a d, s.main_v17_7 (ix4 b h a d) = S a d) (d : Fin 128) :
    b38 j s (ix4 b h l d) = oNew Q A V S l d := by
  unfold b38 b37 b36 oNew
  generalize b23 j s = X at *
  generalize b17 j s = Y at *
  generalize b35 j s = Z at *
  pointwise
  simp only [hQ, hA, hV, hS]

omit hj in
/-- The state after the trip. -/
theorem ref_s_at (g : EReal) (K V : Fin 64 → Fin 128 → EReal) (S : Fin 128 → Fin 128 → EReal)
    (hg : b33 j s (ix2 b h) = g) (hK : ∀ l d, b29 j s (ix4 b h l d) = K l d)
    (hV : ∀ l d, b35 j s (ix4 b h l d) = V l d) (hS : ∀ a d, s.main_v17_7 (ix4 b h a d) = S a d) (a d : Fin 128) :
    b43 j s (ix4 b h a d) = sNew (fun _ => g) K V S a d := by
  unfold b43 b42 b41 b40 b39 sNew
  generalize b33 j s = X at *
  generalize b29 j s = Y at *
  generalize b35 j s = Z at *
  pointwise
  simp only [hg, hK, hV, hS]

/-- The stacked outputs after the trip: the trip's rows at its number, the earlier contents elsewhere. -/
theorem ref_out_at (n : Fin 64) (d : Fin 128) :
    b49 j s (ix5 n b h l d) = if n.val = j then b38 j s (ix4 b h l d) else s.main_v17_8 (ix5 n b h l d) := by
  have key : ∀ st : Fin 5 → Int, st 0 = j → st 1 = 0 → st 2 = 0 → st 3 = 0 → st 4 = 0 →
      Host.dynamicUpdateSlice s.main_v17_8 (b44 j s) st updateFits_S64x4x8x64x128_S1x4x8x64x128 (ix5 n b h l d)
        = if n.val = j then b38 j s (ix4 b h l d) else s.main_v17_8 (ix5 n b h l d) := by
    intro st h0 h1 h2 h3 h4
    have hadj : ∀ a, (min (max (st a) 0) ((S64x4x8x64x128.size a - S1x4x8x64x128.size (a.cast rfl) : Nat) : Int)).toNat
        = (![j, 0, 0, 0, 0] : Fin 5 → ℕ) a := by
      intro a
      match a with
      | ⟨0, _⟩ =>
        show (min (max (st 0) 0) ((64 - 1 : ℕ) : Int)).toNat = j
        rw [h0]; omega
      | ⟨1, _⟩ => show (min (max (st 1) 0) ((4 - 4 : ℕ) : Int)).toNat = 0; rw [h1]; rfl
      | ⟨2, _⟩ => show (min (max (st 2) 0) ((8 - 8 : ℕ) : Int)).toNat = 0; rw [h2]; rfl
      | ⟨3, _⟩ => show (min (max (st 3) 0) ((64 - 64 : ℕ) : Int)).toNat = 0; rw [h3]; rfl
      | ⟨4, _⟩ => show (min (max (st 4) 0) ((128 - 128 : ℕ) : Int)).toNat = 0; rw [h4]; rfl
    have hsl : S64x4x8x64x128.Slices (![j, 0, 0, 0, 0] : Fin 5 → ℕ) S1x4x8x64x128 := ⟨rfl, fun a => by
      match a with
      | ⟨0, _⟩ => show j + 1 ≤ 64; omega
      | ⟨1, _⟩ => exact le_rfl
      | ⟨2, _⟩ => exact le_rfl
      | ⟨3, _⟩ => exact le_rfl
      | ⟨4, _⟩ => exact le_rfl⟩
    rw [Host.dynamicUpdateSlice_eq_updateSlice _ _ st _ _ hadj hsl]
    unfold updateSlice
    by_cases hn : n.val = j
    · rw [if_pos hn, dif_pos]
      · refine (congrArg (b44 j s) (?_ : _ = ix5 (0 : Fin 1) b h l d)).trans ?_
        · funext a
          match a with
          | ⟨0, _⟩ => exact Fin.ext (show n.val - j = 0 by omega)
          | ⟨1, _⟩ => rfl
          | ⟨2, _⟩ => rfl
          | ⟨3, _⟩ => rfl
          | ⟨4, _⟩ => rfl
        · unfold b44
          generalize b38 j s = X
          pointwise
      · intro a
        match a with
        | ⟨0, _⟩ => show j ≤ n.val ∧ n.val < j + 1; omega
        | ⟨1, _⟩ => exact ⟨Nat.zero_le _, by show b.val < 0 + 4; omega⟩
        | ⟨2, _⟩ => exact ⟨Nat.zero_le _, by show h.val < 0 + 8; omega⟩
        | ⟨3, _⟩ => exact ⟨Nat.zero_le _, by show l.val < 0 + 64; omega⟩
        | ⟨4, _⟩ => exact ⟨Nat.zero_le _, by show d.val < 0 + 128; omega⟩
    · rw [if_neg hn, dif_neg]
      intro hin
      have h0 : j ≤ n.val ∧ n.val < j + 1 := hin (0 : Fin 5)
      omega
  exact key _ (start_int j hj) rfl rfl rfl rfl

end Trip

section Iterate

variable (w : S4x8x4096x128.Idx → EReal) (u : S4x8x4096x128.Idx → EReal) (qk : S4x8x4096x64.Idx → EReal)
  (qg kd : S4x8x4096x128.Idx → EReal) (ge : S4x8x64.Idx → EReal)

/-- The reference's states: `init` of its arguments, then `step` trip by trip. -/
def refIter : ℕ → State Ideal
  | 0 => init w u qk qg kd ge
  | n + 1 => step n (refIter n)

theorem refIter_chunks (n : ℕ) : (refIter w u qk qg kd ge n).main_v17_0 = (init w u qk qg kd ge : State Ideal).main_v17_0
    ∧ (refIter w u qk qg kd ge n).main_v17_1 = (init w u qk qg kd ge : State Ideal).main_v17_1
    ∧ (refIter w u qk qg kd ge n).main_v17_2 = (init w u qk qg kd ge : State Ideal).main_v17_2
    ∧ (refIter w u qk qg kd ge n).main_v17_3 = (init w u qk qg kd ge : State Ideal).main_v17_3
    ∧ (refIter w u qk qg kd ge n).main_v17_4 = (init w u qk qg kd ge : State Ideal).main_v17_4
    ∧ (refIter w u qk qg kd ge n).main_v17_5 = (init w u qk qg kd ge : State Ideal).main_v17_5 := by
  induction n with
  | zero => exact ⟨rfl, rfl, rfl, rfl, rfl, rfl⟩
  | succ n ih => exact ih

variable (b : Fin 4) (h : Fin 8) (q l : Fin 64)

theorem init_w (d : Fin 128) : (init w u qk qg kd ge : State Ideal).main_v17_0 (ix5 q b h l d) = chunkRows w b h q l d := by
  unfold init A_main_v4 A_main_v3 A_main_v2 chunkRows
  pointwise
  simp only [Nat.mul_comm 64]

theorem init_u (d : Fin 128) : (init w u qk qg kd ge : State Ideal).main_v17_1 (ix5 q b h l d) = chunkRows u b h q l d := by
  unfold init A_main_v6 A_main_v5 chunkRows
  pointwise
  simp only [Nat.mul_comm 64]

theorem init_qk (d : Fin 64) : (init w u qk qg kd ge : State Ideal).main_v17_2 (ix5 q b h l d) = chunkRows qk b h q l d := by
  unfold init A_main_v9 A_main_v8 A_main_v7 chunkRows
  pointwise
  simp only [Nat.mul_comm 64]

theorem init_qg (d : Fin 128) : (init w u qk qg kd ge : State Ideal).main_v17_3 (ix5 q b h l d) = chunkRows qg b h q l d := by
  unfold init A_main_v12 A_main_v11 A_main_v10 chunkRows
  pointwise
  simp only [Nat.mul_comm 64]

theorem init_kd (d : Fin 128) : (init w u qk qg kd ge : State Ideal).main_v17_4 (ix5 q b h l d) = chunkRows kd b h q l d := by
  unfold init A_main_v15 A_main_v14 A_main_v13 chunkRows
  pointwise
  simp only [Nat.mul_comm 64]

theorem init_ge : (init w u qk qg kd ge : State Ideal).main_v17_5 (ix3 q b h) = ge (ix3 b h q) := by
  unfold init A_main_v1
  pointwise

theorem R_at (s : State Ideal) (P : S4x96x4096x128.Idx → EReal) (nw : S128.Idx → EReal) (j : Fin 128) :
    R_main_v39 s P nw (ix3 b ⟨64 * q.val + l.val, by omega⟩ ⟨128 * h.val + j.val, by omega⟩)
      = normed (fun d => s.main_v17_8 (ix5 q b h l d)) (fun d => nw (ix1 d)) (fun d => P (ix4 b ⟨24 + h.val, by omega⟩ ⟨64 * q.val + l.val, by omega⟩ d)) j := by
  unfold R_main_v39 normed
  generalize s.main_v17_8 = X
  pointwise
  rw [zero_sub]

theorem init_st (a d : Fin 128) : (init w u qk qg kd ge : State Ideal).main_v17_7 (ix4 b h a d) = 0 := by
  unfold init K_main_v0 K_main_cst
  pointwise

/-- The corrected values of trip `n`, of the state before it. -/
theorem iter_v (n : ℕ) (hn : n < 64) (S : Fin 128 → Fin 128 → EReal)
    (hS : ∀ a d, (refIter w u qk qg kd ge n).main_v17_7 (ix4 b h a d) = S a d) (i : Fin 64) (d : Fin 128) :
    b35 n (refIter w u qk qg kd ge n) (ix4 b h i d) = vNew (chunkRows w b h ⟨n, hn⟩) (chunkRows u b h ⟨n, hn⟩) S i d :=
  ref_v_at _ n b h i _ _ S
    (fun i d => (ref_w_at _ n hn b h i d).trans ((congrFun (refIter_chunks w u qk qg kd ge n).1 _).trans (init_w w u qk qg kd ge b h ⟨n, hn⟩ i d)))
    (fun i d => (ref_u_at _ n hn b h i d).trans ((congrFun (refIter_chunks w u qk qg kd ge n).2.1 _).trans (init_u w u qk qg kd ge b h ⟨n, hn⟩ i d)))
    hS d

/-- The carried state before trip `n` is the recurrence's. -/
theorem iter_state (n : ℕ) (hn : n ≤ 64) (a d : Fin 128) :
    (refIter w u qk qg kd ge n).main_v17_7 (ix4 b h a d) = gdnState w u kd ge b h n a d := by
  induction n generalizing a d with
  | zero => exact init_st w u qk qg kd ge b h a d
  | succ n ih =>
    have hn' : n < 64 := by omega
    have hS := ih (by omega)
    rw [gdnState_succ _ _ _ _ _ _ _ hn']
    exact ref_s_at _ n b h _ _ _ _
      ((ref_ge_at _ n hn' b h).trans ((congrFun (refIter_chunks w u qk qg kd ge n).2.2.2.2.2 _).trans (init_ge w u qk qg kd ge b h ⟨n, hn'⟩)))
      (fun i d => (ref_kd_at _ n hn' b h i d).trans ((congrFun (refIter_chunks w u qk qg kd ge n).2.2.2.2.1 _).trans (init_kd w u qk qg kd ge b h ⟨n, hn'⟩ i d)))
      (iter_v w u qk qg kd ge b h n hn' _ hS) hS a d

/-- The output rows of trip `n`. -/
theorem iter_o (n : ℕ) (hn : n < 64) (d : Fin 128) :
    b38 n (refIter w u qk qg kd ge n) (ix4 b h l d) = gdnOut w u qk qg kd ge b h ⟨n, hn⟩ l d :=
  have hS := iter_state w u qk qg kd ge b h n hn.le
  ref_o_at _ n b h l _ _ _ _
    (fun i d => (ref_qg_at _ n hn b h i d).trans ((congrFun (refIter_chunks w u qk qg kd ge n).2.2.2.1 _).trans (init_qg w u qk qg kd ge b h ⟨n, hn⟩ i d)))
    (fun i d => (ref_qk_at _ n hn b h i d).trans ((congrFun (refIter_chunks w u qk qg kd ge n).2.2.1 _).trans (init_qk w u qk qg kd ge b h ⟨n, hn⟩ i d)))
    (iter_v w u qk qg kd ge b h n hn _ hS) hS d

/-- The stacked outputs before trip `n` hold the rows of every earlier chunk. -/
theorem iter_out (n : ℕ) (hn : n ≤ 64) (hq : q.val < n) (d : Fin 128) :
    (refIter w u qk qg kd ge n).main_v17_8 (ix5 q b h l d) = gdnOut w u qk qg kd ge b h q l d := by
  induction n with
  | zero => omega
  | succ n ih =>
    refine (ref_out_at (refIter w u qk qg kd ge n) n (by omega) b h l q d).trans ?_
    by_cases e : q.val = n
    · rw [if_pos e]
      subst e
      exact iter_o w u qk qg kd ge b h l q.val q.isLt d
    · rw [if_neg e]
      exact ih (by omega) (by omega)

/-- The reference's result at row `l` of chunk `q`, column `j` of head `h`. -/
theorem ref_at (P : S4x96x4096x128.Idx → EReal) (nw : S128.Idx → EReal) (j : Fin 128) :
    R_main_v39 (refIter w u qk qg kd ge 64) P nw (ix3 b ⟨64 * q.val + l.val, by omega⟩ ⟨128 * h.val + j.val, by omega⟩)
      = normed (gdnOut w u qk qg kd ge b h q l) (fun d => nw (ix1 d)) (fun d => P (ix4 b ⟨24 + h.val, by omega⟩ ⟨64 * q.val + l.val, by omega⟩ d)) j := by
  rw [R_at]
  refine congrArg (fun o => normed o _ _ j) (funext fun d => ?_)
  exact iter_out w u qk qg kd ge b h q l 64 le_rfl q.isLt d

end Iterate

end Cert.Proof.Scan

end
-- ==== Proof.Blocks.lean ====
/- The kernel's blocks as entries of the arguments, and the kernel's result as the plain recurrence. -/
module

public import proofs.«01_k».proof.Proof.RunIdeal
public import proofs.«01_k».proof.Proof.RefScan

@[expose] public section

set_option maxRecDepth 16384

noncomputable section

open Idealize.ShloMosaic Idealize.ShloMosaic.TcCoe Idealize.SL.Sem
open Cert.KernelIdeal Cert.KernelIdeal.Gen Cert.KernelIdeal.Run

namespace Cert.Proof.Scan

variable (m : (ℓ : Loc nD τ sig) → Buf (Elt Ideal) ℓ) (c : Dev nD) (t : Fin cfg0.N)

theorem pt_lt (t : Fin cfg0.N) : t.val < 16 := t.isLt

/-- The batch element of a grid point. -/
def ptB (t : Fin cfg0.N) : Fin 4 := ⟨t.val / 4, by have := pt_lt t; omega⟩

/-- The chunk of a grid point's trip `k`. -/
def ptQ (t : Fin cfg0.N) (k : ℕ) (hk : k < 16) : Fin 64 := ⟨16 * (t.val % 4) + k, by omega⟩

theorem idx0 : ∀ t : Fin cfg0.N, win0_0.index t (0 : Fin 4) = t.val / 4 ∧ win0_0.index t (1 : Fin 4) = 0 ∧ win0_0.index t (2 : Fin 4) = t.val % 4
    ∧ win0_0.index t (3 : Fin 4) = 0 := by decide +kernel

theorem rows0 (h : Fin 8) (k : ℕ) (hk : k < 16) :
    rowsOf (n := 128) (iblk m c 0 t) h k hk = chunkRows (n := 128) (m ((c : Thread nD τ).loc main_arg0)) (ptB t) h (ptQ t k hk) := by
  funext l d
  show (V m c main_arg0) (((cfg0.win 0).blk t).view.emb (ix4 0 h ⟨64 * k + l.val, by omega⟩ d)) = _
  rw [V_main_arg0]
  obtain ⟨e0, e1, e2, e3⟩ := idx0 t
  refine congrArg (m ((c : Thread nD τ).loc main_arg0)) (funext fun a => Fin.ext ?_)
  match a with
  | ⟨0, _⟩ => show win0_0.index t (0 : Fin 4) * 1 + 1 * 0 = t.val / 4; omega
  | ⟨1, _⟩ => show win0_0.index t (1 : Fin 4) * 8 + 1 * h.val = h.val; omega
  | ⟨2, _⟩ => show win0_0.index t (2 : Fin 4) * 1024 + 1 * (64 * k + l.val) = 64 * (16 * (t.val % 4) + k) + l.val; omega
  | ⟨3, _⟩ => show win0_0.index t (3 : Fin 4) * 128 + 1 * d.val = d.val; omega

theorem idx1 : ∀ t : Fin cfg0.N, win0_1.index t (0 : Fin 4) = t.val / 4 ∧ win0_1.index t (1 : Fin 4) = 0 ∧ win0_1.index t (2 : Fin 4) = t.val % 4
    ∧ win0_1.index t (3 : Fin 4) = 0 := by decide +kernel

theorem rows1 (h : Fin 8) (k : ℕ) (hk : k < 16) :
    rowsOf (n := 128) (iblk m c 1 t) h k hk = chunkRows (n := 128) (m ((c : Thread nD τ).loc main_arg1)) (ptB t) h (ptQ t k hk) := by
  funext l d
  show (V m c main_arg1) (((cfg0.win 1).blk t).view.emb (ix4 0 h ⟨64 * k + l.val, by omega⟩ d)) = _
  rw [V_main_arg1]
  obtain ⟨e0, e1, e2, e3⟩ := idx1 t
  refine congrArg (m ((c : Thread nD τ).loc main_arg1)) (funext fun a => Fin.ext ?_)
  match a with
  | ⟨0, _⟩ => show win0_1.index t (0 : Fin 4) * 1 + 1 * 0 = t.val / 4; omega
  | ⟨1, _⟩ => show win0_1.index t (1 : Fin 4) * 8 + 1 * h.val = h.val; omega
  | ⟨2, _⟩ => show win0_1.index t (2 : Fin 4) * 1024 + 1 * (64 * k + l.val) = 64 * (16 * (t.val % 4) + k) + l.val; omega
  | ⟨3, _⟩ => show win0_1.index t (3 : Fin 4) * 128 + 1 * d.val = d.val; omega

theorem idx2 : ∀ t : Fin cfg0.N, win0_2.index t (0 : Fin 4) = t.val / 4 ∧ win0_2.index t (1 : Fin 4) = 0 ∧ win0_2.index t (2 : Fin 4) = t.val % 4
    ∧ win0_2.index t (3 : Fin 4) = 0 := by decide +kernel

theorem rows2 (h : Fin 8) (k : ℕ) (hk : k < 16) :
    rowsOf (n := 64) (iblk m c 2 t) h k hk = chunkRows (n := 64) (m ((c : Thread nD τ).loc main_arg2)) (ptB t) h (ptQ t k hk) := by
  funext l d
  show (V m c main_arg2) (((cfg0.win 2).blk t).view.emb (ix4 0 h ⟨64 * k + l.val, by omega⟩ d)) = _
  rw [V_main_arg2]
  obtain ⟨e0, e1, e2, e3⟩ := idx2 t
  refine congrArg (m ((c : Thread nD τ).loc main_arg2)) (funext fun a => Fin.ext ?_)
  match a with
  | ⟨0, _⟩ => show win0_2.index t (0 : Fin 4) * 1 + 1 * 0 = t.val / 4; omega
  | ⟨1, _⟩ => show win0_2.index t (1 : Fin 4) * 8 + 1 * h.val = h.val; omega
  | ⟨2, _⟩ => show win0_2.index t (2 : Fin 4) * 1024 + 1 * (64 * k + l.val) = 64 * (16 * (t.val % 4) + k) + l.val; omega
  | ⟨3, _⟩ => show win0_2.index t (3 : Fin 4) * 64 + 1 * d.val = d.val; omega

theorem idx3 : ∀ t : Fin cfg0.N, win0_3.index t (0 : Fin 4) = t.val / 4 ∧ win0_3.index t (1 : Fin 4) = 0 ∧ win0_3.index t (2 : Fin 4) = t.val % 4
    ∧ win0_3.index t (3 : Fin 4) = 0 := by decide +kernel

theorem rows3 (h : Fin 8) (k : ℕ) (hk : k < 16) :
    rowsOf (n := 128) (iblk m c 3 t) h k hk = chunkRows (n := 128) (m ((c : Thread nD τ).loc main_arg3)) (ptB t) h (ptQ t k hk) := by
  funext l d
  show (V m c main_arg3) (((cfg0.win 3).blk t).view.emb (ix4 0 h ⟨64 * k + l.val, by omega⟩ d)) = _
  rw [V_main_arg3]
  obtain ⟨e0, e1, e2, e3⟩ := idx3 t
  refine congrArg (m ((c : Thread nD τ).loc main_arg3)) (funext fun a => Fin.ext ?_)
  match a with
  | ⟨0, _⟩ => show win0_3.index t (0 : Fin 4) * 1 + 1 * 0 = t.val / 4; omega
  | ⟨1, _⟩ => show win0_3.index t (1 : Fin 4) * 8 + 1 * h.val = h.val; omega
  | ⟨2, _⟩ => show win0_3.index t (2 : Fin 4) * 1024 + 1 * (64 * k + l.val) = 64 * (16 * (t.val % 4) + k) + l.val; omega
  | ⟨3, _⟩ => show win0_3.index t (3 : Fin 4) * 128 + 1 * d.val = d.val; omega

theorem idx4 : ∀ t : Fin cfg0.N, win0_4.index t (0 : Fin 4) = t.val / 4 ∧ win0_4.index t (1 : Fin 4) = 0 ∧ win0_4.index t (2 : Fin 4) = t.val % 4
    ∧ win0_4.index t (3 : Fin 4) = 0 := by decide +kernel

theorem rows4 (h : Fin 8) (k : ℕ) (hk : k < 16) :
    rowsOf (n := 128) (iblk m c 4 t) h k hk = chunkRows (n := 128) (m ((c : Thread nD τ).loc main_arg4)) (ptB t) h (ptQ t k hk) := by
  funext l d
  show (V m c main_arg4) (((cfg0.win 4).blk t).view.emb (ix4 0 h ⟨64 * k + l.val, by omega⟩ d)) = _
  rw [V_main_arg4]
  obtain ⟨e0, e1, e2, e3⟩ := idx4 t
  refine congrArg (m ((c : Thread nD τ).loc main_arg4)) (funext fun a => Fin.ext ?_)
  match a with
  | ⟨0, _⟩ => show win0_4.index t (0 : Fin 4) * 1 + 1 * 0 = t.val / 4; omega
  | ⟨1, _⟩ => show win0_4.index t (1 : Fin 4) * 8 + 1 * h.val = h.val; omega
  | ⟨2, _⟩ => show win0_4.index t (2 : Fin 4) * 1024 + 1 * (64 * k + l.val) = 64 * (16 * (t.val % 4) + k) + l.val; omega
  | ⟨3, _⟩ => show win0_4.index t (3 : Fin 4) * 128 + 1 * d.val = d.val; omega

theorem idx5 : ∀ t : Fin cfg0.N, win0_5.index t (0 : Fin 4) = t.val / 4 ∧ win0_5.index t (1 : Fin 4) = 0 ∧ win0_5.index t (2 : Fin 4) = t.val % 4
    ∧ win0_5.index t (3 : Fin 4) = 0 := by decide +kernel

/-- The decay factors the region finds: one for each chunk, the same in every lane. -/
theorem V_ge : V m c main_v1 = broadcastInDim S4x8x64x128 ![0, 1, 2, 3] bcast_S4x8x64x1_S4x8x64x128_0_1_2_3
    (broadcastInDim S4x8x64x1 ![0, 1, 2] bcast_S4x8x64_S4x8x64x1_0_1_2 (m ((c : Thread nD τ).loc main_arg5))) := by
  show StableHlo.after hostOps0 _ _ = _
  unfold hostOps0
  after_results

theorem V_ge_at (b : Fin 4) (h : Fin 8) (q : Fin 64) (d : Fin 128) :
    V m c main_v1 (ix4 b h q d) = m ((c : Thread nD τ).loc main_arg5) (ix3 b h q) := by
  rw [V_ge]
  pointwise

theorem gate5 (h : Fin 8) (k : ℕ) (hk : k < 16) (d : Fin 128) :
    iblk m c 5 t (ix4 0 h ⟨k, hk⟩ d) = m ((c : Thread nD τ).loc main_arg5) (ix3 (ptB t) h (ptQ t k hk)) := by
  refine Eq.trans ?_ (V_ge_at m c (ptB t) h (ptQ t k hk) d)
  show (V m c main_v1) (((cfg0.win 5).blk t).view.emb (ix4 0 h ⟨k, hk⟩ d)) = _
  obtain ⟨e0, e1, e2, e3⟩ := idx5 t
  refine congrArg (V m c main_v1) (funext fun a => Fin.ext ?_)
  match a with
  | ⟨0, _⟩ => show win0_5.index t (0 : Fin 4) * 1 + 1 * 0 = t.val / 4; omega
  | ⟨1, _⟩ => show win0_5.index t (1 : Fin 4) * 8 + 1 * h.val = h.val; omega
  | ⟨2, _⟩ => show win0_5.index t (2 : Fin 4) * 16 + 1 * k = 16 * (t.val % 4) + k; omega
  | ⟨3, _⟩ => show win0_5.index t (3 : Fin 4) * 128 + 1 * d.val = d.val; omega

theorem idx6 : ∀ t : Fin cfg0.N, win0_6.index t (0 : Fin 4) = t.val / 4 ∧ win0_6.index t (1 : Fin 4) = 3 ∧ win0_6.index t (2 : Fin 4) = t.val % 4
    ∧ win0_6.index t (3 : Fin 4) = 0 := by decide +kernel

/-- The gate's rows: heads 24 to 31 of the projections. -/
theorem rows6 (h : Fin 8) (k : ℕ) (hk : k < 16) (l : Fin 64) (d : Fin 128) :
    rowsOf (n := 128) (iblk m c 6 t) h k hk l d
      = m ((c : Thread nD τ).loc main_arg6) (ix4 (ptB t) ⟨24 + h.val, by omega⟩ ⟨64 * (ptQ t k hk).val + l.val, by omega⟩ d) := by
  show (V m c main_arg6) (((cfg0.win 6).blk t).view.emb _) = _
  rw [← V_main_arg6 m c]
  obtain ⟨e0, e1, e2, e3⟩ := idx6 t
  refine congrArg (V m c main_arg6) (funext fun a => Fin.ext ?_)
  match a with
  | ⟨0, _⟩ => show win0_6.index t (0 : Fin 4) * 1 + 1 * 0 = t.val / 4; omega
  | ⟨1, _⟩ => show win0_6.index t (1 : Fin 4) * 8 + 1 * h.val = 24 + h.val; omega
  | ⟨2, _⟩ => show win0_6.index t (2 : Fin 4) * 1024 + 1 * (64 * k + l.val) = 64 * (16 * (t.val % 4) + k) + l.val; omega
  | ⟨3, _⟩ => show win0_6.index t (3 : Fin 4) * 128 + 1 * d.val = d.val; omega

theorem idx7 : ∀ t : Fin cfg0.N, win0_7.index t (0 : Fin 2) = 0 ∧ win0_7.index t (1 : Fin 2) = 0 := by decide +kernel

theorem V_nw : V m c main_v2 = shapeCast S1x128 (m ((c : Thread nD τ).loc main_arg7)) shapeCasts_S128_S1x128 := by
  show StableHlo.after hostOps0 _ _ = _
  unfold hostOps0
  after_results
  rfl

theorem V_nw_at (d : Fin 128) : V m c main_v2 (ix2 0 d) = m ((c : Thread nD τ).loc main_arg7) (ix1 d) := by
  rw [V_nw]
  pointwise

theorem weight7 (d : Fin 128) : iblk m c 7 t (ix2 0 d) = m ((c : Thread nD τ).loc main_arg7) (ix1 d) := by
  refine Eq.trans ?_ (V_nw_at m c d)
  show (V m c main_v2) (((cfg0.win 7).blk t).view.emb (ix2 0 d)) = _
  obtain ⟨e0, e1⟩ := idx7 t
  refine congrArg (V m c main_v2) (funext fun a => Fin.ext ?_)
  match a with
  | ⟨0, _⟩ => show win0_7.index t (0 : Fin 2) * 1 + 1 * 0 = 0; omega
  | ⟨1, _⟩ => show win0_7.index t (1 : Fin 2) * 128 + 1 * d.val = d.val; omega

/-- The plain recurrence on this memory's arguments. -/
abbrev memState (b : Fin 4) (h : Fin 8) (n : ℕ) : Fin 128 → Fin 128 → EReal :=
  gdnState (m ((c : Thread nD τ).loc main_arg0)) (m ((c : Thread nD τ).loc main_arg1)) (m ((c : Thread nD τ).loc main_arg4))
    (m ((c : Thread nD τ).loc main_arg5)) b h n

/-- `n` trips of a block take the recurrence `n` chunks on. -/
theorem block_state (S : S8x128x128.Idx → EReal) (hS : ∀ h a d, S (ix3 h a d) = memState m c (ptB t) h (16 * (t.val % 4)) a d)
    (n : ℕ) (hn : n ≤ 16) (h : Fin 8) (a d : Fin 128) :
    stIter (iblk m c 0 t) (iblk m c 1 t) (iblk m c 4 t) (iblk m c 5 t) S n (ix3 h a d) = memState m c (ptB t) h (16 * (t.val % 4) + n) a d := by
  induction n generalizing h a d with
  | zero => exact hS h a d
  | succ n ih =>
    have hk : n < 16 := by omega
    rw [stIter_succ _ _ _ _ _ _ hk]
    show sBlk _ _ _ _ _ h n hk a d = _
    unfold memState
    rw [show 16 * (t.val % 4) + (n + 1) = (16 * (t.val % 4) + n) + 1 from rfl, gdnState_succ _ _ _ _ _ _ _ (by omega)]
    unfold sBlk vBlk
    rw [rows0, rows1, rows4]
    have e : (fun a b => stIter (iblk m c 0 t) (iblk m c 1 t) (iblk m c 4 t) (iblk m c 5 t) S n (ix3 h a b))
        = memState m c (ptB t) h (16 * (t.val % 4) + n) := funext fun a => funext fun d => ih (by omega) h a d
    have eg : (fun b => iblk m c 5 t (ix4 0 h ⟨n, hk⟩ b)) = fun _ => m ((c : Thread nD τ).loc main_arg5) (ix3 (ptB t) h (ptQ t n hk)) :=
      funext fun d => gate5 m c t h n hk d
    rw [e, eg]
    rfl

/-- A grid point is entered with the recurrence's state before its first chunk. -/
theorem entry_state (n : ℕ) (hn : n < cfg0.N) (h : Fin 8) (a d : Fin 128) :
    entrySt m c n hn (ix3 h a d) = memState m c (ptB ⟨n, hn⟩) h (16 * (n % 4)) a d := by
  induction n generalizing h a d with
  | zero =>
    rw [entrySt_reset m c 0 hn rfl]
    rfl
  | succ n ih =>
    by_cases h0 : (n + 1) % 4 = 0
    · rw [entrySt_reset m c _ hn h0, h0]
      rfl
    · rw [entrySt_carry m c _ hn h0]
      have hn' : n < cfg0.N := by omega
      have e := block_state m c ⟨n, hn'⟩ _ (ih hn') 16 le_rfl h a d
      refine e.trans ?_
      have e1 : ptB (⟨n, hn'⟩ : Fin cfg0.N) = ptB ⟨n + 1, hn⟩ := Fin.ext (show n / 4 = (n + 1) / 4 by omega)
      have e2 : 16 * (n % 4) + 16 = 16 * ((n + 1) % 4) := by omega
      show memState m c (ptB ⟨n, hn'⟩) h (16 * (n % 4) + 16) a d = _
      rw [e1, e2]

/-- The kernel's block at a grid point: the normalised rows of its sixteen chunks. -/
theorem block_out (k : ℕ) (hk : k < 16) (h : Fin 8) (l : Fin 64) (j : Fin 128) :
    outBlock m c t (ix3 0 ⟨64 * k + l.val, by omega⟩ ⟨128 * h.val + j.val, by omega⟩)
      = normed (gdnOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ptB t) h (ptQ t k hk) l)
        (fun d => m ((c : Thread nD τ).loc main_arg7) (ix1 d))
        (fun d => m ((c : Thread nD τ).loc main_arg6) (ix4 (ptB t) ⟨24 + h.val, by omega⟩ ⟨64 * (ptQ t k hk).val + l.val, by omega⟩ d)) j := by
  have key : ∀ (k' : ℕ) (hk' : k' < 16) (h' : Fin 8) (l' : Fin 64) (j' : Fin 128), k' = k → h' = h → l' = l → j' = j →
      oBlk (iblk m c 0 t) (iblk m c 1 t) (iblk m c 2 t) (iblk m c 3 t) (iblk m c 6 t) (iblk m c 7 t)
        (stIter (iblk m c 0 t) (iblk m c 1 t) (iblk m c 4 t) (iblk m c 5 t) (entrySt m c t.val t.isLt) k') h' k' hk' l' j'
      = normed (gdnOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ptB t) h (ptQ t k hk) l)
        (fun d => m ((c : Thread nD τ).loc main_arg7) (ix1 d))
        (fun d => m ((c : Thread nD τ).loc main_arg6) (ix4 (ptB t) ⟨24 + h.val, by omega⟩ ⟨64 * (ptQ t k hk).val + l.val, by omega⟩ d)) j := by
    rintro k' hk' h' l' j' rfl rfl rfl rfl
    have e : (fun a b => stIter (iblk m c 0 t) (iblk m c 1 t) (iblk m c 4 t) (iblk m c 5 t) (entrySt m c t.val t.isLt) k' (ix3 h' a b))
        = memState m c (ptB t) h' (16 * (t.val % 4) + k') :=
      funext fun a => funext fun d => block_state m c t _ (entry_state m c t.val t.isLt) k' hk'.le h' a d
    unfold oBlk vBlk gdnOut
    rw [e, rows0, rows1, rows2, rows3, funext fun d => weight7 m c t d, funext fun d => rows6 m c t h' k' hk l' d]
    rfl
  unfold outBlock outOf
  exact key _ _ _ _ _ (show (64 * k + l.val) / 64 = k by omega) (Fin.ext (show (128 * h.val + j.val) / 128 = h.val by omega))
    (Fin.ext (show (64 * k + l.val) % 64 = l.val by omega)) (Fin.ext (show (128 * h.val + j.val) % 128 = j.val by omega))

/-- The kernel's result at row `l` of chunk `q`, column `j` of head `h`. -/
theorem ker_at (b : Fin 4) (h : Fin 8) (q l : Fin 64) (j : Fin 128) :
    outArr m c (ix3 b ⟨64 * q.val + l.val, by omega⟩ ⟨128 * h.val + j.val, by omega⟩)
      = normed (gdnOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b h q l)
        (fun d => m ((c : Thread nD τ).loc main_arg7) (ix1 d))
        (fun d => m ((c : Thread nD τ).loc main_arg6) (ix4 b ⟨24 + h.val, by omega⟩ ⟨64 * q.val + l.val, by omega⟩ d)) j := by
  have hk : q.val % 16 < 16 := Nat.mod_lt _ (by decide)
  have hp : 4 * b.val + q.val / 16 < cfg0.N := show _ < 16 by omega
  have hpt : ptOf (ix3 b ⟨64 * q.val + l.val, by omega⟩ ⟨128 * h.val + j.val, by omega⟩) = ⟨4 * b.val + q.val / 16, hp⟩ :=
    Fin.ext (show 4 * b.val + (64 * q.val + l.val) / 1024 = 4 * b.val + q.val / 16 by omega)
  have hlo : loc8Of (ix3 b ⟨64 * q.val + l.val, by omega⟩ ⟨128 * h.val + j.val, by omega⟩)
      = ix3 0 ⟨64 * (q.val % 16) + l.val, by omega⟩ ⟨128 * h.val + j.val, by omega⟩ := by
    funext a
    match a with
    | ⟨0, _⟩ => rfl
    | ⟨1, _⟩ => exact Fin.ext (show (64 * q.val + l.val) % 1024 = 64 * (q.val % 16) + l.val by omega)
    | ⟨2, _⟩ => exact Fin.ext (show (128 * h.val + j.val) % 1024 = 128 * h.val + j.val by omega)
  unfold outArr
  rw [hpt, hlo, block_out m c _ (q.val % 16) hk h l j]
  have hb : ptB (⟨4 * b.val + q.val / 16, hp⟩ : Fin cfg0.N) = b := Fin.ext (show (4 * b.val + q.val / 16) / 4 = b.val by omega)
  have hq : ptQ (⟨4 * b.val + q.val / 16, hp⟩ : Fin cfg0.N) (q.val % 16) hk = q :=
    Fin.ext (show 16 * ((4 * b.val + q.val / 16) % 4) + q.val % 16 = q.val by omega)
  simp only [hb, hq]

end Cert.Proof.Scan

end
-- ==== Proof.RefRun.lean ====
/- The reference's run, as its trips iterated on plain chunk arrays. -/
module

public import proofs.«01_k».proof.Proof.RefScan
public import proofs.«01_k».proof.Proof.Gen.ReferenceIdeal.Run

@[expose] public section

set_option maxRecDepth 16384

noncomputable section

open Idealize.ShloMosaic Idealize.ShloMosaic.TcCoe Idealize.ShloMosaic.StableHlo Idealize.SL.Sem

namespace Cert.Proof.Scan

open Cert.ReferenceIdeal Cert.ReferenceIdeal.Gen Cert.ReferenceIdeal.Step Cert.ReferenceIdeal.Value

/-- The buffers a trip reads and writes hold the state `s`, and the counter stands at `j`. -/
structure Carries (V : Valuation τ sig (Elt Ideal)) (s : State Ideal) (j : ℕ) : Prop where
  w : V (Proc.devRef .tc main_v17_0) = s.main_v17_0
  u : V (Proc.devRef .tc main_v17_1) = s.main_v17_1
  qk : V (Proc.devRef .tc main_v17_2) = s.main_v17_2
  qg : V (Proc.devRef .tc main_v17_3) = s.main_v17_3
  kd : V (Proc.devRef .tc main_v17_4) = s.main_v17_4
  ge : V (Proc.devRef .tc main_v17_5) = s.main_v17_5
  num : V (Proc.devRef .tc main_v17_6) = constantI S_ 32 (BitVec.ofNat 32 j)
  st : V (Proc.devRef .tc main_v17_7) = s.main_v17_7
  out : V (Proc.devRef .tc main_v17_8) = s.main_v17_8

theorem carries_v {V : Valuation τ sig (Elt Ideal)} {s : State Ideal} {j : ℕ} (h : Carries V s j) : res_main_while0b_v47 V = b35 j s := by
  unfold res_main_while0b_v47
  rw [h.w, h.u, h.st, h.num]
  rfl

theorem carries_st {V : Valuation τ sig (Elt Ideal)} {s : State Ideal} {j : ℕ} (h : Carries V s j) : Value.step_main_v17_7 V = b43 j s := by
  unfold Value.step_main_v17_7
  rw [carries_v h, h.kd, h.ge, h.st, h.num]
  rfl

theorem carries_out {V : Valuation τ sig (Elt Ideal)} {s : State Ideal} {j : ℕ} (h : Carries V s j) : Value.step_main_v17_8 V = b49 j s := by
  unfold Value.step_main_v17_8
  rw [carries_v h, h.qk, h.qg, h.st, h.num, h.out]
  rfl

theorem carries_num {V : Valuation τ sig (Elt Ideal)} {s : State Ideal} {j : ℕ} (h : Carries V s j) :
    Value.step_main_v17_6 V = constantI S_ 32 (BitVec.ofNat 32 (j + 1)) := by
  unfold Value.step_main_v17_6
  rw [h.num]
  funext i
  show BitVec.ofNat 32 j + 1#32 = BitVec.ofNat 32 (j + 1)
  simp only [BitVec.ofNat_add]

theorem carries_step {V : Valuation τ sig (Elt Ideal)} {s : State Ideal} {j : ℕ} (h : Carries V s j) : Carries (STEP V) (step j s) (j + 1) :=
  ⟨(STEP_main_v17_0 V).trans h.w, (STEP_main_v17_1 V).trans h.u, (STEP_main_v17_2 V).trans h.qk, (STEP_main_v17_3 V).trans h.qg,
    (STEP_main_v17_4 V).trans h.kd, (STEP_main_v17_5 V).trans h.ge, (STEP_main_v17_6 V).trans (carries_num h),
    (STEP_main_v17_7 V).trans (carries_st h), (STEP_main_v17_8 V).trans (carries_out h)⟩

variable (m : (ℓ : Loc nD τ sig) → Buf (Elt Ideal) ℓ) (c : Dev nD)

/-- The states the reference runs through on core `c`. -/
abbrev coreIter : ℕ → State Ideal :=
  refIter (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 65536 in
set_option maxHeartbeats 800000 in
theorem carries_entry : Carries (entryContents preI m c) (coreIter m c 0) 0 := by
  constructor <;> simp only [entryContents, afterL_cons, afterL_nil] <;> after_reads_simp <;> rfl

theorem carries_iter : ∀ n, Carries (STEP^[n] (entryContents preI m c)) (coreIter m c n) n
  | 0 => carries_entry m c
  | n + 1 => by
    rw [Function.iterate_succ_apply']
    exact carries_step (carries_iter n)

theorem ref_out : out_main_v39 (STEP^[64] (entryContents preI m c))
    = R_main_v39 (coreIter m c 64) (m ((c.tc : Thread nD τ).loc main_arg6)) (m ((c.tc : Thread nD τ).loc main_arg7)) := by
  unfold out_main_v39
  rw [(carries_iter m c 64).out, iter_main_arg6 m c 64, iter_main_arg7 m c 64]
  rfl

end Cert.Proof.Scan

end
-- ==== Proof.InProj.lean ====
/- The input projection: what the call's array holds, and what the reference computes. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.WholeRead
public import Idealize.ShloMosaic.Lib.Claim

@[expose] public section

set_option maxRecDepth 16384

noncomputable section

open Idealize.ShloMosaic Idealize.ShloMosaic.TcCoe Idealize.SL.Sem

namespace Cert.Proof.InProj

/-- Entry `k` of row `s`, normalised by the row's mean square, weighted, and modulated. -/
def rowAt (x : (⟨3, ![4, 4096, 2048]⟩ : Shape).Idx → EReal) (nw : (⟨1, ![2048]⟩ : Shape).Idx → EReal)
    (sc sh : (⟨2, ![4, 2048]⟩ : Shape).Idx → EReal) (b : Fin 4) (s : Fin 4096) (k : Fin 2048) : EReal :=
  x (ix3 b s k) * Ideal.rsqrt (Ideal.div (∑ j, x (ix3 b s j) * x (ix3 b s j)) (Ideal.ofBits FTy.f32 1157627904#32) + Ideal.ofBits FTy.f32 897988541#32)
    * nw (ix1 k) * (1 + sc (ix2 b k)) + sh (ix2 b k)

/-- Column `n` of the arranged projection, from the columns `f` of the weights' product: four stretches of columns, moved, and zeros between the narrow ones. -/
def colAt (f : Fin 11840 → EReal) (n : ℕ) : EReal :=
  if h : n < 4096 then f ⟨n, by omega⟩
  else if h : n < 7680 then f ⟨n + 16, by omega⟩
  else if h : n < 11776 then f ⟨n + 64, by omega⟩
  else if h : n < 11792 then f ⟨n - 7680, by omega⟩
  else if n < 11904 then 0
  else if h : n < 11928 then f ⟨n - 4208, by omega⟩
  else if n < 12032 then 0
  else if h : n < 12056 then f ⟨n - 4312, by omega⟩
  else 0

theorem colAt_src (f : Fin 11840 → EReal) (n : ℕ) (j : Fin 11840)
    (h : (n < 4096 ∧ j.val = n) ∨ (4096 ≤ n ∧ n < 7680 ∧ j.val = n + 16) ∨ (7680 ≤ n ∧ n < 11776 ∧ j.val = n + 64)
      ∨ (11776 ≤ n ∧ n < 11792 ∧ j.val + 7680 = n) ∨ (11904 ≤ n ∧ n < 11928 ∧ j.val + 4208 = n)
      ∨ (12032 ≤ n ∧ n < 12056 ∧ j.val + 4312 = n)) : f j = colAt f n := by
  unfold colAt
  split_ifs <;> first | (exfalso; omega) | exact congrArg f (Fin.ext (by simp only; omega))

theorem colAt_zero (f : Fin 11840 → EReal) (n : ℕ)
    (h : (11792 ≤ n ∧ n < 11904) ∨ (11928 ≤ n ∧ n < 12032) ∨ 12056 ≤ n) : 0 = colAt f n := by
  unfold colAt
  split_ifs <;> first | (exfalso; omega) | rfl

/-- Sums go through the arrangement. -/
theorem sum_colAt {K : ℕ} (h : Fin K → EReal) (w : Fin K → Fin 11840 → EReal) (n : ℕ) :
    ∑ k, h k * colAt (w k) n = colAt (fun j => ∑ k, h k * w k j) n := by
  unfold colAt
  split_ifs <;> first | rfl | simp only [mul_zero, Finset.sum_const_zero]

/-- The projected row `s` in lane tiles: lane `d` of tile `n` is column `128 n + d` of the arrangement. -/
def projAt (x : (⟨3, ![4, 4096, 2048]⟩ : Shape).Idx → EReal) (nw : (⟨1, ![2048]⟩ : Shape).Idx → EReal)
    (sc sh : (⟨2, ![4, 2048]⟩ : Shape).Idx → EReal) (w : (⟨2, ![2048, 11840]⟩ : Shape).Idx → EReal)
    (b : Fin 4) (n : Fin 96) (s : Fin 4096) (d : Fin 128) : EReal :=
  colAt (fun j => ∑ k, rowAt x nw sc sh b s k * w (ix2 k j)) (128 * n.val + d.val)

/-- The projected array. -/
def projOf (x : (⟨3, ![4, 4096, 2048]⟩ : Shape).Idx → EReal) (nw : (⟨1, ![2048]⟩ : Shape).Idx → EReal)
    (sc sh : (⟨2, ![4, 2048]⟩ : Shape).Idx → EReal) (w : (⟨2, ![2048, 11840]⟩ : Shape).Idx → EReal)
    (i : (⟨4, ![4, 96, 4096, 128]⟩ : Shape).Idx) : EReal :=
  projAt x nw sc sh w (i 0) (i 1) (i 2) (i 3)

/-- A value by cases equals `z` where both cases do. -/
theorem dite_eq_of {c : Prop} [Decidable c] {f : c → EReal} {g : ¬c → EReal} {z : EReal} (h1 : ∀ h, f h = z) (h2 : ∀ h, g h = z) : dite c f g = z := by
  split
  · exact h1 _
  · exact h2 _

section Reference
open Cert.Reference2Ideal Cert.Reference2Ideal.Gen

/-- The reference's rows. -/
abbrev refRows (x : FVec Ideal S4x4096x2048 .f32) (nw : FVec Ideal S2048 .f32) (sc sh : FVec Ideal S4x2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 nw)))
    (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 sc))))
    (broadcastInDim S4x4096x2048 ![0, 1, 2] bcast_S4x1x2048_S4x4096x2048_0_1_2 (broadcastInDim S4x1x2048 ![0, 2] bcast_S4x2048_S4x1x2048_0_2 sh))

theorem refRows_at (x : FVec Ideal S4x4096x2048 .f32) (nw : FVec Ideal S2048 .f32) (sc sh : FVec Ideal S4x2048 .f32) (b : Fin 4) (s : Fin 4096) (k : Fin 2048) :
    refRows x nw sc sh (ix3 b s k) = rowAt x nw sc sh b s k := by
  unfold refRows rowAt
  pointwise

/-- The wide pieces of the product's columns, side by side in the arrangement's order. -/
abbrev wide (D : FVec Ideal S4x4096x11840 .f32) : FVec Ideal S4x4096x11904 .f32 :=
  concatenate S4x4096x11904 2 [⟨S4x4096x1024, ((extractStridedSlice S4x4096x1024 ![0, 0, 0] D slices_S4x4096x11840_S4x4096x1024_0_0_0))⟩,
    ⟨S4x4096x1024, ((extractStridedSlice S4x4096x1024 ![0, 0, 1024] D slices_S4x4096x11840_S4x4096x1024_0_0_1024))⟩,
    ⟨S4x4096x1024, ((extractStridedSlice S4x4096x1024 ![0, 0, 2048] D slices_S4x4096x11840_S4x4096x1024_0_0_2048))⟩,
    ⟨S4x4096x1024, ((extractStridedSlice S4x4096x1024 ![0, 0, 3072] D slices_S4x4096x11840_S4x4096x1024_0_0_3072))⟩,
    ⟨S4x4096x2048, ((extractStridedSlice S4x4096x2048 ![0, 0, 4112] D slices_S4x4096x11840_S4x4096x2048_0_0_4112))⟩,
    ⟨S4x4096x256, ((extractStridedSlice S4x4096x256 ![0, 0, 6160] D slices_S4x4096x11840_S4x4096x256_0_0_6160))⟩,
    ⟨S4x4096x256, ((extractStridedSlice S4x4096x256 ![0, 0, 6416] D slices_S4x4096x11840_S4x4096x256_0_0_6416))⟩,
    ⟨S4x4096x256, ((extractStridedSlice S4x4096x256 ![0, 0, 6672] D slices_S4x4096x11840_S4x4096x256_0_0_6672))⟩,
    ⟨S4x4096x256, ((extractStridedSlice S4x4096x256 ![0, 0, 6928] D slices_S4x4096x11840_S4x4096x256_0_0_6928))⟩,
    ⟨S4x4096x256, ((extractStridedSlice S4x4096x256 ![0, 0, 7184] D slices_S4x4096x11840_S4x4096x256_0_0_7184))⟩,
    ⟨S4x4096x256, ((extractStridedSlice S4x4096x256 ![0, 0, 7440] D slices_S4x4096x11840_S4x4096x256_0_0_7440))⟩,
    ⟨S4x4096x2048, ((extractStridedSlice S4x4096x2048 ![0, 0, 7744] D slices_S4x4096x11840_S4x4096x2048_0_0_7744))⟩,
    ⟨S4x4096x2048, ((extractStridedSlice S4x4096x2048 ![0, 0, 9792] D slices_S4x4096x11840_S4x4096x2048_0_0_9792))⟩,
    ⟨S4x4096x8, ((extractStridedSlice S4x4096x8 ![0, 0, 4096] D slices_S4x4096x11840_S4x4096x8_0_0_4096))⟩,
    ⟨S4x4096x8, ((extractStridedSlice S4x4096x8 ![0, 0, 4104] D slices_S4x4096x11840_S4x4096x8_0_0_4104))⟩,
    ⟨S4x4096x112, ((broadcastInDim S4x4096x112 ![] bcast_S_S4x4096x112 (constant (F := Ideal) S_ .f32 0x00000000#32)))⟩] concatenates_S4x4096x1024_S4x4096x1024_S4x4096x1024_S4x4096x1024_S4x4096x2048_S4x4096x256_S4x4096x256_S4x4096x256_S4x4096x256_S4x4096x256_S4x4096x256_S4x4096x2048_S4x4096x2048_S4x4096x8_S4x4096x8_S4x4096x112_S4x4096x11904_d2

/-- The narrow pieces, with zeros between. -/
abbrev narrow (D : FVec Ideal S4x4096x11840 .f32) : FVec Ideal S4x4096x384 .f32 :=
  concatenate S4x4096x384 2 [⟨S4x4096x24, ((extractStridedSlice S4x4096x24 ![0, 0, 0] (extractStridedSlice S4x4096x48 ![0, 0, 7696] D slices_S4x4096x11840_S4x4096x48_0_0_7696) slices_S4x4096x48_S4x4096x24_0_0_0))⟩,
    ⟨S4x4096x104, ((broadcastInDim S4x4096x104 ![] bcast_S_S4x4096x104 (constant (F := Ideal) S_ .f32 0x00000000#32)))⟩,
    ⟨S4x4096x24, ((extractStridedSlice S4x4096x24 ![0, 0, 24] (extractStridedSlice S4x4096x48 ![0, 0, 7696] D slices_S4x4096x11840_S4x4096x48_0_0_7696) slices_S4x4096x48_S4x4096x24_0_0_24))⟩,
    ⟨S4x4096x104, ((broadcastInDim S4x4096x104 ![] bcast_S_S4x4096x104 (constant (F := Ideal) S_ .f32 0x00000000#32)))⟩,
    ⟨S4x4096x128, ((broadcastInDim S4x4096x128 ![] bcast_S_S4x4096x128 (constant (F := Ideal) S_ .f32 0x00000000#32)))⟩] concatenates_S4x4096x24_S4x4096x104_S4x4096x24_S4x4096x104_S4x4096x128_S4x4096x384_d2

/-- The product's columns, split, set side by side again in the arrangement's order and cut in lane tiles. -/
abbrev arranged (D : FVec Ideal S4x4096x11840 .f32) : FVec Ideal S4x96x4096x128 .f32 :=
  transpose S4x96x4096x128 [0, 2, 1, 3] (shapeCast S4x4096x96x128 (concatenate S4x4096x12288 2 [⟨S4x4096x11904, wide D⟩, ⟨S4x4096x384, narrow D⟩]
    concatenates_S4x4096x11904_S4x4096x384_S4x4096x12288_d2) shapeCasts_S4x4096x12288_S4x4096x96x128) transposes_S4x4096x96x128_S4x96x4096x128_0_2_1_3

theorem narrow_at (D : FVec Ideal S4x4096x11840 .f32) (b : Fin 4) (s : Fin 4096) (n : Fin 384) :
    narrow D (ix3 b s n) = colAt (fun j => D (ix3 b s j)) (11904 + n.val) := by
  unfold narrow
  pointwise
  split_ifs
  all_goals first
    | exact colAt_zero _ _ (by omega)
    | exact colAt_src (fun j => D (ix3 b s j)) _ ⟨_, _⟩ (by dsimp only; omega)

set_option maxHeartbeats 2000000 in
theorem wide_at (D : FVec Ideal S4x4096x11840 .f32) (b : Fin 4) (s : Fin 4096) (n : Fin 11904) :
    wide D (ix3 b s n) = colAt (fun j => D (ix3 b s j)) n.val := by
  unfold wide
  pointwise
  repeat' refine dite_eq_of (fun _ => ?_) (fun _ => ?_)
  all_goals first
    | exact colAt_zero _ _ (by omega)
    | exact colAt_src (fun j => D (ix3 b s j)) _ ⟨_, _⟩ (by dsimp only; omega)

theorem joined_at (D : FVec Ideal S4x4096x11840 .f32) (A : FVec Ideal S4x4096x11904 .f32) (B : FVec Ideal S4x4096x384 .f32) (b : Fin 4) (s : Fin 4096) (n : Fin 12288)
    (hA : ∀ n : Fin 11904, A (ix3 b s n) = colAt (fun j => D (ix3 b s j)) n.val)
    (hB : ∀ n : Fin 384, B (ix3 b s n) = colAt (fun j => D (ix3 b s j)) (11904 + n.val)) :
    concatenate S4x4096x12288 2 [⟨S4x4096x11904, A⟩, ⟨S4x4096x384, B⟩] concatenates_S4x4096x11904_S4x4096x384_S4x4096x12288_d2 (ix3 b s n)
      = colAt (fun j => D (ix3 b s j)) n.val := by
  pointwise
  split
  · rename_i h
    exact hA ⟨n.val, h⟩
  · rename_i h
    refine (hB ⟨n.val - 11904, by omega⟩).trans ?_
    rw [show 11904 + (⟨n.val - 11904, by omega⟩ : Fin 384).val = n.val by simp only; omega]

theorem tiles_at (C : FVec Ideal S4x4096x12288 .f32) (b : Fin 4) (n : Fin 96) (s : Fin 4096) (d : Fin 128) :
    transpose S4x96x4096x128 [0, 2, 1, 3] (shapeCast S4x4096x96x128 C shapeCasts_S4x4096x12288_S4x4096x96x128) transposes_S4x4096x96x128_S4x96x4096x128_0_2_1_3 (ix4 b n s d)
      = C (ix3 b s ⟨128 * n.val + d.val, by omega⟩) := by
  pointwise
  simp only [Nat.mul_comm n.val 128]

theorem arranged_at (D : FVec Ideal S4x4096x11840 .f32) (b : Fin 4) (n : Fin 96) (s : Fin 4096) (d : Fin 128) :
    arranged D (ix4 b n s d) = colAt (fun j => D (ix3 b s j)) (128 * n.val + d.val) :=
  (tiles_at _ b n s d).trans (joined_at D _ _ b s ⟨128 * n.val + d.val, by omega⟩ (wide_at D b s) (narrow_at D b s))

theorem ref_eq (x : FVec Ideal S4x4096x2048 .f32) (nw : FVec Ideal S2048 .f32) (sc sh : FVec Ideal S4x2048 .f32) (w : FVec Ideal S2048x11840 .f32) :
    arranged (Host.dotGeneral dot_S4x4096x2048_S2048x11840_S4x4096x11840_2_0_01_1_n_n none (refRows x nw sc sh) w) = projOf x nw sc sh w := by
  funext i
  obtain ⟨b, n, s, d, rfl⟩ : ∃ b n s d, i = ix4 b n s d := ⟨_, _, _, _, eq_ix4 i⟩
  rw [arranged_at]
  show _ = projAt x nw sc sh w b n s d
  unfold projAt
  congr 1
  funext j
  refine Eq.trans ?_ (Finset.sum_congr rfl fun k _ => congrArg (· * w (ix2 k j)) (refRows_at x nw sc sh b s k))
  generalize refRows x nw sc sh = R
  pointwise

end Reference

section Kernel
open Cert.Kernel2Ideal Cert.Kernel2Ideal.Gen

section Body
variable (x0 : Vec Ideal S1x1024x2048 .f32) (x1 : Vec Ideal S1x2048 .f32) (x2 x3 : Vec Ideal S1x1x2048 .f32) (x4 : Vec Ideal S2048x1024 .bf16)

theorem pay5_at (r : Fin 1024) (k : Fin 2048) :
    k0_pay5 x0 x1 x2 x3 (ix2 r k)
      = x0 (ix3 0 r k) * Ideal.rsqrt (Ideal.div (∑ j, x0 (ix3 0 r j) * x0 (ix3 0 r j)) (Ideal.ofBits FTy.f32 1157627904#32) + Ideal.ofBits FTy.f32 897988541#32)
        * x1 (ix2 0 k) * (1 + x2 (ix3 0 0 k)) + x3 (ix3 0 0 k) := by
  unfold k0_pay5
  pointwise

theorem rd_x {a : Memref sig .tc .vmem S1x1024x2048 .f32} (h : a.IsWhole) : View.readAt (Elt Ideal) a.view (Rect.unit ![0, 0, 0] S1x1024x2048.size inb_S1x1024x2048_S1x1024x2048_0_0_0).toLoadRect (h.unread x0) = x0 :=
  (funext fun j => h.readAt_unread x0 _ j).trans (View.ld_unit_zero (by decide) inb_S1x1024x2048_S1x1024x2048_0_0_0 x0)

theorem rd_nw {a : Memref sig .tc .vmem S1x2048 .f32} (h : a.IsWhole) : View.readAt (Elt Ideal) a.view (Rect.unit ![0, 0] S1x2048.size inb_S1x2048_S1x2048_0_0).toLoadRect (h.unread x1) = x1 :=
  (funext fun j => h.readAt_unread x1 _ j).trans (View.ld_unit_zero (by decide) inb_S1x2048_S1x2048_0_0 x1)

theorem rd_sc {a : Memref sig .tc .vmem S1x1x2048 .f32} (h : a.IsWhole) : View.readAt (Elt Ideal) a.view (Rect.unit ![0, 0, 0] S1x1x2048.size inb_S1x1x2048_S1x1x2048_0_0_0).toLoadRect (h.unread x2) = x2 :=
  (funext fun j => h.readAt_unread x2 _ j).trans (View.ld_unit_zero (by decide) inb_S1x1x2048_S1x1x2048_0_0_0 x2)

theorem rd_w {a : Memref sig .tc .vmem S2048x1024 .bf16} (h : a.IsWhole) : View.readAt (Elt Ideal) a.view (Rect.unit ![0, 0] S2048x1024.size inb_S2048x1024_S2048x1024_0_0).toLoadRect (h.unread x4) = x4 :=
  (funext fun j => h.readAt_unread x4 _ j).trans (View.ld_unit_zero (by decide) inb_S2048x1024_S2048x1024_0_0 x4)

theorem rd_h (x5 : Vec Ideal S1024x2048 .bf16) {a : Memref sig .tc .vmem S1024x2048 .bf16} (h : a.IsWhole) : View.readAt (Elt Ideal) a.view (Rect.unit ![0, 0] S1024x2048.size inb_S1024x2048_S1024x2048_0_0).toLoadRect (h.unread x5) = x5 :=
  (funext fun j => h.readAt_unread x5 _ j).trans (View.ld_unit_zero (by decide) inb_S1024x2048_S1024x2048_0_0 x5)

/-- The rows' product with a block of columns, in lane tiles. -/
def blkOf (h : Vec Ideal S1024x2048 .bf16) (w : Vec Ideal S2048x1024 .bf16) : Vec Ideal S1x8x1024x128 .f32 := fun y =>
  ∑ k : Fin 2048, h (ix2 (n0 := 1024) ⟨(y 2).val, (y 2).isLt⟩ k) * w (ix2 (n1 := 1024) k ⟨128 * (y 1).val + (y 3).val, by have h1 : (y 1).val < 8 := (y 1).isLt; have h3 : (y 3).val < 128 := (y 3).isLt; omega⟩)

/-- The store of lane tile `n` agrees with the block where it stores. -/
theorem piece_ok (h : Vec Ideal S1024x2048 .bf16) (w : Vec Ideal S2048x1024 .bf16) (n : ℕ) (hn : n < 8) (inb) (v : FVec Ideal S1x1x1024x128 .f32)
    (hv : ∀ (r : Fin 1024) (d : Fin 128), v (ix4 0 0 r d) = k0_pay6 h w (ix2 r ⟨128 * n + d.val, by omega⟩)) (x : S1x1x1024x128.Idx) :
    v x = blkOf h w ((Rect.unit (s := S1x8x1024x128) ![0, n, 0, 0] S1x1x1024x128.size inb).emb x) := by
  have h2 : (x 2).val < 1024 := (x 2).isLt
  have h3 : (x 3).val < 128 := (x 3).isLt
  have h1 : (x 1).val < 1 := (x 1).isLt
  have ex : x = ix4 0 0 ⟨(x 2).val, h2⟩ ⟨(x 3).val, h3⟩ := by
    funext a
    match a with
    | ⟨0, _⟩ => exact Fin.ext (Nat.lt_one_iff.mp (x 0).isLt)
    | ⟨1, _⟩ => exact Fin.ext (Nat.lt_one_iff.mp (x 1).isLt)
    | ⟨2, _⟩ => rfl
    | ⟨3, _⟩ => rfl
  have hp : ∀ (r : Fin 1024) (q : Fin 1024), k0_pay6 h w (ix2 r q) = ∑ k : Fin 2048, h (ix2 r k) * w (ix2 k q) := by
    intro r q
    unfold k0_pay6
    pointwise
  have e1 : ((Rect.unit (s := S1x8x1024x128) ![0, n, 0, 0] S1x1x1024x128.size inb).emb x 1).val = n + 1 * (x 1).val := rfl
  have e2 : ((Rect.unit (s := S1x8x1024x128) ![0, n, 0, 0] S1x1x1024x128.size inb).emb x 2).val = 0 + 1 * (x 2).val := rfl
  have e3 : ((Rect.unit (s := S1x8x1024x128) ![0, n, 0, 0] S1x1x1024x128.size inb).emb x 3).val = 0 + 1 * (x 3).val := rfl
  refine (congrArg v ex).trans ((hv _ _).trans ((hp _ _).trans ?_))
  unfold blkOf
  refine Finset.sum_congr rfl fun k _ => congrArg₂ (fun a b => h (ix2 a k) * w (ix2 k b)) ?_ ?_
  · exact Fin.ext (by simp only [e2]; omega)
  · exact Fin.ext (by simp only [e1, e3]; omega)

/-- The eight stores leave the block. -/
theorem stores_eq (h : Vec Ideal S1024x2048 .bf16) (w : Vec Ideal S2048x1024 .bf16) :
    View.canon (Val := Elt Ideal) (e := .f32)
      [⟨Rect.unit (s := S1x8x1024x128) ![0, 7, 0, 0] S1x1x1024x128.size inb_S1x8x1024x128_S1x1x1024x128_0_7_0_0, k0_pay4 (k0_pay6 h w)⟩,
       ⟨Rect.unit (s := S1x8x1024x128) ![0, 6, 0, 0] S1x1x1024x128.size inb_S1x8x1024x128_S1x1x1024x128_0_6_0_0, k0_pay3 (k0_pay6 h w)⟩,
       ⟨Rect.unit (s := S1x8x1024x128) ![0, 5, 0, 0] S1x1x1024x128.size inb_S1x8x1024x128_S1x1x1024x128_0_5_0_0, k0_pay2 (k0_pay6 h w)⟩,
       ⟨Rect.unit (s := S1x8x1024x128) ![0, 4, 0, 0] S1x1x1024x128.size inb_S1x8x1024x128_S1x1x1024x128_0_4_0_0, k0_pay1 (k0_pay11 h w)⟩,
       ⟨Rect.unit (s := S1x8x1024x128) ![0, 3, 0, 0] S1x1x1024x128.size inb_S1x8x1024x128_S1x1x1024x128_0_3_0_0, k0_pay10 h w⟩,
       ⟨Rect.unit (s := S1x8x1024x128) ![0, 2, 0, 0] S1x1x1024x128.size inb_S1x8x1024x128_S1x1x1024x128_0_2_0_0, k0_pay9 h w⟩,
       ⟨Rect.unit (s := S1x8x1024x128) ![0, 1, 0, 0] S1x1x1024x128.size inb_S1x8x1024x128_S1x1x1024x128_0_1_0_0, k0_pay8 h w⟩,
       ⟨Rect.unit (s := S1x8x1024x128) ![0, 0, 0, 0] S1x1x1024x128.size inb_S1x8x1024x128_S1x1x1024x128_0_0_0_0, k0_pay7 h w⟩]
      = blkOf h w := by
  funext y
  refine View.canon_apply_of_pieces (Val := Elt Ideal) (e := .f32) (blkOf h w) _ ?_ y (View.cover_of_tiledL _ ![1, 1, 1024, 128] (by sl_kernel_rfl) y)
  intro p hp
  simp only [List.mem_cons, List.not_mem_nil, or_false] at hp
  rcases hp with rfl | rfl | rfl | rfl | rfl | rfl | rfl | rfl
  · refine piece_ok h w 7 (by decide) inb_S1x8x1024x128_S1x1x1024x128_0_7_0_0 _ fun r d => ?_
    unfold k0_pay4; generalize k0_pay6 h w = X; pointwise
  · refine piece_ok h w 6 (by decide) inb_S1x8x1024x128_S1x1x1024x128_0_6_0_0 _ fun r d => ?_
    unfold k0_pay3; generalize k0_pay6 h w = X; pointwise
  · refine piece_ok h w 5 (by decide) inb_S1x8x1024x128_S1x1x1024x128_0_5_0_0 _ fun r d => ?_
    unfold k0_pay2; generalize k0_pay6 h w = X; pointwise
  · refine piece_ok h w 4 (by decide) inb_S1x8x1024x128_S1x1x1024x128_0_4_0_0 _ fun r d => ?_
    unfold k0_pay1 k0_pay11; generalize k0_pay6 h w = X; pointwise
  · refine piece_ok h w 3 (by decide) inb_S1x8x1024x128_S1x1x1024x128_0_3_0_0 _ fun r d => ?_
    unfold k0_pay10; generalize k0_pay6 h w = X; pointwise
  · refine piece_ok h w 2 (by decide) inb_S1x8x1024x128_S1x1x1024x128_0_2_0_0 _ fun r d => ?_
    unfold k0_pay9; generalize k0_pay6 h w = X; pointwise
  · refine piece_ok h w 1 (by decide) inb_S1x8x1024x128_S1x1x1024x128_0_1_0_0 _ fun r d => ?_
    unfold k0_pay8; generalize k0_pay6 h w = X; pointwise
  · refine piece_ok h w 0 (by decide) inb_S1x8x1024x128_S1x1x1024x128_0_0_0_0 _ fun r d => ?_
    unfold k0_pay7; generalize k0_pay6 h w = X; pointwise

end Body

section CaseA
variable (c : Dev nD) {i : grid0.Coords} (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1x8x1024x128 .f32) (harg8 : arg8.IsWhole) (arg9 : Memref sig .tc .vmem S1024x2048 .bf16) (harg9 : arg9.IsWhole) (hc0 : cond0_0 i)
    (x0 : Vec Ideal S1x1024x2048 .f32) (x1 : Vec Ideal S1x2048 .f32) (x2 : Vec Ideal S1x1x2048 .f32) (x3 : Vec Ideal S1x1x2048 .f32)
    (x4 : Vec Ideal S2048x1024 .bf16)

theorem scratch_A : sout0_A_0 c i arg3 harg3 arg4 harg4 arg5 harg5 arg6 harg6 arg7 harg7 arg8 harg8 arg9 harg9 hc0 x0 x1 x2 x3 x4 = k0_pay5 x0 x1 x2 x3 := by
  unfold sout0_A_0
  rw [View.read_writes_junk_eq_canon]
  unfold kernelRun0_A
  dsimp only
  unfold kernelRun0_A.sl.HS0_1
  rw [rd_x, rd_nw, rd_sc, rd_sc]
  exact View.canon_unit_zero (by decide) _ _

theorem out_A : out0_A_5 c i arg3 harg3 arg4 harg4 arg5 harg5 arg6 harg6 arg7 harg7 arg8 harg8 arg9 harg9 hc0 x0 x1 x2 x3 x4 = blkOf (k0_pay5 x0 x1 x2 x3) x4 := by
  unfold out0_A_5
  rw [View.read_writes_junk_eq_canon]
  unfold kernelRun0_A
  dsimp only
  unfold kernelRun0_A.sl.r kernelRun0_A.sl.r_1 kernelRun0_A.sl.v3 kernelRun0_A.sl.HS0_1
  rw [rd_x, rd_nw, rd_sc, rd_sc, View.readCov_unit_zero _ (by decide)]
  exact (stores_eq _ _).trans (congrArg (blkOf _) (rd_w x4 harg7))

end CaseA

section CaseB
variable (c : Dev nD) {i : grid0.Coords} (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1x8x1024x128 .f32) (harg8 : arg8.IsWhole) (arg9 : Memref sig .tc .vmem S1024x2048 .bf16) (harg9 : arg9.IsWhole) (hc0 : ¬cond0_0 i)
    (x0 : Vec Ideal S1x1024x2048 .f32) (x1 : Vec Ideal S1x2048 .f32) (x2 : Vec Ideal S1x1x2048 .f32) (x3 : Vec Ideal S1x1x2048 .f32)
    (x4 : Vec Ideal S2048x1024 .bf16) (x5 : Vec Ideal S1024x2048 .bf16)

theorem out_B : out0_B_5 c i arg3 harg3 arg4 harg4 arg5 harg5 arg6 harg6 arg7 harg7 arg8 harg8 arg9 harg9 hc0 x0 x1 x2 x3 x4 x5 = blkOf x5 x4 := by
  unfold out0_B_5
  rw [View.read_writes_junk_eq_canon]
  unfold kernelRun0_B
  dsimp only
  unfold kernelRun0_B.sl.r kernelRun0_B.sl.r_1
  exact (stores_eq _ _).trans (congrArg₂ blkOf (rd_h x5 harg9) (rd_w x4 harg7))

end CaseB

variable (m : (ℓ : Loc nD τ sig) → Buf (Elt Ideal) ℓ) (c : Dev nD) (t : Fin cfg0.N)

/-- The result from this memory's arguments. -/
abbrev outMem : Buf (Elt Ideal) ((c : Thread nD τ).loc main_v15) :=
  projOf (m ((c : Thread nD τ).loc main_arg0)) (m ((c : Thread nD τ).loc main_arg1)) (m ((c : Thread nD τ).loc main_arg2))
    (m ((c : Thread nD τ).loc main_arg3)) (m ((c : Thread nD τ).loc main_arg4))

/-- A row of this memory's arguments, normalised and modulated. -/
abbrev rowMem (b : Fin 4) (s : Fin 4096) (k : Fin 2048) : EReal :=
  rowAt (m ((c : Thread nD τ).loc main_arg0)) (m ((c : Thread nD τ).loc main_arg1)) (m ((c : Thread nD τ).loc main_arg2))
    (m ((c : Thread nD τ).loc main_arg3)) b s k

theorem pt_lt (t : Fin cfg0.N) : t.val < 192 := t.isLt

def ptB (t : Fin cfg0.N) : Fin 4 := ⟨t.val / 48, by have := pt_lt t; omega⟩
def ptR (t : Fin cfg0.N) (r : Fin 1024) : Fin 4096 := ⟨1024 * (t.val / 12 % 4) + r.val, by omega⟩
def ptC (t : Fin cfg0.N) (j : Fin 1024) : Fin 12288 := ⟨1024 * (t.val % 12) + j.val, by omega⟩

theorem idx0 : ∀ t : Fin cfg0.N, win0_0.index t (0 : Fin 3) = t.val / 48 ∧ win0_0.index t (1 : Fin 3) = t.val / 12 % 4 ∧ win0_0.index t (2 : Fin 3) = 0 := by
  decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 3) = t.val / 48 ∧ win0_2.index t (1 : Fin 3) = 0 ∧ win0_2.index t (2 : Fin 3) = 0 := by
  decide +kernel
theorem idx3 : ∀ t : Fin cfg0.N, win0_3.index t (0 : Fin 3) = t.val / 48 ∧ win0_3.index t (1 : Fin 3) = 0 ∧ win0_3.index t (2 : Fin 3) = 0 := by
  decide +kernel
theorem idx4 : ∀ t : Fin cfg0.N, win0_4.index t (0 : Fin 2) = 0 ∧ win0_4.index t (1 : Fin 2) = t.val % 12 := by decide +kernel
theorem idx5 : ∀ t : Fin cfg0.N, win0_5.index t (0 : Fin 4) = t.val / 48 ∧ win0_5.index t (1 : Fin 4) = t.val % 12
    ∧ win0_5.index t (2 : Fin 4) = t.val / 12 % 4 ∧ win0_5.index t (3 : Fin 4) = 0 ∧ win0_5.flush t = true := by decide +kernel

/-- The input's rows at a grid point. -/
theorem blk0 (r : Fin 1024) (k : Fin 2048) :
    iblk m c 0 t (ix3 0 r k) = m ((c : Thread nD τ).loc main_arg0) (ix3 (ptB t) (ptR t r) k) := by
  show (V m c main_arg0) (((cfg0.win 0).blk t).view.emb (ix3 0 r k)) = _
  rw [V_main_arg0]
  obtain ⟨e0, e1, e2⟩ := idx0 t
  refine congrArg (m ((c : Thread nD τ).loc main_arg0)) (funext fun a => Fin.ext ?_)
  match a with
  | ⟨0, _⟩ => show win0_0.index t (0 : Fin 3) * 1 + 1 * 0 = t.val / 48; omega
  | ⟨1, _⟩ => show win0_0.index t (1 : Fin 3) * 1024 + 1 * r.val = 1024 * (t.val / 12 % 4) + r.val; omega
  | ⟨2, _⟩ => show win0_0.index t (2 : Fin 3) * 2048 + 1 * k.val = k.val; omega

theorem V_nw (k : Fin 2048) : V m c main_v12 (ix2 0 k) = m ((c : Thread nD τ).loc main_arg1) (ix1 k) := by
  have e : V m c main_v12 = shapeCast S1x2048 (m ((c : Thread nD τ).loc main_arg1)) shapeCasts_S2048_S1x2048 := by
    show StableHlo.after hostOps0 _ _ = _
    after_results_simp <;> rfl
  rw [e]
  pointwise

theorem V_sc (b : Fin 4) (k : Fin 2048) : V m c main_v13 (ix3 b 0 k) = m ((c : Thread nD τ).loc main_arg2) (ix2 b k) := by
  have e : V m c main_v13 = shapeCast S4x1x2048 (m ((c : Thread nD τ).loc main_arg2)) shapeCasts_S4x2048_S4x1x2048 := by
    show StableHlo.after hostOps0 _ _ = _
    after_results_simp <;> rfl
  rw [e]
  pointwise

theorem V_sh (b : Fin 4) (k : Fin 2048) : V m c main_v14 (ix3 b 0 k) = m ((c : Thread nD τ).loc main_arg3) (ix2 b k) := by
  have e : V m c main_v14 = shapeCast S4x1x2048 (m ((c : Thread nD τ).loc main_arg3)) shapeCasts_S4x2048_S4x1x2048 := by
    show StableHlo.after hostOps0 _ _ = _
    after_results_simp <;> rfl
  rw [e]
  pointwise

/-- The weights' columns as the call takes them. -/
abbrev wTerm (w : FVec Ideal S2048x11840 .f32) : FVec Ideal S2048x12288 .bf16 :=
  truncf .bf16 (concatenate S2048x12288 1 [⟨S2048x4096, extractStridedSlice S2048x4096 ![0, 0] w slices_S2048x11840_S2048x4096_0_0⟩,
    ⟨S2048x3584, extractStridedSlice S2048x3584 ![0, 4112] w slices_S2048x11840_S2048x3584_0_4112⟩,
    ⟨S2048x4096, extractStridedSlice S2048x4096 ![0, 7744] w slices_S2048x11840_S2048x4096_0_7744⟩,
    ⟨S2048x16, extractStridedSlice S2048x16 ![0, 4096] w slices_S2048x11840_S2048x16_0_4096⟩,
    ⟨S2048x112, broadcastInDim S2048x112 ![] bcast_S_S2048x112 (constant (F := Ideal) S_ .f32 0#32)⟩,
    ⟨S2048x24, extractStridedSlice S2048x24 ![0, 7696] w slices_S2048x11840_S2048x24_0_7696⟩,
    ⟨S2048x104, broadcastInDim S2048x104 ![] bcast_S_S2048x104 (constant (F := Ideal) S_ .f32 0#32)⟩,
    ⟨S2048x24, extractStridedSlice S2048x24 ![0, 7720] w slices_S2048x11840_S2048x24_0_7720⟩,
    ⟨S2048x104, broadcastInDim S2048x104 ![] bcast_S_S2048x104 (constant (F := Ideal) S_ .f32 0#32)⟩,
    ⟨S2048x128, broadcastInDim S2048x128 ![] bcast_S_S2048x128 (constant (F := Ideal) S_ .f32 0#32)⟩]
    concatenates_S2048x4096_S2048x3584_S2048x4096_S2048x16_S2048x112_S2048x24_S2048x104_S2048x24_S2048x104_S2048x128_S2048x12288_d1) bitsLt_bf16_f32

set_option maxHeartbeats 2000000 in
theorem wTerm_at (w : FVec Ideal S2048x11840 .f32) (k : Fin 2048) (n : Fin 12288) : wTerm w (ix2 k n) = colAt (fun j => w (ix2 k j)) n.val := by
  unfold wTerm
  pointwise
  repeat' refine dite_eq_of (fun _ => ?_) (fun _ => ?_)
  all_goals first
    | exact colAt_zero _ _ (by omega)
    | exact colAt_src (fun j => w (ix2 k j)) _ ⟨_, _⟩ (by dsimp only; omega)

theorem V_w (k : Fin 2048) (n : Fin 12288) : V m c main_v11 (ix2 k n) = colAt (fun j => m ((c : Thread nD τ).loc main_arg4) (ix2 k j)) n.val := by
  have e : V m c main_v11 = wTerm (m ((c : Thread nD τ).loc main_arg4)) := by
    show StableHlo.after hostOps0 _ _ = _
    after_results_simp <;> (try dsimp only [Matrix.cons_val]) <;> (try after_results_simp) <;> rfl
  rw [e]
  exact wTerm_at _ k n

/-- The norm's weights. -/
theorem blk1 (k : Fin 2048) : iblk m c 1 t (ix2 0 k) = m ((c : Thread nD τ).loc main_arg1) (ix1 k) := by
  refine Eq.trans ?_ (V_nw m c k)
  show (V m c main_v12) (((cfg0.win 1).blk t).view.emb (ix2 0 k)) = _
  obtain ⟨e0, e1⟩ := idx1 t
  refine congrArg (V m c main_v12) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- The scale of a batch. -/
theorem blk2 (k : Fin 2048) : iblk m c 2 t (ix3 0 0 k) = m ((c : Thread nD τ).loc main_arg2) (ix2 (ptB t) k) := by
  refine Eq.trans ?_ (V_sc m c (ptB t) k)
  show (V m c main_v13) (((cfg0.win 2).blk t).view.emb (ix3 0 0 k)) = _
  obtain ⟨e0, e1, e2⟩ := idx2 t
  refine congrArg (V m c main_v13) (funext fun a => Fin.ext ?_)
  match a with
  | ⟨0, _⟩ => show win0_2.index t (0 : Fin 3) * 1 + 1 * 0 = t.val / 48; omega
  | ⟨1, _⟩ => show win0_2.index t (1 : Fin 3) * 1 + 1 * 0 = 0; omega
  | ⟨2, _⟩ => show win0_2.index t (2 : Fin 3) * 2048 + 1 * k.val = k.val; omega

/-- The shift of a batch. -/
theorem blk3 (k : Fin 2048) : iblk m c 3 t (ix3 0 0 k) = m ((c : Thread nD τ).loc main_arg3) (ix2 (ptB t) k) := by
  refine Eq.trans ?_ (V_sh m c (ptB t) k)
  show (V m c main_v14) (((cfg0.win 3).blk t).view.emb (ix3 0 0 k)) = _
  obtain ⟨e0, e1, e2⟩ := idx3 t
  refine congrArg (V m c main_v14) (funext fun a => Fin.ext ?_)
  match a with
  | ⟨0, _⟩ => show win0_3.index t (0 : Fin 3) * 1 + 1 * 0 = t.val / 48; omega
  | ⟨1, _⟩ => show win0_3.index t (1 : Fin 3) * 1 + 1 * 0 = 0; omega
  | ⟨2, _⟩ => show win0_3.index t (2 : Fin 3) * 2048 + 1 * k.val = k.val; omega

/-- The weights' columns at a grid point. -/
theorem blk4 (k : Fin 2048) (j : Fin 1024) :
    iblk m c 4 t (ix2 k j) = colAt (fun j => m ((c : Thread nD τ).loc main_arg4) (ix2 k j)) (ptC t j).val := by
  refine Eq.trans ?_ (V_w m c k (ptC t j))
  show (V m c main_v11) (((cfg0.win 4).blk t).view.emb (ix2 k j)) = _
  obtain ⟨e0, e1⟩ := idx4 t
  refine congrArg (V m c main_v11) (funext fun a => Fin.ext ?_)
  match a with
  | ⟨0, _⟩ => show win0_4.index t (0 : Fin 2) * 2048 + 1 * k.val = k.val; omega
  | ⟨1, _⟩ => show win0_4.index t (1 : Fin 2) * 1024 + 1 * j.val = 1024 * (t.val % 12) + j.val; omega

/-- The rows a first column block computes. -/
theorem rows_eq (r : Fin 1024) (k : Fin 2048) :
    k0_pay5 (iblk m c 0 t) (iblk m c 1 t) (iblk m c 2 t) (iblk m c 3 t) (ix2 r k) = rowMem m c (ptB t) (ptR t r) k := by
  rw [pay5_at]
  simp only [blk0, blk1, blk2, blk3]
  rfl

/-- After every point the scratch holds the rows of its row block. -/
theorem scratch_at (n : ℕ) : ∀ (hn : n < cfg0.N) (r : Fin 1024) (k : Fin 2048),
    (outsAt0 m c n hn).2 (ix2 r k) = rowMem m c (ptB ⟨n, hn⟩) (ptR ⟨n, hn⟩ r) k := by
  induction n with
  | zero =>
    intro hn r k
    rw [outsAt0_A m c ⟨0, hn⟩ rfl]
    dsimp only
    rw [scratch_A]
    exact rows_eq m c ⟨0, hn⟩ r k
  | succ n ih =>
    intro hn r k
    by_cases h0 : (n + 1) % 12 = 0
    · rw [outsAt0_A m c ⟨n + 1, hn⟩ h0]
      dsimp only
      rw [scratch_A]
      exact rows_eq m c ⟨n + 1, hn⟩ r k
    · rw [outsAt0_B m c ⟨n + 1, hn⟩ h0]
      have hlt := Nat.lt_of_succ_lt hn
      show (outsAt0 m c n hlt).2 (ix2 r k) = _
      rw [ih hlt]
      have eb : ptB ⟨n, hlt⟩ = ptB ⟨n + 1, hn⟩ := Fin.ext (show n / 48 = (n + 1) / 48 by omega)
      have er : ptR ⟨n, hlt⟩ r = ptR ⟨n + 1, hn⟩ r := Fin.ext (show 1024 * (n / 12 % 4) + r.val = 1024 * ((n + 1) / 12 % 4) + r.val by omega)
      rw [eb, er]

/-- The block a grid point leaves, as entries of the projected array. -/
theorem blk_eq (h : Vec Ideal S1024x2048 .bf16) (hh : ∀ (r : Fin 1024) (k : Fin 2048), h (ix2 r k) = rowMem m c (ptB t) (ptR t r) k)
    (y : S1x8x1024x128.Idx) : blkOf h (iblk m c 4 t) y = outMem m c (((cfg0.win 5).blk t).view.emb y) := by
  have hy0 : (y 0).val < 1 := (y 0).isLt
  have hy1 : (y 1).val < 8 := (y 1).isLt
  have hy2 : (y 2).val < 1024 := (y 2).isLt
  have hy3 : (y 3).val < 128 := (y 3).isLt
  obtain ⟨e0, e1, e2, e3, -⟩ := idx5 t
  have b0 : (((cfg0.win 5).blk t).view.emb y 0).val = win0_5.index t (0 : Fin 4) * 1 + 1 * (y 0).val := rfl
  have b1 : (((cfg0.win 5).blk t).view.emb y 1).val = win0_5.index t (1 : Fin 4) * 8 + 1 * (y 1).val := rfl
  have b2 : (((cfg0.win 5).blk t).view.emb y 2).val = win0_5.index t (2 : Fin 4) * 1024 + 1 * (y 2).val := rfl
  have b3 : (((cfg0.win 5).blk t).view.emb y 3).val = win0_5.index t (3 : Fin 4) * 128 + 1 * (y 3).val := rfl
  unfold blkOf
  simp only [hh, blk4]
  refine (sum_colAt _ _ _).trans ?_
  unfold outMem projOf projAt
  have eb : ptB t = ((cfg0.win 5).blk t).view.emb y 0 := Fin.ext (by rw [b0]; show t.val / 48 = _; omega)
  have er : ptR t ⟨(y 2).val, hy2⟩ = ((cfg0.win 5).blk t).view.emb y 2 := Fin.ext (by rw [b2]; show 1024 * (t.val / 12 % 4) + (y 2).val = _; omega)
  have ec : (ptC t ⟨128 * (y 1).val + (y 3).val, by omega⟩).val
      = 128 * (((cfg0.win 5).blk t).view.emb y 1).val + (((cfg0.win 5).blk t).view.emb y 3).val := by
    rw [b1, b3]; show 1024 * (t.val % 12) + (128 * (y 1).val + (y 3).val) = _; omega
  rw [ec, eb, er]

theorem flushed_eq (_ : (cfg0.win 5).flush t = true) :
    (dats m 0 c).flushed 5 t = ((cfg0.win 5).blk t).view.read (Elt Ideal) (outMem m c) := by
  by_cases h0 : t.val % 12 = 0
  · rw [Value.flushed5_A m c t h0, out_A]
    funext y
    exact blk_eq m c t _ (rows_eq m c t) y
  · rw [Value.flushed5_B m c t h0, out_B]
    funext y
    refine blk_eq m c t _ (fun r k => ?_) y
    rw [scratch_at]
    have ht := pt_lt t
    have eb : ptB ⟨t.val - 1, Nat.lt_of_le_of_lt (Nat.sub_le _ _) t.isLt⟩ = ptB t := Fin.ext (show (t.val - 1) / 48 = t.val / 48 by omega)
    have er : ptR ⟨t.val - 1, Nat.lt_of_le_of_lt (Nat.sub_le _ _) t.isLt⟩ r = ptR t r :=
      Fin.ext (show 1024 * ((t.val - 1) / 12 % 4) + r.val = 1024 * (t.val / 12 % 4) + r.val by omega)
    rw [eb, er]

theorem mem_blk (i : S4x96x4096x128.Idx) : i ∈ ((cfg0.win 5).blk t).view.set
    ↔ ∀ a : Fin 4, win0_5.index t a * S1x8x1024x128.size a ≤ (i a).val ∧ (i a).val < win0_5.index t a * S1x8x1024x128.size a + S1x8x1024x128.size a := by
  show i ∈ ((View.whole main_v15).slice (win0_5.rect t)).set ↔ _
  rw [View.set_slice_whole, Rect.mem_set_unit]
  exact Iff.rfl

theorem covered (i : S4x96x4096x128.Idx) : ∃ t : Fin cfg0.N, (cfg0.win 5).flush t = true ∧ i ∈ ((cfg0.win 5).blk t).view.set := by
  have h0 : (i 0).val < 4 := (i 0).isLt
  have h1 : (i 1).val < 96 := (i 1).isLt
  have h2 : (i 2).val < 4096 := (i 2).isLt
  have h3 : (i 3).val < 128 := (i 3).isLt
  have hp : 48 * (i 0).val + 12 * ((i 2).val / 1024) + (i 1).val / 8 < cfg0.N := show _ < 192 by omega
  obtain ⟨e0, e1, e2, e3, hf⟩ := idx5 ⟨_, hp⟩
  refine ⟨⟨_, hp⟩, hf, ?_⟩
  rw [mem_blk]
  intro a
  match a with
  | ⟨0, _⟩ => show win0_5.index ⟨_, hp⟩ (0 : Fin 4) * 1 ≤ (i 0).val ∧ (i 0).val < win0_5.index ⟨_, hp⟩ (0 : Fin 4) * 1 + 1; dsimp only at e0; omega
  | ⟨1, _⟩ => show win0_5.index ⟨_, hp⟩ (1 : Fin 4) * 8 ≤ (i 1).val ∧ (i 1).val < win0_5.index ⟨_, hp⟩ (1 : Fin 4) * 8 + 8; dsimp only at e1; omega
  | ⟨2, _⟩ => show win0_5.index ⟨_, hp⟩ (2 : Fin 4) * 1024 ≤ (i 2).val ∧ (i 2).val < win0_5.index ⟨_, hp⟩ (2 : Fin 4) * 1024 + 1024; dsimp only at e2; omega
  | ⟨3, _⟩ => show win0_5.index ⟨_, hp⟩ (3 : Fin 4) * 128 ≤ (i 3).val ∧ (i 3).val < win0_5.index ⟨_, hp⟩ (3 : Fin 4) * 128 + 128; omega

/-- The array the call leaves is `projOf` of its arguments. -/
theorem ker_eq : (dats m 0 c).arrAt 5 cfg0.N = outMem m c :=
  (dats m 0 c).arrAt_eq_of_cover 5 _ (fun t hf => flushed_eq m c t hf) covered

end Kernel

/-- Kernel and reference compute the same array. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => outMem m c, ?_, ?_⟩
  · exact (θ_run _ _ _).mono (fun r h c => ⟨(h c).1.trans (ker_eq m c), (h c).2⟩) (Cert.Kernel2Ideal.Value.run_blocks m g)
  · refine (θ_run _ _ _).mono (fun r h c => ⟨(h c).1.trans ?_, (h c).2⟩) (Cert.Reference2Ideal.Value.run (F := Ideal) m' g')
    obtain ⟨e0, e1, e2, e3, e4⟩ := hagree c
    refine (ref_eq _ _ _ _ _).trans ?_
    unfold outMem
    rw [e0, e1, e2, e3, e4]

end Cert.Proof.InProj

end
-- ==== Proof.Merge.lean ====
/- The gated merge of the two mixers' projections: what the call's array holds, and what the reference computes. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.Merge

/-- The logistic function as both programs write it. -/
def logi (x : EReal) : EReal := Ideal.div 1 (1 + Ideal.exp (0 - x))

/-- Column `d` of lane tile `h` of the merged row `s`: each mixer's product with its weights, times the logistic of its gate. -/
def mergeAt (oa : (⟨3, ![4, 4096, 1024]⟩ : Shape).Idx → EReal) (ob : (⟨3, ![4, 4096, 2048]⟩ : Shape).Idx → EReal)
    (wg : (⟨2, ![1024, 2048]⟩ : Shape).Idx → EReal) (wn : (⟨2, ![2048, 2048]⟩ : Shape).Idx → EReal)
    (P : (⟨4, ![4, 96, 4096, 128]⟩ : Shape).Idx → EReal) (b : Fin 4) (s : Fin 4096) (h : Fin 16) (d : Fin 128) : EReal :=
  logi (P (ix4 b ⟨60 + h.val, by omega⟩ s d)) * (∑ k : Fin 1024, oa (ix3 b s k) * wg (ix2 k ⟨128 * h.val + d.val, by omega⟩))
    + logi (P (ix4 b ⟨76 + h.val, by omega⟩ s d)) * ∑ k : Fin 2048, ob (ix3 b s k) * wn (ix2 k ⟨128 * h.val + d.val, by omega⟩)

/-- The merged array. -/
def mergeOf (oa : (⟨3, ![4, 4096, 1024]⟩ : Shape).Idx → EReal) (ob : (⟨3, ![4, 4096, 2048]⟩ : Shape).Idx → EReal)
    (wg : (⟨2, ![1024, 2048]⟩ : Shape).Idx → EReal) (wn : (⟨2, ![2048, 2048]⟩ : Shape).Idx → EReal)
    (P : (⟨4, ![4, 96, 4096, 128]⟩ : Shape).Idx → EReal) (i : (⟨3, ![4, 4096, 2048]⟩ : Shape).Idx) : EReal :=
  mergeAt oa ob wg wn P (i 0) (i 1) ⟨(i 2).val / 128, Nat.div_lt_of_lt_mul (i 2).isLt⟩ ⟨(i 2).val % 128, Nat.mod_lt _ (by decide)⟩

section Reference
open Cert.Reference3Ideal Cert.Reference3Ideal.Gen

/-- The reference's result, from its arguments. -/
abbrev refTerm (oa : FVec Ideal S4x4096x1024 .bf16) (ob : FVec Ideal S4x4096x2048 .bf16) (wg : FVec Ideal S1024x2048 .f32)
    (wn : FVec Ideal S2048x2048 .f32) (P : FVec Ideal S4x96x4096x128 .f32) : FVec Ideal S4x4096x2048 .bf16 :=
  truncf .bf16 (addf (mulf (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (shapeCast _ (transpose S4x4096x16x128 [0, 2, 1, 3] (extractStridedSlice S4x16x4096x128 ![0, 60, 0, 0] P slices_S4x96x4096x128_S4x16x4096x128_0_60_0_0) transposes_S4x16x4096x128_S4x4096x16x128_0_2_1_3) shapeCasts_S4x4096x16x128_S4x4096x2048))))) (Host.dotGeneral dot_S4x4096x1024_S1024x2048_S4x4096x2048_2_0_01_1_n_n none (extf .f32 oa bitsLt_bf16_f32) wg)) (mulf (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (shapeCast _ (transpose S4x4096x16x128 [0, 2, 1, 3] (extractStridedSlice S4x16x4096x128 ![0, 76, 0, 0] P slices_S4x96x4096x128_S4x16x4096x128_0_76_0_0) transposes_S4x16x4096x128_S4x4096x16x128_0_2_1_3) shapeCasts_S4x4096x16x128_S4x4096x2048))))) (Host.dotGeneral dot_S4x4096x2048_S2048x2048_S4x4096x2048_2_0_01_1_n_n none (extf .f32 ob bitsLt_bf16_f32) wn))) bitsLt_bf16_f32

theorem ref_at (oa : FVec Ideal S4x4096x1024 .bf16) (ob : FVec Ideal S4x4096x2048 .bf16) (wg : FVec Ideal S1024x2048 .f32)
    (wn : FVec Ideal S2048x2048 .f32) (P : FVec Ideal S4x96x4096x128 .f32) (b : Fin 4) (s : Fin 4096) (h : Fin 16) (d : Fin 128) :
    refTerm oa ob wg wn P (ix3 b s ⟨128 * h.val + d.val, by omega⟩) = mergeAt oa ob wg wn P b s h d := by
  unfold mergeAt logi
  pointwise
  simp only [zero_sub]

theorem ref_eq (oa : FVec Ideal S4x4096x1024 .bf16) (ob : FVec Ideal S4x4096x2048 .bf16) (wg : FVec Ideal S1024x2048 .f32)
    (wn : FVec Ideal S2048x2048 .f32) (P : FVec Ideal S4x96x4096x128 .f32) : refTerm oa ob wg wn P = mergeOf oa ob wg wn P := by
  funext i
  have h2 : (i 2).val < 2048 := (i 2).isLt
  have e : i = ix3 (i 0) (i 1) ⟨128 * ((i 2).val / 128) + (i 2).val % 128, by omega⟩ := by
    funext a
    match a with
    | ⟨0, _⟩ => rfl
    | ⟨1, _⟩ => rfl
    | ⟨2, _⟩ => exact Fin.ext (Nat.div_add_mod _ _).symm
  refine (congrArg (refTerm oa ob wg wn P) e).trans ?_
  exact ref_at oa ob wg wn P (i 0) (i 1) ⟨(i 2).val / 128, by omega⟩ ⟨(i 2).val % 128, by omega⟩

end Reference

section Kernel
open Cert.Kernel3Ideal Cert.Kernel3Ideal.Gen

variable (m : (ℓ : Loc nD τ sig) → Buf (Elt Ideal) ℓ) (c : Dev nD) (t : Fin cfg0.N)

/-- The result from this memory's arguments. -/
abbrev outMem : Buf (Elt Ideal) ((c : Thread nD τ).loc main_v2) :=
  mergeOf (m ((c : Thread nD τ).loc main_arg0)) (m ((c : Thread nD τ).loc main_arg1)) (m ((c : Thread nD τ).loc main_arg2))
    (m ((c : Thread nD τ).loc main_arg3)) (m ((c : Thread nD τ).loc main_arg4))

theorem pt_lt (t : Fin cfg0.N) : t.val < 64 := t.isLt

def ptB (t : Fin cfg0.N) : Fin 4 := ⟨t.val / 16, by have := pt_lt t; omega⟩
def ptR (t : Fin cfg0.N) (r : Fin 1024) : Fin 4096 := ⟨1024 * (t.val / 4 % 4) + r.val, by omega⟩
def ptC (t : Fin cfg0.N) (j : Fin 512) : Fin 2048 := ⟨512 * (t.val % 4) + j.val, by omega⟩
def ptH (t : Fin cfg0.N) (n : Fin 4) : Fin 16 := ⟨4 * (t.val % 4) + n.val, by omega⟩

theorem idx0 : ∀ t : Fin cfg0.N, win0_0.index t (0 : Fin 3) = t.val / 16 ∧ win0_0.index t (1 : Fin 3) = t.val / 4 % 4 ∧ win0_0.index t (2 : Fin 3) = 0 := by
  decide +kernel
theorem idx1 : ∀ t : Fin cfg0.N, win0_1.index t (0 : Fin 3) = t.val / 16 ∧ win0_1.index t (1 : Fin 3) = t.val / 4 % 4 ∧ win0_1.index t (2 : Fin 3) = 0 := by
  decide +kernel
theorem idx2 : ∀ t : Fin cfg0.N, win0_2.index t (0 : Fin 2) = 0 ∧ win0_2.index t (1 : Fin 2) = t.val % 4 := by decide +kernel
theorem idx3 : ∀ t : Fin cfg0.N, win0_3.index t (0 : Fin 2) = 0 ∧ win0_3.index t (1 : Fin 2) = t.val % 4 := by decide +kernel
theorem idx4 : ∀ t : Fin cfg0.N, win0_4.index t (0 : Fin 4) = t.val / 16 ∧ win0_4.index t (1 : Fin 4) = 15 + t.val % 4
    ∧ win0_4.index t (2 : Fin 4) = t.val / 4 % 4 ∧ win0_4.index t (3 : Fin 4) = 0 := by decide +kernel
theorem idx5 : ∀ t : Fin cfg0.N, win0_5.index t (0 : Fin 4) = t.val / 16 ∧ win0_5.index t (1 : Fin 4) = 19 + t.val % 4
    ∧ win0_5.index t (2 : Fin 4) = t.val / 4 % 4 ∧ win0_5.index t (3 : Fin 4) = 0 := by decide +kernel
theorem idx6 : ∀ t : Fin cfg0.N, win0_6.index t (0 : Fin 3) = t.val / 16 ∧ win0_6.index t (1 : Fin 3) = t.val / 4 % 4 ∧ win0_6.index t (2 : Fin 3) = t.val % 4
    ∧ win0_6.flush t = true := by
  decide +kernel

/-- The first mixer's rows at a grid point. -/
theorem blk0 (r : Fin 1024) (k : Fin 1024) :
    iblk m c 0 t (ix3 0 r k) = m ((c : Thread nD τ).loc main_arg0) (ix3 (ptB t) (ptR t r) k) := by
  show (V m c main_arg0) (((cfg0.win 0).blk t).view.emb (ix3 0 r k)) = _
  rw [V_main_arg0]
  obtain ⟨e0, e1, e2⟩ := idx0 t
  refine congrArg (m ((c : Thread nD τ).loc main_arg0)) (funext fun a => Fin.ext ?_)
  match a with
  | ⟨0, _⟩ => show win0_0.index t (0 : Fin 3) * 1 + 1 * 0 = t.val / 16; omega
  | ⟨1, _⟩ => show win0_0.index t (1 : Fin 3) * 1024 + 1 * r.val = 1024 * (t.val / 4 % 4) + r.val; omega
  | ⟨2, _⟩ => show win0_0.index t (2 : Fin 3) * 1024 + 1 * k.val = k.val; omega

/-- The second mixer's rows at a grid point. -/
theorem blk1 (r : Fin 1024) (k : Fin 2048) :
    iblk m c 1 t (ix3 0 r k) = m ((c : Thread nD τ).loc main_arg1) (ix3 (ptB t) (ptR t r) k) := by
  show (V m c main_arg1) (((cfg0.win 1).blk t).view.emb (ix3 0 r k)) = _
  rw [V_main_arg1]
  obtain ⟨e0, e1, e2⟩ := idx1 t
  refine congrArg (m ((c : Thread nD τ).loc main_arg1)) (funext fun a => Fin.ext ?_)
  match a with
  | ⟨0, _⟩ => show win0_1.index t (0 : Fin 3) * 1 + 1 * 0 = t.val / 16; omega
  | ⟨1, _⟩ => show win0_1.index t (1 : Fin 3) * 1024 + 1 * r.val = 1024 * (t.val / 4 % 4) + r.val; omega
  | ⟨2, _⟩ => show win0_1.index t (2 : Fin 3) * 2048 + 1 * k.val = k.val; omega

theorem V_wg : V m c main_v0 = truncf (F := Ideal) .bf16 (m ((c : Thread nD τ).loc main_arg2)) bitsLt_bf16_f32 := by
  show StableHlo.after hostOps0 _ _ = _
  unfold hostOps0
  after_results

theorem V_wn : V m c main_v1 = truncf (F := Ideal) .bf16 (m ((c : Thread nD τ).loc main_arg3)) bitsLt_bf16_f32 := by
  show StableHlo.after hostOps0 _ _ = _
  unfold hostOps0
  after_results

/-- The first mixer's weights at a grid point. -/
theorem blk2 (k : Fin 1024) (j : Fin 512) :
    iblk m c 2 t (ix2 k j) = m ((c : Thread nD τ).loc main_arg2) (ix2 k (ptC t j)) := by
  refine Eq.trans ?_ (show V m c main_v0 (ix2 k (ptC t j)) = _ by rw [V_wg]; pointwise)
  show (V m c main_v0) (((cfg0.win 2).blk t).view.emb (ix2 k j)) = _
  obtain ⟨e0, e1⟩ := idx2 t
  refine congrArg (V m c main_v0) (funext fun a => Fin.ext ?_)
  match a with
  | ⟨0, _⟩ => show win0_2.index t (0 : Fin 2) * 1024 + 1 * k.val = k.val; omega
  | ⟨1, _⟩ => show win0_2.index t (1 : Fin 2) * 512 + 1 * j.val = 512 * (t.val % 4) + j.val; omega

/-- The second mixer's weights at a grid point. -/
theorem blk3 (k : Fin 2048) (j : Fin 512) :
    iblk m c 3 t (ix2 k j) = m ((c : Thread nD τ).loc main_arg3) (ix2 k (ptC t j)) := by
  refine Eq.trans ?_ (show V m c main_v1 (ix2 k (ptC t j)) = _ by rw [V_wn]; pointwise)
  show (V m c main_v1) (((cfg0.win 3).blk t).view.emb (ix2 k j)) = _
  obtain ⟨e0, e1⟩ := idx3 t
  refine congrArg (V m c main_v1) (funext fun a => Fin.ext ?_)
  match a with
  | ⟨0, _⟩ => show win0_3.index t (0 : Fin 2) * 2048 + 1 * k.val = k.val; omega
  | ⟨1, _⟩ => show win0_3.index t (1 : Fin 2) * 512 + 1 * j.val = 512 * (t.val % 4) + j.val; omega

/-- The first mixer's gates at a grid point. -/
theorem blk4 (n : Fin 4) (r : Fin 1024) (d : Fin 128) :
    iblk m c 4 t (ix4 0 n r d) = m ((c : Thread nD τ).loc main_arg4) (ix4 (ptB t) ⟨60 + (ptH t n).val, by omega⟩ (ptR t r) d) := by
  show (V m c main_arg4) (((cfg0.win 4).blk t).view.emb (ix4 0 n r d)) = _
  rw [V_main_arg4]
  obtain ⟨e0, e1, e2, e3⟩ := idx4 t
  refine congrArg (m ((c : Thread nD τ).loc main_arg4)) (funext fun a => Fin.ext ?_)
  match a with
  | ⟨0, _⟩ => show win0_4.index t (0 : Fin 4) * 1 + 1 * 0 = t.val / 16; omega
  | ⟨1, _⟩ => show win0_4.index t (1 : Fin 4) * 4 + 1 * n.val = 60 + (4 * (t.val % 4) + n.val); omega
  | ⟨2, _⟩ => show win0_4.index t (2 : Fin 4) * 1024 + 1 * r.val = 1024 * (t.val / 4 % 4) + r.val; omega
  | ⟨3, _⟩ => show win0_4.index t (3 : Fin 4) * 128 + 1 * d.val = d.val; omega

/-- The second mixer's gates at a grid point. -/
theorem blk5 (n : Fin 4) (r : Fin 1024) (d : Fin 128) :
    iblk m c 5 t (ix4 0 n r d) = m ((c : Thread nD τ).loc main_arg4) (ix4 (ptB t) ⟨76 + (ptH t n).val, by omega⟩ (ptR t r) d) := by
  show (V m c main_arg4) (((cfg0.win 5).blk t).view.emb (ix4 0 n r d)) = _
  rw [V_main_arg4]
  obtain ⟨e0, e1, e2, e3⟩ := idx5 t
  refine congrArg (m ((c : Thread nD τ).loc main_arg4)) (funext fun a => Fin.ext ?_)
  match a with
  | ⟨0, _⟩ => show win0_5.index t (0 : Fin 4) * 1 + 1 * 0 = t.val / 16; omega
  | ⟨1, _⟩ => show win0_5.index t (1 : Fin 4) * 4 + 1 * n.val = 76 + (4 * (t.val % 4) + n.val); omega
  | ⟨2, _⟩ => show win0_5.index t (2 : Fin 4) * 1024 + 1 * r.val = 1024 * (t.val / 4 % 4) + r.val; omega
  | ⟨3, _⟩ => show win0_5.index t (3 : Fin 4) * 128 + 1 * d.val = d.val; omega

section Body
variable (x0 : Vec Ideal S1x1024x1024 .bf16) (x1 : Vec Ideal S1x1024x2048 .bf16) (x2 : Vec Ideal S1024x512 .bf16) (x3 : Vec Ideal S2048x512 .bf16)
  (x4 : Vec Ideal S1x4x1024x128 .f32) (x5 : Vec Ideal S1x4x1024x128 .f32)

/-- Column `d` of lane tile `n` of the block's row `r`. -/
def blkAt (r : Fin 1024) (n : Fin 4) (d : Fin 128) : EReal :=
  logi (x4 (ix4 0 n r d)) * (∑ k : Fin 1024, x0 (ix3 0 r k) * x2 (ix2 k ⟨128 * n.val + d.val, by omega⟩))
    + logi (x5 (ix4 0 n r d)) * ∑ k : Fin 2048, x1 (ix3 0 r k) * x3 (ix2 k ⟨128 * n.val + d.val, by omega⟩)

def blkOf : Vec Ideal S1x1024x512 .bf16 := fun y =>
  blkAt x0 x1 x2 x3 x4 x5 (y 1) ⟨(y 2).val / 128, Nat.div_lt_of_lt_mul (y 2).isLt⟩ ⟨(y 2).val % 128, Nat.mod_lt _ (by decide)⟩

/-- One store: the logistics of two loaded gate tiles times columns of the two products. -/
theorem piece_at (n : Fin 4) (r : Fin 1024) (d : Fin 128) (p q : Vec Ideal S1x1x1024x128 .f32)
    (hp : p (ix4 0 0 r d) = x4 (ix4 0 n r d)) (hq : q (ix4 0 0 r d) = x5 (ix4 0 n r d))
    (v : FVec Ideal S1x1024x128 .bf16)
    (hv : v (ix3 0 r d) = logi (p (ix4 0 0 r d)) * k0_pay2 x0 x2 (ix2 r ⟨128 * n.val + d.val, by omega⟩)
      + logi (q (ix4 0 0 r d)) * k0_pay3 x1 x3 (ix2 r ⟨128 * n.val + d.val, by omega⟩)) :
    v (ix3 0 r d) = blkAt x0 x1 x2 x3 x4 x5 r n d := by
  rw [hv, hp, hq]
  unfold blkAt k0_pay2 k0_pay3
  pointwise

theorem store0 (A : Vec Ideal S1x1024x1024 .bf16) (A' : Vec Ideal S1024x512 .bf16) (B : Vec Ideal S1x1024x2048 .bf16) (B' : Vec Ideal S2048x512 .bf16)
    (p q : Vec Ideal S1x1x1024x128 .f32) (r : Fin 1024) (d : Fin 128) :
    k0_pay7 (k0_pay4 A A' p) (k0_pay5 q) (k0_pay6 B B') (ix3 0 r d)
      = logi (p (ix4 0 0 r d)) * k0_pay2 A A' (ix2 r ⟨128 * (0 : Fin 4).val + d.val, by omega⟩)
      + logi (q (ix4 0 0 r d)) * k0_pay3 B B' (ix2 r ⟨128 * (0 : Fin 4).val + d.val, by omega⟩) := by
  unfold k0_pay7 k0_pay4 k0_pay5 k0_pay6 logi
  generalize k0_pay2 A A' = X
  generalize k0_pay3 B B' = Y
  pointwise

theorem store1 (X Y : FVec Ideal S1024x512 .f32) (p q : Vec Ideal S1x1x1024x128 .f32) (r : Fin 1024) (d : Fin 128) :
    k0_pay8 X Y p q (ix3 0 r d)
      = logi (p (ix4 0 0 r d)) * X (ix2 r ⟨128 * (1 : Fin 4).val + d.val, by omega⟩)
      + logi (q (ix4 0 0 r d)) * Y (ix2 r ⟨128 * (1 : Fin 4).val + d.val, by omega⟩) := by
  unfold k0_pay8 logi
  pointwise

theorem store2 (X Y : FVec Ideal S1024x512 .f32) (p q : Vec Ideal S1x1x1024x128 .f32) (r : Fin 1024) (d : Fin 128) :
    k0_pay9 X Y p q (ix3 0 r d)
      = logi (p (ix4 0 0 r d)) * X (ix2 r ⟨128 * (2 : Fin 4).val + d.val, by omega⟩)
      + logi (q (ix4 0 0 r d)) * Y (ix2 r ⟨128 * (2 : Fin 4).val + d.val, by omega⟩) := by
  unfold k0_pay9 logi
  pointwise

theorem store3 (X Y : FVec Ideal S1024x512 .f32) (p q : Vec Ideal S1x1x1024x128 .f32) (r : Fin 1024) (d : Fin 128) :
    k0_pay1 Y (k0_pay10 X p) q (ix3 0 r d)
      = logi (p (ix4 0 0 r d)) * X (ix2 r ⟨128 * (3 : Fin 4).val + d.val, by omega⟩)
      + logi (q (ix4 0 0 r d)) * Y (ix2 r ⟨128 * (3 : Fin 4).val + d.val, by omega⟩) := by
  unfold k0_pay1 k0_pay10 logi
  pointwise

theorem pay2_ld : k0_pay2 (View.ld x0 r0_0) (View.ld x2 r0_1) = k0_pay2 x0 x2 := by
  rw [View.ld_unit_zero (by decide), View.ld_unit_zero (by decide)]

theorem pay3_ld : k0_pay3 (View.ld x1 r0_2) (View.ld x3 r0_3) = k0_pay3 x1 x3 := by
  rw [View.ld_unit_zero (by decide), View.ld_unit_zero (by decide)]

/-- A loaded gate tile, entry by entry. -/
theorem ld_tile (x : Vec Ideal S1x4x1024x128 .f32) (n : Fin 4) (inb) (r : Fin 1024) (d : Fin 128) :
    View.ld x (Rect.unit (s := S1x4x1024x128) ![0, n.val, 0, 0] S1x1x1024x128.size inb) (ix4 0 0 r d) = x (ix4 0 n r d) := by
  refine congrArg x (funext fun a => Fin.ext ?_)
  match a with
  | ⟨0, _⟩ => rfl
  | ⟨1, _⟩ => show n.val + 1 * 0 = n.val; omega
  | ⟨2, _⟩ => show 0 + 1 * r.val = r.val; omega
  | ⟨3, _⟩ => show 0 + 1 * d.val = d.val; omega

/-- A store of lane tile `n` whose entries are the block's agrees with the block where it stores. -/
theorem piece_ok (n : Fin 4) (o : ℕ) (ho : o = 128 * n.val) (inb) (v : FVec Ideal S1x1024x128 .bf16)
    (hv : ∀ (r : Fin 1024) (d : Fin 128), v (ix3 0 r d) = blkAt x0 x1 x2 x3 x4 x5 r n d) (x : S1x1024x128.Idx) :
    v x = blkOf x0 x1 x2 x3 x4 x5 ((Rect.unit (s := S1x1024x512) ![0, 0, o] S1x1024x128.size inb).emb x) := by
  have h1 : (x 1).val < 1024 := (x 1).isLt
  have h2 : (x 2).val < 128 := (x 2).isLt
  have ex : x = ix3 0 ⟨(x 1).val, h1⟩ ⟨(x 2).val, h2⟩ := by
    funext a
    match a with
    | ⟨0, _⟩ => exact Fin.ext (Nat.lt_one_iff.mp (x 0).isLt)
    | ⟨1, _⟩ => rfl
    | ⟨2, _⟩ => rfl
  refine (congrArg v ex).trans ((hv _ _).trans ?_)
  unfold blkOf
  have e1 : ((Rect.unit (s := S1x1024x512) ![0, 0, o] S1x1024x128.size inb).emb x 1).val = 0 + 1 * (x 1).val := rfl
  have e2 : ((Rect.unit (s := S1x1024x512) ![0, 0, o] S1x1024x128.size inb).emb x 2).val = o + 1 * (x 2).val := rfl
  congr 1
  · exact Fin.ext (by rw [e1]; show (x 1).val = _; omega)
  · exact Fin.ext (by show n.val = _ / 128; rw [e2]; omega)
  · exact Fin.ext (by show (x 2).val = _ % 128; rw [e2]; omega)

theorem out_eq : out0_6 x0 x1 x2 x3 x4 x5 = blkOf x0 x1 x2 x3 x4 x5 := by
  funext y
  unfold out0_6 k0_pay11 k0_pay12
  rw [pay2_ld, pay3_ld]
  refine View.canon_apply_of_pieces (Val := Elt Ideal) (e := .bf16) (blkOf x0 x1 x2 x3 x4 x5) _ ?_ y (cover0_6 _ _ _ _ y)
  intro p hp
  simp only [List.mem_cons, List.not_mem_nil, or_false] at hp
  rcases hp with rfl | rfl | rfl | rfl
  · exact piece_ok x0 x1 x2 x3 x4 x5 3 384 rfl inb_S1x1024x512_S1x1024x128_0_0_384 _ fun r d =>
      piece_at x0 x1 x2 x3 x4 x5 3 r d _ _ (ld_tile x4 3 inb_S1x4x1024x128_S1x1x1024x128_0_3_0_0 r d) (ld_tile x5 3 inb_S1x4x1024x128_S1x1x1024x128_0_3_0_0 r d) _ (store3 _ _ _ _ r d)
  · exact piece_ok x0 x1 x2 x3 x4 x5 2 256 rfl inb_S1x1024x512_S1x1024x128_0_0_256 _ fun r d =>
      piece_at x0 x1 x2 x3 x4 x5 2 r d _ _ (ld_tile x4 2 inb_S1x4x1024x128_S1x1x1024x128_0_2_0_0 r d) (ld_tile x5 2 inb_S1x4x1024x128_S1x1x1024x128_0_2_0_0 r d) _ (store2 _ _ _ _ r d)
  · exact piece_ok x0 x1 x2 x3 x4 x5 1 128 rfl inb_S1x1024x512_S1x1024x128_0_0_128 _ fun r d =>
      piece_at x0 x1 x2 x3 x4 x5 1 r d _ _ (ld_tile x4 1 inb_S1x4x1024x128_S1x1x1024x128_0_1_0_0 r d) (ld_tile x5 1 inb_S1x4x1024x128_S1x1x1024x128_0_1_0_0 r d) _ (store1 _ _ _ _ r d)
  · refine piece_ok x0 x1 x2 x3 x4 x5 0 0 rfl inb_S1x1024x512_S1x1024x128_0_0_0 _ fun r d =>
      piece_at x0 x1 x2 x3 x4 x5 0 r d _ _ (ld_tile x4 0 inb_S1x4x1024x128_S1x1x1024x128_0_0_0_0 r d) (ld_tile x5 0 inb_S1x4x1024x128_S1x1x1024x128_0_0_0_0 r d) _ ((store0 _ _ _ _ _ _ r d).trans ?_)
    rw [pay2_ld, pay3_ld]
    rfl

end Body

/-- The block a grid point leaves, as entries of the merged array. -/
theorem blkOut (r : Fin 1024) (n : Fin 4) (d : Fin 128) :
    blkAt (iblk m c 0 t) (iblk m c 1 t) (iblk m c 2 t) (iblk m c 3 t) (iblk m c 4 t) (iblk m c 5 t) r n d
      = mergeAt (m ((c : Thread nD τ).loc main_arg0)) (m ((c : Thread nD τ).loc main_arg1)) (m ((c : Thread nD τ).loc main_arg2))
        (m ((c : Thread nD τ).loc main_arg3)) (m ((c : Thread nD τ).loc main_arg4)) (ptB t) (ptR t r) (ptH t n) d := by
  have ec : ptC t ⟨128 * n.val + d.val, by omega⟩ = ⟨128 * (ptH t n).val + d.val, by omega⟩ :=
    Fin.ext (show 512 * (t.val % 4) + (128 * n.val + d.val) = 128 * (4 * (t.val % 4) + n.val) + d.val by omega)
  unfold blkAt mergeAt
  rw [blk4, blk5]
  refine congrArg₂ _ (congrArg₂ _ rfl (Finset.sum_congr rfl fun k _ => ?_)) (congrArg₂ _ rfl (Finset.sum_congr rfl fun k _ => ?_))
  · rw [blk0, blk2, ec]
  · rw [blk1, blk3, ec]

theorem flushed_eq (_ : (cfg0.win 6).flush t = true) :
    (dats m 0 c).flushed 6 t = ((cfg0.win 6).blk t).view.read (Elt Ideal) (outMem m c) := by
  rw [Value.flushed6, out_eq]
  obtain ⟨e0, e1, e2, -⟩ := idx6 t
  funext y
  have hy0 : (y 0).val < 1 := (y 0).isLt
  have hy1 : (y 1).val < 1024 := (y 1).isLt
  have hy2 : (y 2).val < 512 := (y 2).isLt
  have b0 : (((cfg0.win 6).blk t).view.emb y 0).val = win0_6.index t (0 : Fin 3) * 1 + 1 * (y 0).val := rfl
  have b1 : (((cfg0.win 6).blk t).view.emb y 1).val = win0_6.index t (1 : Fin 3) * 1024 + 1 * (y 1).val := rfl
  have b2 : (((cfg0.win 6).blk t).view.emb y 2).val = win0_6.index t (2 : Fin 3) * 512 + 1 * (y 2).val := rfl
  show blkAt _ _ _ _ _ _ ⟨(y 1).val, hy1⟩ ⟨(y 2).val / 128, by omega⟩ ⟨(y 2).val % 128, by omega⟩ = mergeOf _ _ _ _ _ (((cfg0.win 6).blk t).view.emb y)
  rw [blkOut]
  unfold mergeOf
  congr 1
  · exact Fin.ext (by rw [b0]; show t.val / 16 = _; omega)
  · exact Fin.ext (by rw [b1]; show 1024 * (t.val / 4 % 4) + (y 1).val = _; omega)
  · exact Fin.ext (by show 4 * (t.val % 4) + (y 2).val / 128 = _ / 128; rw [b2]; omega)
  · exact Fin.ext (by show (y 2).val % 128 = _ % 128; rw [b2]; omega)

theorem mem_blk (i : S4x4096x2048.Idx) : i ∈ ((cfg0.win 6).blk t).view.set
    ↔ ∀ a : Fin 3, win0_6.index t a * S1x1024x512.size a ≤ (i a).val ∧ (i a).val < win0_6.index t a * S1x1024x512.size a + S1x1024x512.size a := by
  show i ∈ ((View.whole main_v2).slice (win0_6.rect t)).set ↔ _
  rw [View.set_slice_whole, Rect.mem_set_unit]
  exact Iff.rfl

theorem covered (i : S4x4096x2048.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 2048 := (i 2).isLt
  have hp : 16 * (i 0).val + 4 * ((i 1).val / 1024) + (i 2).val / 512 < cfg0.N := show _ < 64 by omega
  obtain ⟨e0, e1, e2, hf⟩ := idx6 ⟨_, hp⟩
  refine ⟨⟨_, hp⟩, hf, ?_⟩
  rw [mem_blk]
  intro a
  match a with
  | ⟨0, _⟩ => show win0_6.index ⟨_, hp⟩ (0 : Fin 3) * 1 ≤ (i 0).val ∧ (i 0).val < win0_6.index ⟨_, hp⟩ (0 : Fin 3) * 1 + 1; dsimp only at e0; omega
  | ⟨1, _⟩ => show win0_6.index ⟨_, hp⟩ (1 : Fin 3) * 1024 ≤ (i 1).val ∧ (i 1).val < win0_6.index ⟨_, hp⟩ (1 : Fin 3) * 1024 + 1024; dsimp only at e1; omega
  | ⟨2, _⟩ => show win0_6.index ⟨_, hp⟩ (2 : Fin 3) * 512 ≤ (i 2).val ∧ (i 2).val < win0_6.index ⟨_, hp⟩ (2 : Fin 3) * 512 + 512; dsimp only at e2; omega

/-- The array the call leaves is `mergeOf` of its arguments. -/
theorem ker_eq : (dats m 0 c).arrAt 6 cfg0.N = outMem m c :=
  (dats m 0 c).arrAt_eq_of_cover 6 _ (fun t hf => flushed_eq m c t hf) covered

end Kernel

/-- Kernel and reference compute the same array. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => outMem m c, ?_, ?_⟩
  · exact (θ_run _ _ _).mono (fun r h c => ⟨(h c).1.trans (ker_eq m c), (h c).2⟩) (Cert.Kernel3Ideal.Value.run_blocks m g)
  · refine (θ_run _ _ _).mono (fun r h c => ⟨(h c).1.trans ?_, (h c).2⟩) (Cert.Reference3Ideal.Value.run (F := Ideal) m' g')
    obtain ⟨e0, e1, e2, e3, e4⟩ := hagree c
    refine (ref_eq _ _ _ _ _).trans ?_
    unfold outMem
    rw [e0, e1, e2, e3, e4]

end Cert.Proof.Merge

end
-- ==== Proof.OutProj.lean ====
/- The output projection: what the call's array holds, and what the reference computes. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.Out

/-- The residual plus the gated product: `x + g * (y @ w)`, entry by entry. -/
def outOf (y : (⟨3, ![4, 4096, 2048]⟩ : Shape).Idx → EReal) (w : (⟨2, ![2048, 2048]⟩ : Shape).Idx → EReal)
    (x : (⟨3, ![4, 4096, 2048]⟩ : Shape).Idx → EReal) (g : (⟨2, ![4, 2048]⟩ : Shape).Idx → EReal)
    (i : (⟨3, ![4, 4096, 2048]⟩ : Shape).Idx) : EReal :=
  x i + g (ix2 (i 0) (i 2)) * ∑ k : Fin 2048, y (ix3 (i 0) (i 1) k) * w (ix2 k (i 2))

section Reference
open Cert.Reference4Ideal Cert.Reference4Ideal.Gen

/-- The reference's term is `outOf` of its arguments. -/
theorem ref_eq (y : FVec Ideal S4x4096x2048 .bf16) (w : FVec Ideal S2048x2048 .f32) (x : FVec Ideal S4x4096x2048 .f32) (g : FVec Ideal S4x2048 .f32) :
    addf x (mulf (broadcastInDim S4x4096x2048 ![0, 1, 2] bcast_S4x1x2048_S4x4096x2048_0_1_2 (broadcastInDim S4x1x2048 ![0, 2] bcast_S4x2048_S4x1x2048_0_2 g))
      (Host.dotGeneral dot_S4x4096x2048_S2048x2048_S4x4096x2048_2_0_01_1_n_n none (extf .f32 y bitsLt_bf16_f32) w)) = outOf y w x g := by
  funext i
  obtain ⟨a, b, d, rfl⟩ : ∃ a b d, i = ix3 a b d := ⟨_, _, _, eq_ix3 i⟩
  pointwise
  rfl

end Reference

section Kernel
open Cert.Kernel4Ideal Cert.Kernel4Ideal.Gen

variable (m : (ℓ : Loc nD τ sig) → Buf (Elt Ideal) ℓ) (c : Dev nD) (t : Fin cfg0.N)

/-- The result from this memory's arguments. -/
abbrev outMem : Buf (Elt Ideal) ((c : Thread nD τ).loc main_v2) :=
  outOf (m ((c : Thread nD τ).loc main_arg0)) (m ((c : Thread nD τ).loc main_arg1)) (m ((c : Thread nD τ).loc main_arg2)) (m ((c : Thread nD τ).loc main_arg3))

theorem pt_lt (t : Fin cfg0.N) : t.val < 64 := t.isLt

def ptB (t : Fin cfg0.N) : Fin 4 := ⟨t.val / 16, by have := pt_lt t; omega⟩
def ptR (t : Fin cfg0.N) (r : Fin 1024) : Fin 4096 := ⟨1024 * (t.val / 4 % 4) + r.val, by omega⟩
def ptC (t : Fin cfg0.N) (j : Fin 512) : Fin 2048 := ⟨512 * (t.val % 4) + j.val, by omega⟩

theorem idx0 : ∀ t : Fin cfg0.N, win0_0.index t (0 : Fin 3) = t.val / 16 ∧ win0_0.index t (1 : Fin 3) = t.val / 4 % 4 ∧ win0_0.index t (2 : Fin 3) = 0 := by
  decide +kernel
theorem idx1 : ∀ t : Fin cfg0.N, win0_1.index t (0 : Fin 2) = 0 ∧ win0_1.index t (1 : Fin 2) = t.val % 4 := by decide +kernel
theorem idx2 : ∀ t : Fin cfg0.N, win0_2.index t (0 : Fin 3) = t.val / 16 ∧ win0_2.index t (1 : Fin 3) = t.val / 4 % 4 ∧ win0_2.index t (2 : Fin 3) = t.val % 4 := by
  decide +kernel
theorem idx3 : ∀ t : Fin cfg0.N, win0_3.index t (0 : Fin 3) = t.val / 16 ∧ win0_3.index t (1 : Fin 3) = 0 ∧ win0_3.index t (2 : Fin 3) = t.val % 4 := by
  decide +kernel
theorem idx4 : ∀ t : Fin cfg0.N, win0_4.index t (0 : Fin 3) = t.val / 16 ∧ win0_4.index t (1 : Fin 3) = t.val / 4 % 4 ∧ win0_4.index t (2 : Fin 3) = t.val % 4
    ∧ win0_4.flush t = true := by
  decide +kernel

/-- The rows of `y` at a grid point. -/
theorem blk0 (r : Fin 1024) (k : Fin 2048) :
    iblk m c 0 t (ix3 0 r k) = m ((c : Thread nD τ).loc main_arg0) (ix3 (ptB t) (ptR t r) k) := by
  show (V m c main_arg0) (((cfg0.win 0).blk t).view.emb (ix3 0 r k)) = _
  rw [V_main_arg0]
  obtain ⟨e0, e1, e2⟩ := idx0 t
  refine congrArg (m ((c : Thread nD τ).loc main_arg0)) (funext fun a => Fin.ext ?_)
  match a with
  | ⟨0, _⟩ => show win0_0.index t (0 : Fin 3) * 1 + 1 * 0 = t.val / 16; omega
  | ⟨1, _⟩ => show win0_0.index t (1 : Fin 3) * 1024 + 1 * r.val = 1024 * (t.val / 4 % 4) + r.val; omega
  | ⟨2, _⟩ => show win0_0.index t (2 : Fin 3) * 2048 + 1 * k.val = k.val; omega

theorem V_w : V m c main_v0 = truncf (F := Ideal) .bf16 (m ((c : Thread nD τ).loc main_arg1)) bitsLt_bf16_f32 := by
  show StableHlo.after hostOps0 _ _ = _
  unfold hostOps0
  after_results

theorem V_w_at (k n : Fin 2048) : V m c main_v0 (ix2 k n) = m ((c : Thread nD τ).loc main_arg1) (ix2 k n) := by
  rw [V_w]
  pointwise

theorem blk1 (k : Fin 2048) (j : Fin 512) :
    iblk m c 1 t (ix2 k j) = m ((c : Thread nD τ).loc main_arg1) (ix2 k (ptC t j)) := by
  refine Eq.trans ?_ (V_w_at m c k (ptC t j))
  show (V m c main_v0) (((cfg0.win 1).blk t).view.emb (ix2 k j)) = _
  obtain ⟨e0, e1⟩ := idx1 t
  refine congrArg (V m c main_v0) (funext fun a => Fin.ext ?_)
  match a with
  | ⟨0, _⟩ => show win0_1.index t (0 : Fin 2) * 2048 + 1 * k.val = k.val; omega
  | ⟨1, _⟩ => show win0_1.index t (1 : Fin 2) * 512 + 1 * j.val = 512 * (t.val % 4) + j.val; omega

theorem blk2 (r : Fin 1024) (j : Fin 512) :
    iblk m c 2 t (ix3 0 r j) = m ((c : Thread nD τ).loc main_arg2) (ix3 (ptB t) (ptR t r) (ptC t j)) := by
  show (V m c main_arg2) (((cfg0.win 2).blk t).view.emb (ix3 0 r j)) = _
  rw [V_main_arg2]
  obtain ⟨e0, e1, e2⟩ := idx2 t
  refine congrArg (m ((c : Thread nD τ).loc main_arg2)) (funext fun a => Fin.ext ?_)
  match a with
  | ⟨0, _⟩ => show win0_2.index t (0 : Fin 3) * 1 + 1 * 0 = t.val / 16; omega
  | ⟨1, _⟩ => show win0_2.index t (1 : Fin 3) * 1024 + 1 * r.val = 1024 * (t.val / 4 % 4) + r.val; omega
  | ⟨2, _⟩ => show win0_2.index t (2 : Fin 3) * 512 + 1 * j.val = 512 * (t.val % 4) + j.val; omega

theorem V_g : V m c main_v1 = shapeCast S4x1x2048 (m ((c : Thread nD τ).loc main_arg3)) shapeCasts_S4x2048_S4x1x2048 := by
  show StableHlo.after hostOps0 _ _ = _
  unfold hostOps0
  after_results
  rfl

theorem V_g_at (b : Fin 4) (n : Fin 2048) : V m c main_v1 (ix3 b 0 n) = m ((c : Thread nD τ).loc main_arg3) (ix2 b n) := by
  rw [V_g]
  pointwise

theorem blk3 (j : Fin 512) :
    iblk m c 3 t (ix3 0 0 j) = m ((c : Thread nD τ).loc main_arg3) (ix2 (ptB t) (ptC t j)) := by
  refine Eq.trans ?_ (V_g_at m c (ptB t) (ptC t j))
  show (V m c main_v1) (((cfg0.win 3).blk t).view.emb (ix3 0 0 j)) = _
  obtain ⟨e0, e1, e2⟩ := idx3 t
  refine congrArg (V m c main_v1) (funext fun a => Fin.ext ?_)
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 512 + 1 * j.val = 512 * (t.val % 4) + j.val; omega

/-- The body's block, entry by entry, over any blocks. -/
theorem pay_at (x0 : S1x1024x2048.Idx → EReal) (x1 : S2048x512.Idx → EReal) (x2 : S1x1024x512.Idx → EReal) (x3 : S1x1x512.Idx → EReal)
    (r : Fin 1024) (j : Fin 512) :
    k0_pay1 (F := Ideal) x2 x3 x0 x1 (ix3 0 r j) = x2 (ix3 0 r j) + x3 (ix3 0 0 j) * ∑ k : Fin 2048, x0 (ix3 0 r k) * x1 (ix2 k j) := by
  unfold k0_pay1
  pointwise

theorem blkOut (r : Fin 1024) (j : Fin 512) :
    out0_4 (iblk m c 0 t) (iblk m c 1 t) (iblk m c 2 t) (iblk m c 3 t) (ix3 0 r j) = outMem m c (ix3 (ptB t) (ptR t r) (ptC t j)) := by
  unfold out0_4
  rw [View.canon_unit_zero (by decide), View.ld_unit_zero (by decide), View.ld_unit_zero (by decide), View.ld_unit_zero (by decide),
    View.ld_unit_zero (by decide)]
  refine (pay_at _ _ _ _ r j).trans ?_
  rw [blk2, blk3]
  unfold outMem outOf
  refine congrArg₂ _ rfl (congrArg₂ _ rfl (Finset.sum_congr rfl fun k _ => ?_))
  rw [blk0, blk1]
  rfl

theorem flushed_eq (_ : (cfg0.win 4).flush t = true) :
    (dats m 0 c).flushed 4 t = ((cfg0.win 4).blk t).view.read (Elt Ideal) (outMem m c) := by
  rw [Value.flushed4]
  obtain ⟨e0, e1, e2, -⟩ := idx4 t
  funext y
  have hy0 : (y 0).val < 1 := (y 0).isLt
  have hy1 : (y 1).val < 1024 := (y 1).isLt
  have hy2 : (y 2).val < 512 := (y 2).isLt
  have hx : (cfg0.win 4).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  show out0_4 _ _ _ _ ((cfg0.win 4).xinj (grid0.coords t) y) = outMem m c (((cfg0.win 4).blk t).view.emb y)
  rw [hx]
  refine (blkOut m c t _ _).trans (congrArg (outMem m c) (funext fun a => Fin.ext ?_))
  match a with
  | ⟨0, _⟩ => show t.val / 16 = win0_4.index t (0 : Fin 3) * 1 + 1 * (y 0).val; omega
  | ⟨1, _⟩ => show 1024 * (t.val / 4 % 4) + (y 1).val = win0_4.index t (1 : Fin 3) * 1024 + 1 * (y 1).val; omega
  | ⟨2, _⟩ => show 512 * (t.val % 4) + (y 2).val = win0_4.index t (2 : Fin 3) * 512 + 1 * (y 2).val; omega

theorem mem_blk (i : S4x4096x2048.Idx) : i ∈ ((cfg0.win 4).blk t).view.set
    ↔ ∀ a : Fin 3, win0_4.index t a * S1x1024x512.size a ≤ (i a).val ∧ (i a).val < win0_4.index t a * S1x1024x512.size a + S1x1024x512.size a := by
  show i ∈ ((View.whole main_v2).slice (win0_4.rect t)).set ↔ _
  rw [View.set_slice_whole, Rect.mem_set_unit]
  exact Iff.rfl

theorem covered (i : S4x4096x2048.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 2048 := (i 2).isLt
  have hp : 16 * (i 0).val + 4 * ((i 1).val / 1024) + (i 2).val / 512 < cfg0.N := show _ < 64 by omega
  obtain ⟨e0, e1, e2, hf⟩ := idx4 ⟨_, hp⟩
  refine ⟨⟨_, hp⟩, hf, ?_⟩
  rw [mem_blk]
  intro a
  match a with
  | ⟨0, _⟩ => show win0_4.index ⟨_, hp⟩ (0 : Fin 3) * 1 ≤ (i 0).val ∧ (i 0).val < win0_4.index ⟨_, hp⟩ (0 : Fin 3) * 1 + 1; dsimp only at e0; omega
  | ⟨1, _⟩ => show win0_4.index ⟨_, hp⟩ (1 : Fin 3) * 1024 ≤ (i 1).val ∧ (i 1).val < win0_4.index ⟨_, hp⟩ (1 : Fin 3) * 1024 + 1024; dsimp only at e1; omega
  | ⟨2, _⟩ => show win0_4.index ⟨_, hp⟩ (2 : Fin 3) * 512 ≤ (i 2).val ∧ (i 2).val < win0_4.index ⟨_, hp⟩ (2 : Fin 3) * 512 + 512; dsimp only at e2; omega

/-- The array the call leaves is `outOf` of its arguments. -/
theorem ker_eq : (dats m 0 c).arrAt 4 cfg0.N = outMem m c :=
  (dats m 0 c).arrAt_eq_of_cover 4 _ (fun t hf => flushed_eq m c t hf) covered

end Kernel

/-- Kernel and reference compute the same array. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => outMem m c, ?_, ?_⟩
  · exact (θ_run _ _ _).mono (fun r h c => ⟨(h c).1.trans (ker_eq m c), (h c).2⟩) (Cert.Kernel4Ideal.Value.run_blocks m g)
  · refine (θ_run _ _ _).mono (fun r h c => ⟨(h c).1.trans ?_, (h c).2⟩) (Cert.Reference4Ideal.Value.run (F := Ideal) m' g')
    obtain ⟨e0, e1, e2, e3⟩ := hagree c
    refine (ref_eq _ _ _ _).trans ?_
    unfold outMem
    rw [e0, e1, e2, e3]

end Cert.Proof.Out

end
-- ==== Proof.FinalNorm.lean ====
/- The final norm: what the call's array holds, and what the reference computes. -/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.Final

/-- Entry `k` of a row `f`, divided by the root of the row's mean square and weighted by `w`. -/
def normed (f : Fin 2048 → EReal) (w : EReal) (k : Fin 2048) : EReal :=
  f k * Ideal.rsqrt (Ideal.div (∑ j, f j * f j) (Ideal.ofBits FTy.f32 1157627904#32) + Ideal.ofBits FTy.f32 897988541#32) * w

/-- The normed sum of the residual stream `x` and the gated `p`. -/
def outOf (x p : (⟨3, ![4, 4096, 2048]⟩ : Shape).Idx → EReal) (g : (⟨2, ![4, 2048]⟩ : Shape).Idx → EReal)
    (w : (⟨1, ![2048]⟩ : Shape).Idx → EReal) (i : (⟨3, ![4, 4096, 2048]⟩ : Shape).Idx) : EReal :=
  normed (fun j => x (ix3 (i 0) (i 1) j) + g (ix2 (i 0) j) * p (ix3 (i 0) (i 1) j)) (w (ix1 (i 2))) (i 2)

section Reference
open Cert.Reference5Ideal Cert.Reference5Ideal.Gen

/-- The rows before the norm. -/
abbrev refRows (x p : FVec Ideal S4x4096x2048 .f32) (g : FVec Ideal S4x2048 .f32) : FVec Ideal S4x4096x2048 .f32 :=
  addf x (mulf (broadcastInDim S4x4096x2048 ![0, 1, 2] bcast_S4x1x2048_S4x4096x2048_0_1_2 (broadcastInDim S4x1x2048 ![0, 2] bcast_S4x2048_S4x1x2048_0_2 g)) p)

/-- The reference's term is `outOf` of its arguments. -/
theorem ref_eq (x p : FVec Ideal S4x4096x2048 .f32) (g : FVec Ideal S4x2048 .f32) (w : FVec Ideal S2048 .f32) :
    mulf (mulf (refRows x p g) (broadcastInDim S4x4096x2048 ![0, 1, 2] bcast_S4x4096x1_S4x4096x2048_0_1_2 (Host.rsqrt (addf (Host.divf
        (broadcastInDim S4x4096x1 ![0, 1] bcast_S4x4096_S4x4096x1_0_1 (Host.reduceAdd (mulf (refRows x p g) (refRows x p g)) (constant S_ .f32 0x00000000#32) reducesTo_S4x4096x2048_S4x4096_d2 h_S_))
        (broadcastInDim S4x4096x1 ![] bcast_S_S4x4096x1 (constant S_ .f32 0x45000000#32))) (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 w)) = outOf x p g w := by
  funext i
  obtain ⟨a, b, d, rfl⟩ : ∃ a b d, i = ix3 a b d := ⟨_, _, _, eq_ix3 i⟩
  unfold outOf normed refRows
  pointwise
  try rfl

end Reference

section Kernel
open Cert.Kernel5Ideal Cert.Kernel5Ideal.Gen

variable (m : (ℓ : Loc nD τ sig) → Buf (Elt Ideal) ℓ) (c : Dev nD) (t : Fin cfg0.N)

/-- The result from this memory's arguments. -/
abbrev outMem : Buf (Elt Ideal) ((c : Thread nD τ).loc main_v2) :=
  outOf (m ((c : Thread nD τ).loc main_arg0)) (m ((c : Thread nD τ).loc main_arg1)) (m ((c : Thread nD τ).loc main_arg2)) (m ((c : Thread nD τ).loc main_arg3))

theorem pt_lt (t : Fin cfg0.N) : t.val < 32 := t.isLt

def ptB (t : Fin cfg0.N) : Fin 4 := ⟨t.val / 8, by have := pt_lt t; omega⟩
def ptR (t : Fin cfg0.N) (r : Fin 512) : Fin 4096 := ⟨512 * (t.val % 8) + r.val, by omega⟩

theorem idx0 : ∀ t : Fin cfg0.N, win0_0.index t (0 : Fin 3) = t.val / 8 ∧ win0_0.index t (1 : Fin 3) = t.val % 8 ∧ win0_0.index t (2 : Fin 3) = 0 := by decide +kernel
theorem idx1 : ∀ t : Fin cfg0.N, win0_1.index t (0 : Fin 3) = t.val / 8 ∧ win0_1.index t (1 : Fin 3) = t.val % 8 ∧ win0_1.index t (2 : Fin 3) = 0 := by decide +kernel
theorem idx2 : ∀ t : Fin cfg0.N, win0_2.index t (0 : Fin 3) = t.val / 8 ∧ win0_2.index t (1 : Fin 3) = 0 ∧ win0_2.index t (2 : Fin 3) = 0 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 3) = t.val / 8 ∧ win0_4.index t (1 : Fin 3) = t.val % 8 ∧ win0_4.index t (2 : Fin 3) = 0 ∧ win0_4.flush t = true := by decide +kernel

theorem blk0 (r : Fin 512) (k : Fin 2048) : iblk m c 0 t (ix3 0 r k) = m ((c : Thread nD τ).loc main_arg0) (ix3 (ptB t) (ptR t r) k) := by
  show (V m c main_arg0) (((cfg0.win 0).blk t).view.emb (ix3 0 r k)) = _
  rw [V_main_arg0]
  obtain ⟨e0, e1, e2⟩ := idx0 t
  refine congrArg (m ((c : Thread nD τ).loc main_arg0)) (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 2048 + 1 * k.val = k.val; omega

theorem blk1 (r : Fin 512) (k : Fin 2048) : iblk m c 1 t (ix3 0 r k) = m ((c : Thread nD τ).loc main_arg1) (ix3 (ptB t) (ptR t r) k) := by
  show (V m c main_arg1) (((cfg0.win 1).blk t).view.emb (ix3 0 r k)) = _
  rw [V_main_arg1]
  obtain ⟨e0, e1, e2⟩ := idx1 t
  refine congrArg (m ((c : Thread nD τ).loc main_arg1)) (funext fun a => Fin.ext ?_)
  match a with
  | ⟨0, _⟩ => show win0_1.index t (0 : Fin 3) * 1 + 1 * 0 = t.val / 8; omega
  | ⟨1, _⟩ => show win0_1.index t (1 : Fin 3) * 512 + 1 * r.val = 512 * (t.val % 8) + r.val; omega
  | ⟨2, _⟩ => show win0_1.index t (2 : Fin 3) * 2048 + 1 * k.val = k.val; omega

theorem V_g (b : Fin 4) (k : Fin 2048) : V m c main_v0 (ix3 b 0 k) = m ((c : Thread nD τ).loc main_arg2) (ix2 b k) := by
  have e : V m c main_v0 = shapeCast S4x1x2048 (m ((c : Thread nD τ).loc main_arg2)) shapeCasts_S4x2048_S4x1x2048 := by
    show StableHlo.after hostOps0 _ _ = _
    after_results_simp <;> rfl
  rw [e]
  pointwise

theorem V_w (k : Fin 2048) : V m c main_v1 (ix2 0 k) = m ((c : Thread nD τ).loc main_arg3) (ix1 k) := by
  have e : V m c main_v1 = shapeCast S1x2048 (m ((c : Thread nD τ).loc main_arg3)) shapeCasts_S2048_S1x2048 := by
    show StableHlo.after hostOps0 _ _ = _
    after_results_simp <;> rfl
  rw [e]
  pointwise

theorem blk2 (k : Fin 2048) : iblk m c 2 t (ix3 0 0 k) = m ((c : Thread nD τ).loc main_arg2) (ix2 (ptB t) k) := by
  refine Eq.trans ?_ (V_g m c (ptB t) k)
  show (V m c main_v0) (((cfg0.win 2).blk t).view.emb (ix3 0 0 k)) = _
  obtain ⟨e0, e1, e2⟩ := idx2 t
  refine congrArg (V m c main_v0) (funext fun a => Fin.ext ?_)
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 2048 + 1 * k.val = k.val; omega

theorem blk3 (k : Fin 2048) : iblk m c 3 t (ix2 0 k) = m ((c : Thread nD τ).loc main_arg3) (ix1 k) := by
  refine Eq.trans ?_ (V_w m c k)
  show (V m c main_v1) (((cfg0.win 3).blk t).view.emb (ix2 0 k)) = _
  obtain ⟨e0, e1⟩ := idx3 t
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 2048 + 1 * k.val = k.val; omega

/-- The body's block, entry by entry, over any blocks. -/
theorem pay_at (x0 : Vec Ideal S1x512x2048 .f32) (x1 : Vec Ideal S1x512x2048 .f32) (x2 : Vec Ideal S1x1x2048 .f32) (x3 : Vec Ideal S1x2048 .f32)
    (r : Fin 512) (k : Fin 2048) :
    k0_pay1 x0 x2 x1 x3 (ix3 0 r k) = normed (fun j => x0 (ix3 0 r j) + x2 (ix3 0 0 j) * x1 (ix3 0 r j)) (x3 (ix2 0 k)) k := by
  unfold k0_pay1 normed
  pointwise

theorem blkOut (r : Fin 512) (k : Fin 2048) :
    out0_4 (iblk m c 0 t) (iblk m c 1 t) (iblk m c 2 t) (iblk m c 3 t) (ix3 0 r k) = outMem m c (ix3 (ptB t) (ptR t r) k) := by
  unfold out0_4
  rw [View.canon_unit_zero (by decide), View.ld_unit_zero (by decide), View.ld_unit_zero (by decide), View.ld_unit_zero (by decide),
    View.ld_unit_zero (by decide)]
  refine (pay_at _ _ _ _ r k).trans ?_
  simp only [blk0, blk1, blk2, blk3]
  rfl

theorem flushed_eq (_ : (cfg0.win 4).flush t = true) :
    (dats m 0 c).flushed 4 t = ((cfg0.win 4).blk t).view.read (Elt Ideal) (outMem m c) := by
  rw [Value.flushed4]
  obtain ⟨e0, e1, e2, -⟩ := idx4 t
  funext y
  have hy0 : (y 0).val < 1 := (y 0).isLt
  have hy1 : (y 1).val < 512 := (y 1).isLt
  have hy2 : (y 2).val < 2048 := (y 2).isLt
  have hx : (cfg0.win 4).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  show out0_4 _ _ _ _ ((cfg0.win 4).xinj (grid0.coords t) y) = outMem m c (((cfg0.win 4).blk t).view.emb y)
  rw [hx]
  refine (blkOut m c t _ _).trans (congrArg (outMem m c) (funext fun a => Fin.ext ?_))
  match a with
  | ⟨0, _⟩ => show t.val / 8 = win0_4.index t (0 : Fin 3) * 1 + 1 * (y 0).val; omega
  | ⟨1, _⟩ => show 512 * (t.val % 8) + (y 1).val = win0_4.index t (1 : Fin 3) * 512 + 1 * (y 1).val; omega
  | ⟨2, _⟩ => show (y 2).val = win0_4.index t (2 : Fin 3) * 2048 + 1 * (y 2).val; omega

theorem mem_blk (i : S4x4096x2048.Idx) : i ∈ ((cfg0.win 4).blk t).view.set
    ↔ ∀ a : Fin 3, win0_4.index t a * S1x512x2048.size a ≤ (i a).val ∧ (i a).val < win0_4.index t a * S1x512x2048.size a + S1x512x2048.size a := by
  show i ∈ ((View.whole main_v2).slice (win0_4.rect t)).set ↔ _
  rw [View.set_slice_whole, Rect.mem_set_unit]
  exact Iff.rfl

theorem covered (i : S4x4096x2048.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 2048 := (i 2).isLt
  have hp : 8 * (i 0).val + (i 1).val / 512 < cfg0.N := show _ < 32 by omega
  obtain ⟨e0, e1, e2, hf⟩ := idx4 ⟨_, hp⟩
  refine ⟨⟨_, hp⟩, hf, ?_⟩
  rw [mem_blk]
  intro a
  match a with
  | ⟨0, _⟩ => show win0_4.index ⟨_, hp⟩ (0 : Fin 3) * 1 ≤ (i 0).val ∧ (i 0).val < win0_4.index ⟨_, hp⟩ (0 : Fin 3) * 1 + 1; dsimp only at e0; omega
  | ⟨1, _⟩ => show win0_4.index ⟨_, hp⟩ (1 : Fin 3) * 512 ≤ (i 1).val ∧ (i 1).val < win0_4.index ⟨_, hp⟩ (1 : Fin 3) * 512 + 512; dsimp only at e1; omega
  | ⟨2, _⟩ => show win0_4.index ⟨_, hp⟩ (2 : Fin 3) * 2048 ≤ (i 2).val ∧ (i 2).val < win0_4.index ⟨_, hp⟩ (2 : Fin 3) * 2048 + 2048; omega

/-- The array the call leaves is `outOf` of its arguments. -/
theorem ker_eq : (dats m 0 c).arrAt 4 cfg0.N = outMem m c :=
  (dats m 0 c).arrAt_eq_of_cover 4 _ (fun t hf => flushed_eq m c t hf) covered

end Kernel

/-- Kernel and reference compute the same array. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => outMem m c, ?_, ?_⟩
  · exact (θ_run _ _ _).mono (fun r h c => ⟨(h c).1.trans (ker_eq m c), (h c).2⟩) (Cert.Kernel5Ideal.Value.run_blocks m g)
  · refine (θ_run _ _ _).mono (fun r h c => ⟨(h c).1.trans ?_, (h c).2⟩) (Cert.Reference5Ideal.Value.run (F := Ideal) m' g')
    obtain ⟨e0, e1, e2, e3⟩ := hagree c
    refine (ref_eq _ _ _ _).trans ?_
    unfold outMem
    rw [e0, e1, e2, e3]

end Cert.Proof.Final

end
-- ==== Proof.QueryFrame.lean ====
/-
  The frame of the queries' projection at any float instance: it terminates, faults nowhere and leaves its arguments as they were.
-/
module

public import proofs.«01_k».proof.Proof.Gen.Kernel6.Frame
public import proofs.«01_k».proof.Proof.Gen.Kernel6.Skeleton
public import Idealize.ShloMosaic.Lib.Claim

@[expose] public section

set_option maxRecDepth 16384

noncomputable section

namespace Cert.Kernel6.Run

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A grid point computes the rows exactly where it starts a row block. -/
theorem hstart : ∀ t : Fin cfg0.N, k0_cond1 (grid0.coords t) = 1#1 ↔ t.val % 4 = 0 := fun t => by
  have ht : t.val < 64 := Nat.lt_of_lt_of_eq t.isLt N_0
  have e2 : (grid0.coords t 2).val = t.val / 1 % 4 := Pipeline.Grid.coords_val t 2 (by decide) rfl
  simp only [k0_cond1, e2]
  word_cmp

abbrev ms0_0 (t : Fin cfg0.N) : Memref sig .tc .vmem S1x1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x1x2048 .f32 := win0_2.stage (cfg0.slots t 2)
abbrev ms0_3 (t : Fin cfg0.N) : Memref sig .tc .vmem S1x1x2048 .f32 := win0_3.stage (cfg0.slots t 3)
abbrev ms0_4 (t : Fin cfg0.N) : Memref sig .tc .vmem S2048x512 .bf16 := win0_4.stage (cfg0.slots t 4)
abbrev ms0_5 (t : Fin cfg0.N) : Memref sig .tc .vmem S1x4x1024x128 .f32 := win0_5.stage (cfg0.slots t 5)
abbrev ms0_6 (t : Fin cfg0.N) : Memref sig .tc .vmem S1x1024x2048 .f32 := win0_6.stage (cfg0.slots t 6)
abbrev scM : Memref sig .tc .vmem S1024x2048 .bf16 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

set_option maxHeartbeats 1000000 in
/-- The body at a point that starts a row block: it runs and leaves its inputs as they were. -/
theorem runA (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x4x1024x128 .f32) (harg8 : arg8.IsWhole) (arg9 : Memref sig .tc .vmem S1x1024x2048 .f32) (harg9 : arg9.IsWhole) (arg10 : Memref sig .tc .vmem S1024x2048 .bf16) (harg10 : arg10.IsWhole) (hc0 : k0_cond1 i = 1#1)
    (x0 : Vec F S1x1024x2048 .f32) (x1 : Vec F S1x2048 .f32) (x2 : Vec F S1x1x2048 .f32) (x3 : Vec F S1x1x2048 .f32) (x4 : Vec F S2048x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_normproj_h i arg3 harg3 arg4 harg4 arg5 harg5 arg6 harg6 arg7 harg7 arg8 harg8 arg9 harg9 arg10 harg10) K := by
  simp only [cc0_normproj_h_eq_skeleton]; unfold cc0_normproj_h_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; iexists _; isplitr; swap; · iexact H5
    ipureintro; rfl
  isplitl [H6]
  · iexists _; iexists _; isplitr; swap; · iexact H6
    ipureintro; rfl
  iexists _; iexists _; isplitr; swap; · iexact HS
  ipureintro; rfl

set_option maxHeartbeats 1000000 in
/-- The body at a point that carries the rows on: it runs and leaves its inputs as they were. -/
theorem runB (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x4x1024x128 .f32) (harg8 : arg8.IsWhole) (arg9 : Memref sig .tc .vmem S1x1024x2048 .f32) (harg9 : arg9.IsWhole) (arg10 : Memref sig .tc .vmem S1024x2048 .bf16) (harg10 : arg10.IsWhole) (hc0 : ¬k0_cond1 i = 1#1)
    (x0 : Vec F S1x1024x2048 .f32) (x1 : Vec F S1x2048 .f32) (x2 : Vec F S1x1x2048 .f32) (x3 : Vec F S1x1x2048 .f32) (x4 : Vec F S2048x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_normproj_h i arg3 harg3 arg4 harg4 arg5 harg5 arg6 harg6 arg7 harg7 arg8 harg8 arg9 harg9 arg10 harg10) K := by
  simp only [cc0_normproj_h_eq_skeleton]; unfold cc0_normproj_h_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; iexists _; isplitr; swap; · iexact H5
    ipureintro; rfl
  isplitl [H6]
  · iexists _; iexists _; isplitr; swap; · iexact H6
    ipureintro; rfl
  iexists _; iexists _; isplitr; swap; · iexact HS
  ipureintro; rfl

variable (m : (ℓ : Loc nD τ sig) → Buf (Elt F) ℓ) (ρ : Dev nD → PrngReg)

/-- The output windows' contents are not named here. -/
def forgets0 : Fin 7 → Bool := fun w => decide (5 ≤ w.val)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, H5, H6⟩
  by_cases h0 : t.val % 4 = 0
  · iapply (runA c (grid0.coords t) _ _ _ _ _ _ _ _ _ _ _ _ _ _ _ (Memref.isWhole_whole _) ((hstart t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (runB c (grid0.coords t) _ _ _ _ _ _ _ _ _ _ _ _ _ _ _ (Memref.isWhole_whole _) (fun h => h0 ((hstart t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this one
set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The projection runs, leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1.arr_in c 0 rfl).trans ((A_eq m c 0).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run_main m ρ)

end Cert.Kernel6.Run

end
-- ==== Proof.QueryBody.lean ====
/-
  The body of the queries' projection at one grid point, over the extended reals: what it leaves in its two output blocks and in its scratch.
-/
module

public import proofs.«01_k».proof.Proof.Gen.Kernel6Ideal.Frame
public import proofs.«01_k».proof.Proof.Gen.Kernel6Ideal.Skeleton
public import Idealize.ShloMosaic.Lib.Pipeline.TableIdle
public import Idealize.ShloMosaic.Lib.Pointwise
public import Idealize.ShloMosaic.Lib.WholeRead
public import Idealize.ShloMosaic.Lib.VecWindow
public import Idealize.ShloMosaic.Lib.Claim

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A grid point computes the rows exactly where it starts a row block. -/
theorem hstart : ∀ t : Fin cfg0.N, k0_cond1 (grid0.coords t) = 1#1 ↔ t.val % 4 = 0 := fun t => by
  have ht : t.val < 64 := Nat.lt_of_lt_of_eq t.isLt N_0
  have e2 : (grid0.coords t 2).val = t.val / 1 % 4 := Pipeline.Grid.coords_val t 2 (by decide) rfl
  simp only [k0_cond1, e2]
  word_cmp

abbrev ms0_0 (t : Fin cfg0.N) : Memref sig .tc .vmem S1x1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x1x2048 .f32 := win0_2.stage (cfg0.slots t 2)
abbrev ms0_3 (t : Fin cfg0.N) : Memref sig .tc .vmem S1x1x2048 .f32 := win0_3.stage (cfg0.slots t 3)
abbrev ms0_4 (t : Fin cfg0.N) : Memref sig .tc .vmem S2048x512 .bf16 := win0_4.stage (cfg0.slots t 4)
abbrev ms0_5 (t : Fin cfg0.N) : Memref sig .tc .vmem S1x4x1024x128 .f32 := win0_5.stage (cfg0.slots t 5)
abbrev ms0_6 (t : Fin cfg0.N) : Memref sig .tc .vmem S1x1024x2048 .f32 := win0_6.stage (cfg0.slots t 6)
abbrev scM : Memref sig .tc .vmem S1024x2048 .bf16 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

section Reads
variable (x0 : Vec Ideal S1x1024x2048 .f32) (x1 : Vec Ideal S1x2048 .f32) (x2 : Vec Ideal S1x1x2048 .f32) (x4 : Vec Ideal S2048x512 .bf16)
    (xs : Vec Ideal S1024x2048 .bf16)

theorem rd_x {a : Memref sig .tc .vmem S1x1024x2048 .f32} (h : a.IsWhole) : View.readAt (Elt Ideal) a.view (Rect.unit ![0, 0, 0] S1x1024x2048.size inb_S1x1024x2048_S1x1024x2048_0_0_0).toLoadRect (h.unread x0) = x0 :=
  (funext fun j => h.readAt_unread x0 _ j).trans (View.ld_unit_zero (by decide) inb_S1x1024x2048_S1x1024x2048_0_0_0 x0)

theorem rd_nw {a : Memref sig .tc .vmem S1x2048 .f32} (h : a.IsWhole) : View.readAt (Elt Ideal) a.view (Rect.unit ![0, 0] S1x2048.size inb_S1x2048_S1x2048_0_0).toLoadRect (h.unread x1) = x1 :=
  (funext fun j => h.readAt_unread x1 _ j).trans (View.ld_unit_zero (by decide) inb_S1x2048_S1x2048_0_0 x1)

theorem rd_sc {a : Memref sig .tc .vmem S1x1x2048 .f32} (h : a.IsWhole) : View.readAt (Elt Ideal) a.view (Rect.unit ![0, 0, 0] S1x1x2048.size inb_S1x1x2048_S1x1x2048_0_0_0).toLoadRect (h.unread x2) = x2 :=
  (funext fun j => h.readAt_unread x2 _ j).trans (View.ld_unit_zero (by decide) inb_S1x1x2048_S1x1x2048_0_0_0 x2)

theorem rd_w {a : Memref sig .tc .vmem S2048x512 .bf16} (h : a.IsWhole) : View.readAt (Elt Ideal) a.view (Rect.unit ![0, 0] S2048x512.size inb_S2048x512_S2048x512_0_0).toLoadRect (h.unread x4) = x4 :=
  (funext fun j => h.readAt_unread x4 _ j).trans (View.ld_unit_zero (by decide) inb_S2048x512_S2048x512_0_0 x4)

theorem rd_h {a : Memref sig .tc .vmem S1024x2048 .bf16} (h : a.IsWhole) : View.readAt (Elt Ideal) a.view (Rect.unit ![0, 0] S1024x2048.size inb_S1024x2048_S1024x2048_0_0).toLoadRect (h.unread xs) = xs :=
  (funext fun j => h.readAt_unread xs _ j).trans (View.ld_unit_zero (by decide) inb_S1024x2048_S1024x2048_0_0 xs)

end Reads

/-- The rows' product with a block of columns, in four lane tiles. -/
def blkOf (h : Vec Ideal S1024x2048 .bf16) (w : Vec Ideal S2048x512 .bf16) : Vec Ideal S1x4x1024x128 .f32 := fun y =>
  ∑ k : Fin 2048, h (ix2 (n0 := 1024) ⟨(y 2).val, (y 2).isLt⟩ k) * w (ix2 (n1 := 512) k ⟨128 * (y 1).val + (y 3).val, by have h1 : (y 1).val < 4 := (y 1).isLt; have h3 : (y 3).val < 128 := (y 3).isLt; omega⟩)

theorem prod_at (h : Vec Ideal S1024x2048 .bf16) (w : Vec Ideal S2048x512 .bf16) (r : Fin 1024) (q : Fin 512) :
    k0_pay4 h w (ix2 r q) = ∑ k : Fin 2048, h (ix2 r k) * w (ix2 k q) := by
  unfold k0_pay4
  pointwise

/-- The store of lane tile `n` agrees with the block where it stores. -/
theorem tile_ok (h : Vec Ideal S1024x2048 .bf16) (w : Vec Ideal S2048x512 .bf16) (n : ℕ) (hn : n < 4) (inb) (v : FVec Ideal S1x1x1024x128 .f32)
    (hv : ∀ (r : Fin 1024) (d : Fin 128), v (ix4 0 0 r d) = k0_pay4 h w (ix2 r ⟨128 * n + d.val, by omega⟩)) (x : S1x1x1024x128.Idx) :
    v x = blkOf h w ((Rect.unit (s := S1x4x1024x128) ![0, n, 0, 0] S1x1x1024x128.size inb).emb x) := by
  obtain ⟨a, b, r, d, rfl⟩ : ∃ (a b : Fin 1) (r : Fin 1024) (d : Fin 128), x = ix4 a b r d := ⟨_, _, _, _, eq_ix4 x⟩
  obtain rfl : a = 0 := Subsingleton.elim _ _
  obtain rfl : b = 0 := Subsingleton.elim _ _
  refine (hv r d).trans ((prod_at h w _ _).trans ?_)
  unfold blkOf
  refine Finset.sum_congr rfl fun k _ => congrArg₂ (fun a b => h (ix2 a k) * w (ix2 k b)) ?_ ?_
  · exact Fin.ext (show r.val = 0 + 1 * r.val by omega)
  · exact Fin.ext (show 128 * n + d.val = 128 * (n + 1 * 0) + (0 + 1 * d.val) by omega)

/-- The four stores leave the block, whatever it held before. -/
theorem stores_read (a : Memref sig .tc .vmem S1x4x1024x128 .f32) (f : BufTy.Contents (Elt Ideal) a.view.ty)
    (h : Vec Ideal S1024x2048 .bf16) (w : Vec Ideal S2048x512 .bf16) :
    a.view.read (Elt Ideal) (a.view.writes (Elt Ideal) f
      [⟨Rect.unit (s := S1x4x1024x128) ![0, 3, 0, 0] S1x1x1024x128.size inb_S1x4x1024x128_S1x1x1024x128_0_3_0_0, k0_pay8 h w⟩,
       ⟨Rect.unit (s := S1x4x1024x128) ![0, 2, 0, 0] S1x1x1024x128.size inb_S1x4x1024x128_S1x1x1024x128_0_2_0_0, k0_pay7 h w⟩,
       ⟨Rect.unit (s := S1x4x1024x128) ![0, 1, 0, 0] S1x1x1024x128.size inb_S1x4x1024x128_S1x1x1024x128_0_1_0_0, k0_pay6 h w⟩,
       ⟨Rect.unit (s := S1x4x1024x128) ![0, 0, 0, 0] S1x1x1024x128.size inb_S1x4x1024x128_S1x1x1024x128_0_0_0_0, k0_pay5 h w⟩])
      = blkOf h w := by
  refine (View.read_writes_of_cover _ f a.view a.view.junk _ (fun y => View.cover_of_tiledL _ ![1, 1, 1024, 128] (by sl_kernel_rfl) y)).trans ?_
  rw [View.read_writes_junk_eq_canon]
  funext y
  refine View.canon_apply_of_pieces (Val := Elt Ideal) (e := .f32) (blkOf h w) _ ?_ y (View.cover_of_tiledL _ ![1, 1, 1024, 128] (by sl_kernel_rfl) y)
  intro p hp
  simp only [List.mem_cons, List.not_mem_nil, or_false] at hp
  rcases hp with rfl | rfl | rfl | rfl
  · refine tile_ok h w 3 (by decide) inb_S1x4x1024x128_S1x1x1024x128_0_3_0_0 _ fun r d => ?_
    unfold k0_pay8; generalize k0_pay4 h w = X; pointwise
  · refine tile_ok h w 2 (by decide) inb_S1x4x1024x128_S1x1x1024x128_0_2_0_0 _ fun r d => ?_
    unfold k0_pay7; generalize k0_pay4 h w = X; pointwise
  · refine tile_ok h w 1 (by decide) inb_S1x4x1024x128_S1x1x1024x128_0_1_0_0 _ fun r d => ?_
    unfold k0_pay6; generalize k0_pay4 h w = X; pointwise
  · refine tile_ok h w 0 (by decide) inb_S1x4x1024x128_S1x1x1024x128_0_0_0_0 _ fun r d => ?_
    unfold k0_pay5; generalize k0_pay4 h w = X; pointwise

set_option maxHeartbeats 1000000 in
/-- The body at a point that starts a row block: the rows in its second output and in its scratch, their products in its first. -/
theorem runA (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x4x1024x128 .f32) (harg8 : arg8.IsWhole) (arg9 : Memref sig .tc .vmem S1x1024x2048 .f32) (harg9 : arg9.IsWhole) (arg10 : Memref sig .tc .vmem S1024x2048 .bf16) (harg10 : arg10.IsWhole) (hc0 : k0_cond1 i = 1#1)
    (x0 : Vec Ideal S1x1024x2048 .f32) (x1 : Vec Ideal S1x2048 .f32) (x2 : Vec Ideal S1x1x2048 .f32) (x3 : Vec Ideal S1x1x2048 .f32) (x4 : Vec Ideal S2048x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blkOf (k0_pay2 x0 x1 x2 x3) x4) ∗ owns (c : Thread nD τ) arg9 fullShare (k0_pay3 x0 x1 x2 x3) ∗ owns (c : Thread nD τ) arg10 fullShare (k0_pay2 x0 x1 x2 x3)) -∗ K ⟨⟩))
      ⊢ wp frame (wpE (defs₀ (F := Ideal)) Variants.none c none) E (cc0_normproj_h i arg3 harg3 arg4 harg4 arg5 harg5 arg6 harg6 arg7 harg7 arg8 harg8 arg9 harg9 arg10 harg10) K := by
  simp only [cc0_normproj_h_eq_skeleton]; unfold cc0_normproj_h_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    unfold runA.sl.v3 runA.sl.HS_1
    rw [View.readCov_unit_zero _ (by decide), rd_x, rd_nw, rd_sc, rd_sc, rd_w]
    exact stores_read _ _ _ _
  isplitl [H6]
  · iexists _; isplitr; swap; · iexact H6
    ipureintro
    rw [rd_x, rd_nw, rd_sc, rd_sc, View.read_writes_full]
  iexists _; isplitr; swap; · iexact HS
  ipureintro
  unfold runA.sl.HS_1
  rw [rd_x, rd_nw, rd_sc, rd_sc, View.read_writes_full]

set_option maxHeartbeats 1000000 in
/-- The body at a point that carries the rows on: their products in its first output, the rest as it was. -/
theorem runB (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x4x1024x128 .f32) (harg8 : arg8.IsWhole) (arg9 : Memref sig .tc .vmem S1x1024x2048 .f32) (harg9 : arg9.IsWhole) (arg10 : Memref sig .tc .vmem S1024x2048 .bf16) (harg10 : arg10.IsWhole) (hc0 : ¬k0_cond1 i = 1#1)
    (x0 : Vec Ideal S1x1024x2048 .f32) (x1 : Vec Ideal S1x2048 .f32) (x2 : Vec Ideal S1x1x2048 .f32) (x3 : Vec Ideal S1x1x2048 .f32) (x4 : Vec Ideal S2048x512 .bf16) (x6 : Vec Ideal S1x1024x2048 .f32) (xs : Vec Ideal S1024x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare x6 ∗ owns (c : Thread nD τ) arg10 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blkOf xs x4) ∗ owns (c : Thread nD τ) arg9 fullShare x6 ∗ owns (c : Thread nD τ) arg10 fullShare xs) -∗ K ⟨⟩))
      ⊢ wp frame (wpE (defs₀ (F := Ideal)) Variants.none c none) E (cc0_normproj_h i arg3 harg3 arg4 harg4 arg5 harg5 arg6 harg6 arg7 harg7 arg8 harg8 arg9 harg9 arg10 harg10) K := by
  simp only [cc0_normproj_h_eq_skeleton]; unfold cc0_normproj_h_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [rd_h, rd_w]
    exact stores_read _ _ _ _
  isplitl [H6]
  · iexists _; isplitr; swap; · iexact H6
    ipureintro; exact harg9.read_unread _
  iexists _; isplitr; swap; · iexact HS
  ipureintro; exact harg10.read_unread _

end Cert.Kernel6Ideal.Run

end
-- ==== Proof.QueryRun.lean ====
/-
  The run of the queries' projection over the extended reals: what each grid point leaves, and that the arguments stay as they were.
-/
module

public import proofs.«01_k».proof.Proof.QueryBody

@[expose] public section

set_option maxRecDepth 16384

noncomputable section

namespace Cert.Kernel6Ideal.Run

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The point that started the row block of point `t`. -/
def rowPt (t : Fin cfg0.N) : Fin cfg0.N := ⟨t.val - t.val % 4, Nat.lt_of_le_of_lt (Nat.sub_le _ _) t.isLt⟩

theorem rowPt_start (t : Fin cfg0.N) (h : t.val % 4 = 0) : rowPt t = t := Fin.ext (show t.val - t.val % 4 = t.val by omega)

theorem rowPt_carry (t : Fin cfg0.N) (h : ¬ t.val % 4 = 0) : rowPt ⟨t.val - 1, Nat.lt_of_le_of_lt (Nat.sub_le _ _) t.isLt⟩ = rowPt t :=
  Fin.ext (show t.val - 1 - (t.val - 1) % 4 = t.val - t.val % 4 by omega)

/-- The rows point `t` finds or leaves in the scratch, -/
def rowsScr (c : Dev nD) (t : Fin cfg0.N) : Vec Ideal S1024x2048 .bf16 :=
  k0_pay2 (iblk m c 0 (rowPt t)) (iblk m c 1 (rowPt t)) (iblk m c 2 (rowPt t)) (iblk m c 3 (rowPt t))

/-- and in the second output. -/
def rowsOut (c : Dev nD) (t : Fin cfg0.N) : Vec Ideal S1x1024x2048 .f32 :=
  k0_pay3 (iblk m c 0 (rowPt t)) (iblk m c 1 (rowPt t)) (iblk m c 2 (rowPt t)) (iblk m c 3 (rowPt t))

/-- The scratch before position `n`: at anything before the first point, at the rows of the point before after it. -/
def PhiS (c : Dev nD) : (n : ℕ) → n ≤ cfg0.N → sProp 𝕄
  | 0, _ => Pipeline.ΦA spec0 c
  | n + 1, hn => iprop(iprop(owns (c : Thread nD τ) scM fullShare (rowsScr m c ⟨n, hn⟩)) ∗ (∃ r, prngReg c r))

theorem PhiS_pos (c : Dev nD) (n : ℕ) (h : n ≤ cfg0.N) (hz : n ≠ 0) :
    PhiS m c n h = iprop(iprop(owns (c : Thread nD τ) scM fullShare (rowsScr m c ⟨n - 1, by omega⟩)) ∗ (∃ r, prngReg c r)) := by
  cases n with
  | zero => exact absurd rfl hz
  | succ n => rfl

theorem PhiS_any (c : Dev nD) (n : ℕ) (h : n ≤ cfg0.N) : PhiS m c n h ⊢ Pipeline.ΦA spec0 c := by
  cases n with
  | zero => exact .rfl
  | succ n =>
    rw [PhiA_eq]
    show iprop(iprop(owns (c : Thread nD τ) scM fullShare (rowsScr m c ⟨n, h⟩)) ∗ (∃ r, prngReg c r)) ⊢ _
    iintro ⟨HS, Hg⟩
    isplitl [HS]
    · iexists _; iexact HS
    iexact Hg

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkOf (rowsScr m c t) (iblk m c 4 t)
    | ⟨6, _⟩ => rowsOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blkOf (rowsScr m c t) (iblk m c 4 t) := by dsimp only [dats]
theorem after0_6 (c : Dev nD) (t : Fin cfg0.N) : (dats m 0 c).after 6 t = rowsOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem idle6 (t : Fin cfg0.N) : cfg0.idle 6 (cfg0.grid.coords t) = true ↔ ¬ t.val % 4 = 0 := by
  have h := hstart t
  show (!(k0_cond1 (grid0.coords t) == 1#1)) = true ↔ _
  rw [← h]
  simp

theorem fresh6 (n : ℕ) (hn : n ≤ cfg0.N) : cfg0.fresh 6 n = decide (n % 4 = 0) := by
  refine cfg0.fresh_tab 6 (fun n => decide (n % 4 = 0)) rfl (fun t => ?_) n hn
  rw [Bool.eq_iff_iff, Bool.or_eq_true, Bool.and_eq_true, flush0_6, idle6, decide_eq_true_iff, decide_eq_true_iff]
  omega

theorem rowsOut_carry (c : Dev nD) (t : Fin cfg0.N) (h : ¬ t.val % 4 = 0) :
    rowsOut m c ⟨t.val - 1, Nat.lt_of_le_of_lt (Nat.sub_le _ _) t.isLt⟩ = rowsOut m c t := by
  unfold rowsOut; rw [rowPt_carry t h]

theorem rowsScr_carry (c : Dev nD) (t : Fin cfg0.N) (h : ¬ t.val % 4 = 0) :
    rowsScr m c ⟨t.val - 1, Nat.lt_of_le_of_lt (Nat.sub_le _ _) t.isLt⟩ = rowsScr m c t := by
  unfold rowsScr; rw [rowPt_carry t h]

/-- Where the body does not store the rows, their block still holds them. -/
theorem before0_6 (c : Dev nD) (t : Fin cfg0.N) (h : ¬ t.val % 4 = 0) (d) : (dats m 0 c).before 6 t d = rowsOut m c t := by
  refine ((dats m 0 c).before_out_traj 6 rfl (fun _ _ => rfl) (fun t _ hi _ => ?_) t.val t rfl d).trans ?_
  · rw [after0_6, after0_6]
    exact (rowsOut_carry m c t ((idle6 t).mp hi)).symm
  · rw [fresh6 _ (Nat.le_of_lt t.isLt), if_neg (by simpa using h), after0_6]
    exact rowsOut_carry m c t h

/-- What the body owes of the rows' block at point `t`. -/
def post6 (c : Dev nD) (t : Fin cfg0.N) : sProp 𝕄 :=
  match cfg0.idle 6 (cfg0.grid.coords t) with
  | true =>
    match (cfg0.win 6).flush t with
    | false => iprop(∃ d, owns (c : Thread nD τ) (ms0_6 t) fullShare ((dats m 0 c).before 6 t d))
    | true => owns (c : Thread nD τ) (ms0_6 t) fullShare ((dats m 0 c).after 6 t)
  | false => owns (c : Thread nD τ) (ms0_6 t) fullShare ((dats m 0 c).after 6 t)

theorem post6_of (c : Dev nD) (t : Fin cfg0.N) : owns (c : Thread nD τ) (ms0_6 t) fullShare (rowsOut m c t) ⊢ post6 m c t := by
  unfold post6
  rw [after0_6]
  cases hi : cfg0.idle 6 (cfg0.grid.coords t)
  · exact .rfl
  · cases hf : (cfg0.win 6).flush t
    · dsimp only
      simp only [before0_6 m c t ((idle6 t).mp hi)]
      iintro H
      iexists (rowsOut m c t)
      iexact H
    · exact .rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ post6 m c t)

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = iprop(iprop(owns (c : Thread nD τ) scM fullShare (rowsScr m c t)) ∗ (∃ r, prngReg c r)) from rfl,
    PhiS_castSucc m c t]
  by_cases h0 : t.val % 4 = 0
  · refine (sep_mono_left (PhiS_any m c _ _)).trans ?_
    rw [PhiA_eq]
    have eS : k0_pay2 (iblk m c 0 t) (iblk m c 1 t) (iblk m c 2 t) (iblk m c 3 t) = rowsScr m c t := by unfold rowsScr; rw [rowPt_start t h0]
    have eO : k0_pay3 (iblk m c 0 t) (iblk m c 1 t) (iblk m c 2 t) (iblk m c 3 t) = rowsOut m c t := by unfold rowsOut; rw [rowPt_start t h0]
    rw [← eS]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ (Memref.isWhole_whole _) ((hstart t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (post6_of m c t)
    rw [← eO]
    iexact H6
  · have hz : t.val ≠ 0 := fun h => h0 (by rw [h])
    rw [PhiS_pos m c _ _ hz, rowsScr_carry m c t h0]
    simp only [before0_6 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ (Memref.isWhole_whole _) (fun h => h0 ((hstart t).mp h)) (iblk m c 0 t) (iblk m c 1 t) (iblk m c 2 t) (iblk m c 3 t) (iblk m c 4 t) (rowsOut m c t) (rowsScr m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (post6_of m c t)
    iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

-- the launch theorem's implicit arguments are found by unifying its conclusion with this one
set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := hout m)

/-- The projection runs, leaves its arguments as they were and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel6Ideal.Run

end
-- ==== Proof.QueryProj.lean ====
/- The queries' projection: what the call's two arrays hold, and what the reference computes. -/
module

public import proofs.«01_k».proof.Defs
public import proofs.«01_k».proof.Proof.QueryRun
public import proofs.«01_k».proof.Proof.InProj
public import proofs.«01_k».proof.Proof.Gen.Reference6Ideal.Run

@[expose] public section

set_option maxRecDepth 16384

noncomputable section

open Idealize.ShloMosaic Idealize.ShloMosaic.TcCoe Idealize.SL.Sem

namespace Cert.Proof.Query

open Cert.Proof.InProj (rowAt)

/-- The rows, normalised and modulated. -/
def rowsOf (x : (⟨3, ![4, 4096, 2048]⟩ : Shape).Idx → EReal) (nw : (⟨1, ![2048]⟩ : Shape).Idx → EReal)
    (sc sh : (⟨2, ![4, 2048]⟩ : Shape).Idx → EReal) : (⟨3, ![4, 4096, 2048]⟩ : Shape).Idx → EReal :=
  fun i => rowAt x nw sc sh (i 0) (i 1) (i 2)

/-- Entry `d` of head `n` of the queries at row `s`. -/
def queryAt (x : (⟨3, ![4, 4096, 2048]⟩ : Shape).Idx → EReal) (nw : (⟨1, ![2048]⟩ : Shape).Idx → EReal)
    (sc sh : (⟨2, ![4, 2048]⟩ : Shape).Idx → EReal) (w : (⟨2, ![2048, 2048]⟩ : Shape).Idx → EReal)
    (b : Fin 4) (n : Fin 16) (s : Fin 4096) (d : Fin 128) : EReal :=
  ∑ k : Fin 2048, rowAt x nw sc sh b s k * w (ix2 k ⟨128 * n.val + d.val, by omega⟩)

/-- The queries, by batch, head, row and entry. -/
def queriesOf (x : (⟨3, ![4, 4096, 2048]⟩ : Shape).Idx → EReal) (nw : (⟨1, ![2048]⟩ : Shape).Idx → EReal)
    (sc sh : (⟨2, ![4, 2048]⟩ : Shape).Idx → EReal) (w : (⟨2, ![2048, 2048]⟩ : Shape).Idx → EReal) : (⟨4, ![4, 16, 4096, 128]⟩ : Shape).Idx → EReal :=
  fun i => queryAt x nw sc sh w (i 0) (i 1) (i 2) (i 3)

section Reference
open Cert.Reference6Ideal Cert.Reference6Ideal.Gen

variable (x : FVec Ideal S4x4096x2048 .f32) (nw : FVec Ideal S2048 .f32) (sc sh : FVec Ideal S4x2048 .f32) (w : FVec Ideal S2048x2048 .f32)

theorem ref_rows : InProj.refRows x nw sc sh = rowsOf x nw sc sh := by
  funext i
  obtain ⟨b, s, k, rfl⟩ : ∃ b s k, i = ix3 b s k := ⟨_, _, _, eq_ix3 i⟩
  exact InProj.refRows_at x nw sc sh b s k

theorem heads_at (R : FVec Ideal S4x4096x2048 .f32) (b : Fin 4) (n : Fin 16) (s : Fin 4096) (d : Fin 128) :
    transpose S4x16x4096x128 [0, 2, 1, 3] (shapeCast S4x4096x16x128 (Host.dotGeneral dot_S4x4096x2048_S2048x2048_S4x4096x2048_2_0_01_1_n_n none R w)
      shapeCasts_S4x4096x2048_S4x4096x16x128) transposes_S4x4096x16x128_S4x16x4096x128_0_2_1_3 (ix4 b n s d)
      = ∑ k : Fin 2048, R (ix3 b s k) * w (ix2 k ⟨128 * n.val + d.val, by omega⟩) := by
  pointwise
  simp only [Nat.mul_comm n.val 128]

theorem ref_queries : transpose S4x16x4096x128 [0, 2, 1, 3] (shapeCast S4x4096x16x128
      (Host.dotGeneral dot_S4x4096x2048_S2048x2048_S4x4096x2048_2_0_01_1_n_n none (InProj.refRows x nw sc sh) w)
      shapeCasts_S4x4096x2048_S4x4096x16x128) transposes_S4x4096x16x128_S4x16x4096x128_0_2_1_3 = queriesOf x nw sc sh w := by
  funext i
  obtain ⟨b, n, s, d, rfl⟩ : ∃ b n s d, i = ix4 b n s d := ⟨_, _, _, _, eq_ix4 i⟩
  rw [heads_at]
  show _ = queryAt x nw sc sh w b n s d
  unfold queryAt
  exact Finset.sum_congr rfl fun k _ => congrArg (· * w _) (InProj.refRows_at x nw sc sh b s k)

end Reference

section Kernel
open Cert.Kernel6Ideal Cert.Kernel6Ideal.Gen Cert.Kernel6Ideal.Run

theorem pay1_at (x0 : Vec Ideal S1x1024x2048 .f32) (x1 : Vec Ideal S1x2048 .f32) (x2 x3 : Vec Ideal S1x1x2048 .f32) (r : Fin 1024) (k : Fin 2048) :
    k0_pay1 x0 x1 x2 x3 (ix2 r k)
      = x0 (ix3 0 r k) * Ideal.rsqrt (Ideal.div (∑ j, x0 (ix3 0 r j) * x0 (ix3 0 r j)) (Ideal.ofBits FTy.f32 1157627904#32) + Ideal.ofBits FTy.f32 897988541#32)
        * x1 (ix2 0 k) * (1 + x2 (ix3 0 0 k)) + x3 (ix3 0 0 k) := by
  unfold k0_pay1
  pointwise

theorem pay2_at (x0 : Vec Ideal S1x1024x2048 .f32) (x1 : Vec Ideal S1x2048 .f32) (x2 x3 : Vec Ideal S1x1x2048 .f32) (r : Fin 1024) (k : Fin 2048) :
    k0_pay2 x0 x1 x2 x3 (ix2 r k) = k0_pay1 x0 x1 x2 x3 (ix2 r k) := by
  unfold k0_pay2; generalize k0_pay1 x0 x1 x2 x3 = X; pointwise

theorem pay3_at (x0 : Vec Ideal S1x1024x2048 .f32) (x1 : Vec Ideal S1x2048 .f32) (x2 x3 : Vec Ideal S1x1x2048 .f32) (r : Fin 1024) (k : Fin 2048) :
    k0_pay3 x0 x1 x2 x3 (ix3 0 r k) = k0_pay1 x0 x1 x2 x3 (ix2 r k) := by
  unfold k0_pay3; generalize k0_pay1 x0 x1 x2 x3 = X; pointwise

variable (m : (ℓ : Loc nD τ sig) → Buf (Elt Ideal) ℓ) (ρ : Dev nD → PrngReg) (c : Dev nD) (t : Fin cfg0.N)

/-- The queries from this memory's arguments, -/
abbrev queryMem : Buf (Elt Ideal) ((c : Thread nD τ).loc main_v4_0) :=
  queriesOf (m ((c : Thread nD τ).loc main_arg0)) (m ((c : Thread nD τ).loc main_arg1)) (m ((c : Thread nD τ).loc main_arg2))
    (m ((c : Thread nD τ).loc main_arg3)) (m ((c : Thread nD τ).loc main_arg4))

/-- and the rows. -/
abbrev rowsMem : Buf (Elt Ideal) ((c : Thread nD τ).loc main_v4_1) :=
  rowsOf (m ((c : Thread nD τ).loc main_arg0)) (m ((c : Thread nD τ).loc main_arg1)) (m ((c : Thread nD τ).loc main_arg2))
    (m ((c : Thread nD τ).loc main_arg3))

theorem pt_lt (t : Fin cfg0.N) : t.val < 64 := t.isLt

def ptB (t : Fin cfg0.N) : Fin 4 := ⟨t.val / 16, by have := pt_lt t; omega⟩
def ptR (t : Fin cfg0.N) (r : Fin 1024) : Fin 4096 := ⟨1024 * (t.val / 4 % 4) + r.val, by omega⟩
def ptC (t : Fin cfg0.N) (j : Fin 512) : Fin 2048 := ⟨512 * (t.val % 4) + j.val, by omega⟩

theorem idx0 : ∀ t : Fin cfg0.N, win0_0.index t (0 : Fin 3) = t.val / 16 ∧ win0_0.index t (1 : Fin 3) = t.val / 4 % 4 ∧ win0_0.index t (2 : Fin 3) = 0 := by
  decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 3) = t.val / 16 ∧ win0_2.index t (1 : Fin 3) = 0 ∧ win0_2.index t (2 : Fin 3) = 0 := by
  decide +kernel
theorem idx3 : ∀ t : Fin cfg0.N, win0_3.index t (0 : Fin 3) = t.val / 16 ∧ win0_3.index t (1 : Fin 3) = 0 ∧ win0_3.index t (2 : Fin 3) = 0 := by
  decide +kernel
theorem idx4 : ∀ t : Fin cfg0.N, win0_4.index t (0 : Fin 2) = 0 ∧ win0_4.index t (1 : Fin 2) = t.val % 4 := by decide +kernel
theorem idx5 : ∀ t : Fin cfg0.N, win0_5.index t (0 : Fin 4) = t.val / 16 ∧ win0_5.index t (1 : Fin 4) = t.val % 4
    ∧ win0_5.index t (2 : Fin 4) = t.val / 4 % 4 ∧ win0_5.index t (3 : Fin 4) = 0 := by decide +kernel
theorem idx6 : ∀ t : Fin cfg0.N, win0_6.index t (0 : Fin 3) = t.val / 16 ∧ win0_6.index t (1 : Fin 3) = t.val / 4 % 4 ∧ win0_6.index t (2 : Fin 3) = 0 := by
  decide +kernel

theorem blk0 (r : Fin 1024) (k : Fin 2048) :
    iblk m c 0 t (ix3 0 r k) = m ((c : Thread nD τ).loc main_arg0) (ix3 (ptB t) (ptR t r) k) := by
  show (V m c main_arg0) (((cfg0.win 0).blk t).view.emb (ix3 0 r k)) = _
  rw [V_main_arg0]
  obtain ⟨e0, e1, e2⟩ := idx0 t
  refine congrArg (m ((c : Thread nD τ).loc main_arg0)) (funext fun a => Fin.ext ?_)
  match a with
  | ⟨0, _⟩ => show win0_0.index t (0 : Fin 3) * 1 + 1 * 0 = t.val / 16; omega
  | ⟨1, _⟩ => show win0_0.index t (1 : Fin 3) * 1024 + 1 * r.val = 1024 * (t.val / 4 % 4) + r.val; omega
  | ⟨2, _⟩ => show win0_0.index t (2 : Fin 3) * 2048 + 1 * k.val = k.val; omega

theorem V_nw (k : Fin 2048) : V m c main_v1 (ix2 0 k) = m ((c : Thread nD τ).loc main_arg1) (ix1 k) := by
  have e : V m c main_v1 = shapeCast S1x2048 (m ((c : Thread nD τ).loc main_arg1)) shapeCasts_S2048_S1x2048 := by
    show StableHlo.after hostOps0 _ _ = _
    after_results_simp <;> rfl
  rw [e]
  pointwise

theorem V_sc (b : Fin 4) (k : Fin 2048) : V m c main_v2 (ix3 b 0 k) = m ((c : Thread nD τ).loc main_arg2) (ix2 b k) := by
  have e : V m c main_v2 = shapeCast S4x1x2048 (m ((c : Thread nD τ).loc main_arg2)) shapeCasts_S4x2048_S4x1x2048 := by
    show StableHlo.after hostOps0 _ _ = _
    after_results_simp <;> rfl
  rw [e]
  pointwise

theorem V_sh (b : Fin 4) (k : Fin 2048) : V m c main_v3 (ix3 b 0 k) = m ((c : Thread nD τ).loc main_arg3) (ix2 b k) := by
  have e : V m c main_v3 = shapeCast S4x1x2048 (m ((c : Thread nD τ).loc main_arg3)) shapeCasts_S4x2048_S4x1x2048 := by
    show StableHlo.after hostOps0 _ _ = _
    after_results_simp <;> rfl
  rw [e]
  pointwise

theorem V_w (k : Fin 2048) (n : Fin 2048) : V m c main_v0 (ix2 k n) = m ((c : Thread nD τ).loc main_arg4) (ix2 k n) := by
  have e : V m c main_v0 = truncf (F := Ideal) .bf16 (m ((c : Thread nD τ).loc main_arg4)) bitsLt_bf16_f32 := by
    show StableHlo.after hostOps0 _ _ = _
    unfold hostOps0
    after_results
  rw [e]
  rfl

theorem blk1 (k : Fin 2048) : iblk m c 1 t (ix2 0 k) = m ((c : Thread nD τ).loc main_arg1) (ix1 k) := by
  refine Eq.trans ?_ (V_nw m c k)
  show (V m c main_v1) (((cfg0.win 1).blk t).view.emb (ix2 0 k)) = _
  obtain ⟨e0, e1⟩ := idx1 t
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

theorem blk2 (k : Fin 2048) : iblk m c 2 t (ix3 0 0 k) = m ((c : Thread nD τ).loc main_arg2) (ix2 (ptB t) k) := by
  refine Eq.trans ?_ (V_sc m c (ptB t) k)
  show (V m c main_v2) (((cfg0.win 2).blk t).view.emb (ix3 0 0 k)) = _
  obtain ⟨e0, e1, e2⟩ := idx2 t
  refine congrArg (V m c main_v2) (funext fun a => Fin.ext ?_)
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 2048 + 1 * k.val = k.val; omega

theorem blk3 (k : Fin 2048) : iblk m c 3 t (ix3 0 0 k) = m ((c : Thread nD τ).loc main_arg3) (ix2 (ptB t) k) := by
  refine Eq.trans ?_ (V_sh m c (ptB t) k)
  show (V m c main_v3) (((cfg0.win 3).blk t).view.emb (ix3 0 0 k)) = _
  obtain ⟨e0, e1, e2⟩ := idx3 t
  refine congrArg (V m c main_v3) (funext fun a => Fin.ext ?_)
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 2048 + 1 * k.val = k.val; omega

/-- The weights' columns at a grid point. -/
theorem blk4 (k : Fin 2048) (j : Fin 512) :
    iblk m c 4 t (ix2 k j) = m ((c : Thread nD τ).loc main_arg4) (ix2 k (ptC t j)) := by
  refine Eq.trans ?_ (V_w m c k (ptC t j))
  show (V m c main_v0) (((cfg0.win 4).blk t).view.emb (ix2 k j)) = _
  obtain ⟨e0, e1⟩ := idx4 t
  refine congrArg (V m c main_v0) (funext fun a => Fin.ext ?_)
  match a with
  | ⟨0, _⟩ => show win0_4.index t (0 : Fin 2) * 2048 + 1 * k.val = k.val; omega
  | ⟨1, _⟩ => show win0_4.index t (1 : Fin 2) * 512 + 1 * j.val = 512 * (t.val % 4) + j.val; omega

/-- A row of this memory's arguments, normalised and modulated. -/
abbrev rowMem (b : Fin 4) (s : Fin 4096) (k : Fin 2048) : EReal :=
  rowAt (m ((c : Thread nD τ).loc main_arg0)) (m ((c : Thread nD τ).loc main_arg1)) (m ((c : Thread nD τ).loc main_arg2))
    (m ((c : Thread nD τ).loc main_arg3)) b s k

/-- The rows of point `t`'s row block, as the point that started it computed them. -/
theorem rows_at (r : Fin 1024) (k : Fin 2048) :
    k0_pay1 (iblk m c 0 (rowPt t)) (iblk m c 1 (rowPt t)) (iblk m c 2 (rowPt t)) (iblk m c 3 (rowPt t)) (ix2 r k) = rowMem m c (ptB t) (ptR t r) k := by
  rw [pay1_at]
  simp only [blk0, blk1, blk2, blk3]
  have eb : ptB (rowPt t) = ptB t := Fin.ext (show (t.val - t.val % 4) / 16 = t.val / 16 by omega)
  have er : ptR (rowPt t) r = ptR t r := Fin.ext (show 1024 * ((t.val - t.val % 4) / 4 % 4) + r.val = 1024 * (t.val / 4 % 4) + r.val by omega)
  rw [eb, er]
  rfl

theorem flushed5_eq : (dats m 0 c).flushed 5 t = ((cfg0.win 5).blk t).view.read (Elt Ideal) (queryMem m c) := by
  show (cfg0.win 5).cut (grid0.coords t) ((dats m 0 c).after 5 t) = _
  rw [after0_5]
  funext y
  show blkOf (rowsScr m c t) (iblk m c 4 t) y = queryMem m c (((cfg0.win 5).blk t).view.emb y)
  have hy0 : (y 0).val < 1 := (y 0).isLt
  have hy1 : (y 1).val < 4 := (y 1).isLt
  have hy2 : (y 2).val < 1024 := (y 2).isLt
  have hy3 : (y 3).val < 128 := (y 3).isLt
  obtain ⟨e0, e1, e2, e3⟩ := idx5 t
  have b0 : (((cfg0.win 5).blk t).view.emb y 0).val = win0_5.index t (0 : Fin 4) * 1 + 1 * (y 0).val := rfl
  have b1 : (((cfg0.win 5).blk t).view.emb y 1).val = win0_5.index t (1 : Fin 4) * 4 + 1 * (y 1).val := rfl
  have b2 : (((cfg0.win 5).blk t).view.emb y 2).val = win0_5.index t (2 : Fin 4) * 1024 + 1 * (y 2).val := rfl
  have b3 : (((cfg0.win 5).blk t).view.emb y 3).val = win0_5.index t (3 : Fin 4) * 128 + 1 * (y 3).val := rfl
  have eb : ptB t = ((cfg0.win 5).blk t).view.emb y 0 := Fin.ext (by rw [b0]; show t.val / 16 = _; omega)
  have er : ptR t ⟨(y 2).val, hy2⟩ = ((cfg0.win 5).blk t).view.emb y 2 := Fin.ext (by rw [b2]; show 1024 * (t.val / 4 % 4) + (y 2).val = _; omega)
  unfold blkOf queryMem queriesOf queryAt
  refine Finset.sum_congr rfl fun k _ => ?_
  have hr : rowsScr m c t (ix2 (n0 := 1024) ⟨(y 2).val, hy2⟩ k) = rowMem m c (((cfg0.win 5).blk t).view.emb y 0) (((cfg0.win 5).blk t).view.emb y 2) k := by
    rw [← eb, ← er]
    unfold rowsScr
    rw [pay2_at]
    exact rows_at m c t ⟨(y 2).val, hy2⟩ k
  refine congrArg₂ (· * ·) hr ((blk4 m c t k _).trans (congrArg (fun q => m ((c : Thread nD τ).loc main_arg4) (ix2 k q)) (Fin.ext ?_)))
  show 512 * (t.val % 4) + (128 * (y 1).val + (y 3).val) = 128 * (((cfg0.win 5).blk t).view.emb y 1).val + (((cfg0.win 5).blk t).view.emb y 3).val
  rw [b1, b3]; omega

theorem flushed6_eq : (dats m 0 c).flushed 6 t = ((cfg0.win 6).blk t).view.read (Elt Ideal) (rowsMem m c) := by
  show (cfg0.win 6).cut (grid0.coords t) ((dats m 0 c).after 6 t) = _
  rw [after0_6]
  funext y
  show rowsOut m c t y = rowsMem m c (((cfg0.win 6).blk t).view.emb y)
  obtain ⟨a, r, k, rfl⟩ : ∃ (a : Fin 1) (r : Fin 1024) (k : Fin 2048), y = ix3 a r k := ⟨_, _, _, eq_ix3 y⟩
  obtain rfl : a = 0 := Subsingleton.elim _ _
  obtain ⟨e0, e1, e2⟩ := idx6 t
  unfold rowsOut
  rw [pay3_at, rows_at]
  show rowMem m c _ _ _ = rowMem m c (((cfg0.win 6).blk t).view.emb (ix3 0 r k) 0) (((cfg0.win 6).blk t).view.emb (ix3 0 r k) 1) (((cfg0.win 6).blk t).view.emb (ix3 0 r k) 2)
  have eb : ptB t = ((cfg0.win 6).blk t).view.emb (ix3 0 r k) 0 := Fin.ext (show t.val / 16 = win0_6.index t (0 : Fin 3) * 1 + 1 * 0 by omega)
  have er : ptR t r = ((cfg0.win 6).blk t).view.emb (ix3 0 r k) 1 :=
    Fin.ext (show 1024 * (t.val / 4 % 4) + r.val = win0_6.index t (1 : Fin 3) * 1024 + 1 * r.val by omega)
  have ek : k = ((cfg0.win 6).blk t).view.emb (ix3 0 r k) 2 := Fin.ext (show k.val = win0_6.index t (2 : Fin 3) * 2048 + 1 * k.val by omega)
  rw [← eb, ← er, ← ek]

theorem mem_blk5 (i : S4x16x4096x128.Idx) : i ∈ ((cfg0.win 5).blk t).view.set
    ↔ ∀ a : Fin 4, win0_5.index t a * S1x4x1024x128.size a ≤ (i a).val ∧ (i a).val < win0_5.index t a * S1x4x1024x128.size a + S1x4x1024x128.size a := by
  show i ∈ ((View.whole main_v4_0).slice (win0_5.rect t)).set ↔ _
  rw [View.set_slice_whole, Rect.mem_set_unit]
  exact Iff.rfl

theorem mem_blk6 (i : S4x4096x2048.Idx) : i ∈ ((cfg0.win 6).blk t).view.set
    ↔ ∀ a : Fin 3, win0_6.index t a * S1x1024x2048.size a ≤ (i a).val ∧ (i a).val < win0_6.index t a * S1x1024x2048.size a + S1x1024x2048.size a := by
  show i ∈ ((View.whole main_v4_1).slice (win0_6.rect t)).set ↔ _
  rw [View.set_slice_whole, Rect.mem_set_unit]
  exact Iff.rfl

theorem covered5 (i : S4x16x4096x128.Idx) : ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 4096 := (i 2).isLt
  have h3 : (i 3).val < 128 := (i 3).isLt
  have hp : 16 * (i 0).val + 4 * ((i 2).val / 1024) + (i 1).val / 4 < cfg0.N := show _ < 64 by omega
  obtain ⟨e0, e1, e2, e3⟩ := idx5 ⟨_, hp⟩
  refine ⟨⟨_, hp⟩, flush0_5 _, ?_⟩
  rw [mem_blk5]
  intro a
  match a with
  | ⟨0, _⟩ => show win0_5.index ⟨_, hp⟩ (0 : Fin 4) * 1 ≤ (i 0).val ∧ (i 0).val < win0_5.index ⟨_, hp⟩ (0 : Fin 4) * 1 + 1; dsimp only at e0; omega
  | ⟨1, _⟩ => show win0_5.index ⟨_, hp⟩ (1 : Fin 4) * 4 ≤ (i 1).val ∧ (i 1).val < win0_5.index ⟨_, hp⟩ (1 : Fin 4) * 4 + 4; dsimp only at e1; omega
  | ⟨2, _⟩ => show win0_5.index ⟨_, hp⟩ (2 : Fin 4) * 1024 ≤ (i 2).val ∧ (i 2).val < win0_5.index ⟨_, hp⟩ (2 : Fin 4) * 1024 + 1024; dsimp only at e2; omega
  | ⟨3, _⟩ => show win0_5.index ⟨_, hp⟩ (3 : Fin 4) * 128 ≤ (i 3).val ∧ (i 3).val < win0_5.index ⟨_, hp⟩ (3 : Fin 4) * 128 + 128; omega

theorem covered6 (i : S4x4096x2048.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 2048 := (i 2).isLt
  have hp : 16 * (i 0).val + 4 * ((i 1).val / 1024) + 3 < cfg0.N := show _ < 64 by omega
  obtain ⟨e0, e1, e2⟩ := idx6 ⟨_, hp⟩
  refine ⟨⟨_, hp⟩, (flush0_6 _).mpr (by dsimp only; omega), ?_⟩
  rw [mem_blk6]
  intro a
  match a with
  | ⟨0, _⟩ => show win0_6.index ⟨_, hp⟩ (0 : Fin 3) * 1 ≤ (i 0).val ∧ (i 0).val < win0_6.index ⟨_, hp⟩ (0 : Fin 3) * 1 + 1; dsimp only at e0; omega
  | ⟨1, _⟩ => show win0_6.index ⟨_, hp⟩ (1 : Fin 3) * 1024 ≤ (i 1).val ∧ (i 1).val < win0_6.index ⟨_, hp⟩ (1 : Fin 3) * 1024 + 1024; dsimp only at e1; omega
  | ⟨2, _⟩ => show win0_6.index ⟨_, hp⟩ (2 : Fin 3) * 2048 ≤ (i 2).val ∧ (i 2).val < win0_6.index ⟨_, hp⟩ (2 : Fin 3) * 2048 + 2048; omega

/-- The call leaves the queries, -/
theorem final5 : (dats m 0 c).arrAt 5 cfg0.N = queryMem m c :=
  (dats m 0 c).arrAt_eq_of_cover 5 _ (fun t _ => flushed5_eq m c t) covered5

/-- and the rows. -/
theorem final6 : (dats m 0 c).arrAt 6 cfg0.N = rowsMem m c :=
  (dats m 0 c).arrAt_eq_of_cover 6 _ (fun t _ => flushed6_eq m c t) covered6

end Kernel

/-- Kernel and reference compute the same two arrays. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => queryMem m c, fun c => rowsMem m c, ?_, ?_⟩
  · exact (θ_run _ _ _).mono (fun r h c => ⟨((h.1.1 c).1 5).trans (final5 m c), ((h.1.1 c).1 6).trans (final6 m c), h.2.1 c⟩)
      (θ_run_and (Cert.Kernel6Ideal.Run.run_main m g) (Cert.Kernel6Ideal.Run.frame m g))
  · refine (θ_run _ _ _).mono (fun r h c => ⟨(h c).1.trans ?_, (h c).2.1.trans ?_, (h c).2.2⟩) (Cert.Reference6Ideal.Value.run (F := Ideal) m' g')
    · obtain ⟨e0, e1, e2, e3, e4⟩ := hagree c
      refine (ref_queries _ _ _ _ _).trans ?_
      unfold queryMem
      rw [e0, e1, e2, e3, e4]
    · obtain ⟨e0, e1, e2, e3, e4⟩ := hagree c
      refine (ref_rows _ _ _ _).trans ?_
      unfold rowsMem
      rw [e0, e1, e2, e3]

end Cert.Proof.Query

end
-- ==== Proof.Modulation.lean ====
/- The modulation: what the call's array holds, and what the reference computes. -/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.Modulation

/-- `x` times its logistic function. -/
def siluOf (x : EReal) : EReal := x * Ideal.div 1 (1 + Ideal.exp (-x))

/-- Column `n` of row `r`: the product with the weights plus the bias at the four rows of the batch, the bias alone at the four others. -/
def modAt (x : (⟨2, ![4, 2048]⟩ : Shape).Idx → EReal) (w : (⟨2, ![2048, 12288]⟩ : Shape).Idx → EReal) (b : (⟨1, ![12288]⟩ : Shape).Idx → EReal)
    (r : Fin 8) (n : Fin 12288) : EReal :=
  if h : r.val < 4 then (∑ k : Fin 2048, siluOf (x (ix2 ⟨r.val, h⟩ k)) * w (ix2 k n)) + b (ix1 n) else b (ix1 n)

/-- The modulation of the batch. -/
def modOf (x : (⟨2, ![4, 2048]⟩ : Shape).Idx → EReal) (w : (⟨2, ![2048, 12288]⟩ : Shape).Idx → EReal) (b : (⟨1, ![12288]⟩ : Shape).Idx → EReal) :
    (⟨2, ![8, 12288]⟩ : Shape).Idx → EReal :=
  fun i => modAt x w b (i 0) (i 1)

section Reference
open Cert.Reference7Ideal Cert.Reference7Ideal.Gen

/-- The reference's product with its bias. -/
abbrev refMod (x : FVec Ideal S4x2048 .f32) (w : FVec Ideal S2048x12288 .f32) (b : FVec Ideal S12288 .f32) : FVec Ideal S4x12288 .f32 :=
  addf (Host.dotGeneral dot_S4x2048_S2048x12288_S4x12288_1_0_0_1_n_n none (mulf x (Host.divf
    (broadcastInDim S4x2048 ![] bcast_S_S4x2048 (constant S_ .f32 0x3F800000#32))
    (addf (broadcastInDim S4x2048 ![] bcast_S_S4x2048 (constant S_ .f32 0x3F800000#32)) (Host.exp (Host.negf x))))) w)
    (broadcastInDim S4x12288 ![0, 1] bcast_S1x12288_S4x12288_0_1 (broadcastInDim S1x12288 ![1] bcast_S12288_S1x12288_1 b))

theorem ref_mod (x : FVec Ideal S4x2048 .f32) (w : FVec Ideal S2048x12288 .f32) (b : FVec Ideal S12288 .f32) (r : Fin 4) (n : Fin 12288) :
    refMod x w b (ix2 r n) = (∑ k : Fin 2048, siluOf (x (ix2 r k)) * w (ix2 k n)) + b (ix1 n) := by
  unfold refMod siluOf
  pointwise

/-- The reference's term is `modOf` of its arguments. -/
theorem ref_eq (x : FVec Ideal S4x2048 .f32) (w : FVec Ideal S2048x12288 .f32) (b : FVec Ideal S12288 .f32) :
    concatenate S8x12288 0 [⟨S4x12288, refMod x w b⟩, ⟨S4x12288, broadcastInDim S4x12288 ![1] bcast_S12288_S4x12288_1 b⟩]
      concatenates_S4x12288_S4x12288_S8x12288_d0 = modOf x w b := by
  funext i
  obtain ⟨r, n, rfl⟩ : ∃ r n, i = ix2 r n := ⟨_, _, eq_ix2 i⟩
  show _ = modAt x w b r n
  unfold modAt
  simp only [← ref_mod]
  generalize refMod x w b = X
  pointwise

end Reference

section Kernel
open Cert.Kernel7Ideal Cert.Kernel7Ideal.Gen

theorem pay_at (x0 : Vec Ideal S8x2048 .f32) (x1 : Vec Ideal S2048x1024 .f32) (x2 : Vec Ideal S1x1024 .f32) (r : Fin 8) (j : Fin 1024) :
    k0_pay1 x0 x1 x2 (ix2 r j) = (∑ k : Fin 2048, siluOf (x0 (ix2 r k)) * x1 (ix2 k j)) + x2 (ix2 0 j) := by
  unfold k0_pay1 siluOf
  pointwise
  simp only [zero_sub]

variable (m : (ℓ : Loc nD τ sig) → Buf (Elt Ideal) ℓ) (c : Dev nD) (t : Fin cfg0.N)

theorem V_c : V m c main_v0 = pad S8x2048 ![0, 0] ![4, 0] ![0, 0] (m ((c : Thread nD τ).loc main_arg0)) (sitofp (F := Ideal) .f32 (constantI S_ 32 0#32)) pads_S4x2048_S8x2048_040_000 h_S_ := by
  show StableHlo.after (List.flatten [hostOps0, hostOps0_1, hostOps0_2]) _ _ = _
  unfold hostOps0 hostOps0_1 hostOps0_2
  simp only [List.flatten_cons, List.flatten_nil, List.append_nil, List.cons_append, List.nil_append]
  simp only [StableHlo.TRef.binary, StableHlo.TRef.unary, StableHlo.TRef.toBuf, StableHlo.TRef.ofBuf, cast_eq]
  after_results

theorem V_b (n : Fin 12288) : V m c main_v1 (ix2 0 n) = m ((c : Thread nD τ).loc main_arg2) (ix1 n) := by
  have e : V m c main_v1 = shapeCast S1x12288 (m ((c : Thread nD τ).loc main_arg2)) shapeCasts_S12288_S1x12288 := by
    show StableHlo.after (List.flatten [hostOps0, hostOps0_1, hostOps0_2]) _ _ = _
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
    rfl
  rw [e]
  refine (shapeCast_addUnit_apply ![12288] (m ((c : Thread nD τ).loc main_arg2)) shapeCasts_S12288_S1x12288 (ix2 0 n)).trans ?_
  refine congrArg (m ((c : Thread nD τ).loc main_arg2)) (funext fun a => ?_)
  match a with
  | ⟨0, _⟩ => rfl

/-- Padding at an index: the array's own row, or zero. -/
theorem pad_at (X : FVec Ideal S4x2048 .f32) (r : Fin 8) (k : Fin 2048) :
    pad S8x2048 ![0, 0] ![4, 0] ![0, 0] X (sitofp (F := Ideal) .f32 (constantI S_ 32 0#32)) pads_S4x2048_S8x2048_040_000 h_S_ (ix2 r k)
      = if h : r.val < 4 then X (ix2 ⟨r.val, h⟩ k) else 0 := by
  have hz : FloatOps.sitofp (F := Ideal) FTy.f32 (0#32) = (0 : EReal) := by
    show (((0#32 : BitVec 32).toInt : ℝ) : EReal) = 0
    simp
  pointwise
  rw [hz]

/-- The padded rows: this memory's own at the first four, zero at the others. -/
theorem V_row (r : Fin 8) (k : Fin 2048) :
    V m c main_v0 (ix2 r k) = if h : r.val < 4 then (m ((c : Thread nD τ).loc main_arg0) (ix2 ⟨r.val, h⟩ k) : EReal) else (0 : EReal) := by
  rw [V_c]
  exact pad_at _ r k

theorem idx0 : ∀ t : Fin cfg0.N, win0_0.index t (0 : Fin 2) = 0 ∧ win0_0.index t (1 : Fin 2) = 0 := by decide +kernel
theorem idx1 : ∀ t : Fin cfg0.N, win0_1.index t (0 : Fin 2) = 0 ∧ win0_1.index t (1 : Fin 2) = t.val := by decide +kernel
theorem idx2 : ∀ t : Fin cfg0.N, win0_2.index t (0 : Fin 2) = 0 ∧ win0_2.index t (1 : Fin 2) = t.val := by decide +kernel
theorem idx3 : ∀ t : Fin cfg0.N, win0_3.index t (0 : Fin 2) = 0 ∧ win0_3.index t (1 : Fin 2) = t.val ∧ win0_3.flush t = true := by decide +kernel

theorem pt_lt (t : Fin cfg0.N) : t.val < 12 := t.isLt

def ptC (t : Fin cfg0.N) (j : Fin 1024) : Fin 12288 := ⟨1024 * t.val + j.val, by have := pt_lt t; omega⟩

theorem blk0 (r : Fin 8) (k : Fin 2048) : iblk m c 0 t (ix2 r k) = V m c main_v0 (ix2 r k) := by
  show (V m c main_v0) (((cfg0.win 0).blk t).view.emb (ix2 r k)) = _
  obtain ⟨e0, e1⟩ := idx0 t
  refine congrArg (V m c main_v0) (funext fun a => Fin.ext ?_)
  match a with
  | ⟨0, _⟩ => show win0_0.index t (0 : Fin 2) * 8 + 1 * r.val = r.val; omega
  | ⟨1, _⟩ => show win0_0.index t (1 : Fin 2) * 2048 + 1 * k.val = k.val; omega

theorem blk1 (k : Fin 2048) (j : Fin 1024) : iblk m c 1 t (ix2 k j) = m ((c : Thread nD τ).loc main_arg1) (ix2 k (ptC t j)) := by
  show (V m c main_arg1) (((cfg0.win 1).blk t).view.emb (ix2 k j)) = _
  rw [V_main_arg1]
  obtain ⟨e0, e1⟩ := idx1 t
  refine congrArg (m ((c : Thread nD τ).loc main_arg1)) (funext fun a => Fin.ext ?_)
  match a with
  | ⟨0, _⟩ => show win0_1.index t (0 : Fin 2) * 2048 + 1 * k.val = k.val; omega
  | ⟨1, _⟩ => show win0_1.index t (1 : Fin 2) * 1024 + 1 * j.val = 1024 * t.val + j.val; omega

theorem blk2 (j : Fin 1024) : iblk m c 2 t (ix2 0 j) = m ((c : Thread nD τ).loc main_arg2) (ix1 (ptC t j)) := by
  refine Eq.trans ?_ (V_b m c (ptC t j))
  show (V m c main_v1) (((cfg0.win 2).blk t).view.emb (ix2 0 j)) = _
  obtain ⟨e0, e1⟩ := idx2 t
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * j.val = 1024 * t.val + j.val; omega

/-- The result from this memory's arguments. -/
abbrev modMem : Buf (Elt Ideal) ((c : Thread nD τ).loc main_v2) :=
  modOf (m ((c : Thread nD τ).loc main_arg0)) (m ((c : Thread nD τ).loc main_arg1)) (m ((c : Thread nD τ).loc main_arg2))

theorem blkOut (r : Fin 8) (j : Fin 1024) : out0_3 (iblk m c 0 t) (iblk m c 1 t) (iblk m c 2 t) (ix2 r j) = modMem m c (ix2 r (ptC t j)) := by
  unfold out0_3
  rw [View.canon_unit_zero (by decide), View.ld_unit_zero (by decide), View.ld_unit_zero (by decide), View.ld_unit_zero (by decide)]
  refine (pay_at _ _ _ r j).trans ?_
  have hrow : ∀ k, iblk m c 0 t (ix2 r k) = if h : r.val < 4 then (m ((c : Thread nD τ).loc main_arg0) (ix2 ⟨r.val, h⟩ k) : EReal) else (0 : EReal) :=
    fun k => (blk0 m c t r k).trans (V_row m c r k)
  simp only [hrow, blk1, blk2]
  show _ = modAt _ _ _ r (ptC t j)
  unfold modAt
  by_cases h : r.val < 4
  · simp only [h, dite_true]
  · simp only [h, dite_false, siluOf, zero_mul, Finset.sum_const_zero, zero_add]

theorem flushed_eq (_ : (cfg0.win 3).flush t = true) :
    (dats m 0 c).flushed 3 t = ((cfg0.win 3).blk t).view.read (Elt Ideal) (modMem m c) := by
  rw [Value.flushed3]
  obtain ⟨e0, e1, -⟩ := idx3 t
  funext y
  have hy0 : (y 0).val < 8 := (y 0).isLt
  have hy1 : (y 1).val < 1024 := (y 1).isLt
  have hx : (cfg0.win 3).xinj (grid0.coords t) y = ix2 (⟨(y 0).val, hy0⟩ : Fin 8) ⟨(y 1).val, hy1⟩ := by
    funext a; apply Fin.ext
    match a with
    | ⟨0, _⟩ => rfl
    | ⟨1, _⟩ => rfl
  show out0_3 _ _ _ ((cfg0.win 3).xinj (grid0.coords t) y) = modMem m c (((cfg0.win 3).blk t).view.emb y)
  rw [hx]
  refine (blkOut m c t _ _).trans (congrArg (modMem m c) (funext fun a => Fin.ext ?_))
  match a with
  | ⟨0, _⟩ => show (y 0).val = win0_3.index t (0 : Fin 2) * 8 + 1 * (y 0).val; omega
  | ⟨1, _⟩ => show 1024 * t.val + (y 1).val = win0_3.index t (1 : Fin 2) * 1024 + 1 * (y 1).val; omega

theorem mem_blk (i : S8x12288.Idx) : i ∈ ((cfg0.win 3).blk t).view.set
    ↔ ∀ a : Fin 2, win0_3.index t a * S8x1024.size a ≤ (i a).val ∧ (i a).val < win0_3.index t a * S8x1024.size a + S8x1024.size a := by
  show i ∈ ((View.whole main_v2).slice (win0_3.rect t)).set ↔ _
  rw [View.set_slice_whole, Rect.mem_set_unit]
  exact Iff.rfl

theorem covered (i : S8x12288.Idx) : ∃ t : Fin cfg0.N, (cfg0.win 3).flush t = true ∧ i ∈ ((cfg0.win 3).blk t).view.set := by
  have h0 : (i 0).val < 8 := (i 0).isLt
  have h1 : (i 1).val < 12288 := (i 1).isLt
  have hp : (i 1).val / 1024 < cfg0.N := show _ < 12 by omega
  obtain ⟨e0, e1, hf⟩ := idx3 ⟨_, hp⟩
  refine ⟨⟨_, hp⟩, hf, ?_⟩
  rw [mem_blk]
  intro a
  match a with
  | ⟨0, _⟩ => show win0_3.index ⟨_, hp⟩ (0 : Fin 2) * 8 ≤ (i 0).val ∧ (i 0).val < win0_3.index ⟨_, hp⟩ (0 : Fin 2) * 8 + 8; omega
  | ⟨1, _⟩ => show win0_3.index ⟨_, hp⟩ (1 : Fin 2) * 1024 ≤ (i 1).val ∧ (i 1).val < win0_3.index ⟨_, hp⟩ (1 : Fin 2) * 1024 + 1024; dsimp only at e1; omega

/-- The array the call leaves is `modOf` of its arguments. -/
theorem ker_eq : (dats m 0 c).arrAt 3 cfg0.N = modMem m c :=
  (dats m 0 c).arrAt_eq_of_cover 3 _ (fun t hf => flushed_eq m c t hf) covered

end Kernel

/-- Kernel and reference compute the same array. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => modMem m c, ?_, ?_⟩
  · exact (θ_run _ _ _).mono (fun r h c => ⟨(h c).1.trans (ker_eq m c), (h c).2⟩) (Cert.Kernel7Ideal.Value.run_blocks m g)
  · refine (θ_run _ _ _).mono (fun r h c => ⟨(h c).1.trans ?_, (h c).2⟩) (Cert.Reference7Ideal.Value.run (F := Ideal) m' g')
    obtain ⟨e0, e1, e2⟩ := hagree c
    refine (ref_eq _ _ _).trans ?_
    unfold modMem
    rw [e0, e1, e2]
end Cert.Proof.Modulation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.RunIdeal
public import proofs.«01_k».proof.Proof.Blocks
public import proofs.«01_k».proof.Proof.RefRun
public import proofs.«01_k».proof.Proof.InProj
public import proofs.«01_k».proof.Proof.Merge
public import proofs.«01_k».proof.Proof.OutProj
public import proofs.«01_k».proof.Proof.FinalNorm
public import proofs.«01_k».proof.Proof.QueryFrame
public import proofs.«01_k».proof.Proof.QueryRun
public import proofs.«01_k».proof.Proof.QueryProj
public import proofs.«01_k».proof.Proof.Modulation
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference leaves its arguments as they were, and declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- The kernel's array is the reference's, entry by entry, where the arguments agree. -/
theorem results_agree (m : (ℓ : Loc Cert.KernelIdeal.nD Cert.KernelIdeal.τ Cert.KernelIdeal.sig) → Buf (Elt Ideal) ℓ) (c : Dev Cert.KernelIdeal.nD) :
    Cert.ReferenceIdeal.Step.R_main_v39 (Scan.refIter (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) 64)
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
    = Cert.KernelIdeal.Run.outArr m c := by
  funext i
  have h1 : (i 1).val < 4096 := (i 1).isLt
  have h2 : (i 2).val < 1024 := (i 2).isLt
  have e : i = ix3 (i 0) ⟨64 * ((i 1).val / 64) + (i 1).val % 64, by omega⟩ ⟨128 * ((i 2).val / 128) + (i 2).val % 128, by omega⟩ := by
    funext a
    match a with
    | ⟨0, _⟩ => rfl
    | ⟨1, _⟩ => exact Fin.ext (Nat.div_add_mod _ _).symm
    | ⟨2, _⟩ => exact Fin.ext (Nat.div_add_mod _ _).symm
  rw [e]
  exact (Scan.ref_at _ _ _ _ _ _ (i 0) ⟨(i 2).val / 128, by omega⟩ ⟨(i 1).val / 64, by omega⟩ ⟨(i 1).val % 64, by omega⟩ _ _ ⟨(i 2).val % 128, by omega⟩).trans
    (Scan.ker_at m c (i 0) ⟨(i 2).val / 128, by omega⟩ ⟨(i 1).val / 64, by omega⟩ ⟨(i 1).val % 64, by omega⟩ ⟨(i 2).val % 128, by omega⟩).symm

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Run.outArr m c, ?_, ?_⟩
  · exact (θ_run _ _ _).mono (fun r h c => ⟨h.1 c, h.2 c⟩) (Cert.KernelIdeal.Run.run m g)
  · refine (θ_run _ _ _).mono (fun r h c => ⟨(h c).1.trans ?_, (h c).2⟩) (Cert.ReferenceIdeal.Value.run (F := Ideal) m' g')
    obtain ⟨e0, e1, e2, e3, e4, e5, e6, e7⟩ := hagree c
    refine Eq.trans ?_ (results_agree m c)
    rw [Scan.ref_out]
    unfold Scan.coreIter
    rw [e0, e1, e2, e3, e4, e5, e6, e7]

/-- Likewise its arguments and semaphores, for the reference of the input projection. -/
theorem frame_ref2 : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

/-- Likewise its arguments and semaphores, for the reference of the merge. -/
theorem frame_ref3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

/-- Likewise its arguments and semaphores, for the reference of the output projection. -/
theorem frame_ref4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

/-- Likewise its arguments and semaphores, for the reference of the final norm. -/
theorem frame_ref5 : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run m ρ)

/-- Likewise its arguments and semaphores, for the reference of the queries' projection. -/
theorem frame_ref6 : Cert.quiescent_Reference6Ideal (hReference6Ideal := Cert.Reference6Ideal.Gen.facts) := fun m ρ _ =>
  (θ_run Cert.Reference6Ideal.defs _ _).mono (fun r h => ⟨fun c => (h c).2.2,
      Idealize.ShloMosaic.sem_eq_zero_of_no_sems (by decide) r.2⟩)
    (Cert.Reference6Ideal.Value.run m ρ)

/-- Likewise its arguments and semaphores, for the reference of the modulation. -/
theorem frame_ref7 : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m g _ => Cert.Kernel.Run.frame m g, fun m g _ => Cert.KernelIdeal.Run.frame m g, frame_ref,
  fun m g _ => Cert.Kernel2.Gen.frame m g, fun m g _ => Cert.Kernel2Ideal.Gen.frame m g, frame_ref2,
  fun m g _ => Cert.Kernel3.Gen.frame m g, fun m g _ => Cert.Kernel3Ideal.Gen.frame m g, frame_ref3,
  fun m g _ => Cert.Kernel4.Gen.frame m g, fun m g _ => Cert.Kernel4Ideal.Gen.frame m g, frame_ref4,
  fun m g _ => Cert.Kernel5.Gen.frame m g, fun m g _ => Cert.Kernel5Ideal.Gen.frame m g, frame_ref5,
  fun m g _ => Cert.Kernel6.Run.frame m g, fun m g _ => Cert.Kernel6Ideal.Run.frame m g, frame_ref6,
  fun m g _ => Cert.Kernel7.Gen.frame m g, fun m g _ => Cert.Kernel7Ideal.Gen.frame m g, frame_ref7,
  trivial, algebraic, trivial, InProj.algebraic, trivial, Merge.algebraic, trivial, Out.algebraic, trivial, Final.algebraic,
  trivial, Query.algebraic, trivial, Modulation.algebraic⟩

end Cert.Proof

end
